-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Attention (m : (ℓ : Loc Cert.Attention.nD Cert.Attention.τ Cert.Attention.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)) (v5 : (c : Dev Cert.KernelIdeal.nD) → Buf (Elt Ideal) ((c.tc : Thread Cert.KernelIdeal.nD Cert.KernelIdeal.τ).loc Cert.KernelIdeal.main_v47_5)) (v6 : (c : Dev Cert.KernelIdeal.nD) → Buf (Elt Ideal) ((c.tc : Thread Cert.KernelIdeal.nD Cert.KernelIdeal.τ).loc Cert.KernelIdeal.main_v47_6)) (v7 : (c : Dev Cert.KernelIdeal.nD) → Buf (Elt Ideal) ((c.tc : Thread Cert.KernelIdeal.nD Cert.KernelIdeal.τ).loc Cert.KernelIdeal.main_v47_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_v47_5) = v5 c
          ∧ r.2.mem ((c.tc : Thread Cert.KernelIdeal.nD Cert.KernelIdeal.τ).loc Cert.KernelIdeal.main_v47_6) = v6 c
          ∧ r.2.mem ((c.tc : Thread Cert.KernelIdeal.nD Cert.KernelIdeal.τ).loc Cert.KernelIdeal.main_v47_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v374) = v0 c
          ∧ r.2.mem ((c.tc : Thread Cert.ReferenceIdeal.nD Cert.ReferenceIdeal.τ).loc Cert.ReferenceIdeal.main_v376) = v1 c
          ∧ r.2.mem ((c.tc : Thread Cert.ReferenceIdeal.nD Cert.ReferenceIdeal.τ).loc Cert.ReferenceIdeal.main_v378) = v2 c
          ∧ r.2.mem ((c.tc : Thread Cert.ReferenceIdeal.nD Cert.ReferenceIdeal.τ).loc Cert.ReferenceIdeal.main_v385) = v3 c
          ∧ r.2.mem ((c.tc : Thread Cert.ReferenceIdeal.nD Cert.ReferenceIdeal.τ).loc Cert.ReferenceIdeal.main_v390) = v4 c
          ∧ r.2.mem ((c.tc : Thread Cert.ReferenceIdeal.nD Cert.ReferenceIdeal.τ).loc Cert.ReferenceIdeal.main_v393) = v5 c
          ∧ r.2.mem ((c.tc : Thread Cert.ReferenceIdeal.nD Cert.ReferenceIdeal.τ).loc Cert.ReferenceIdeal.main_v394) = v6 c
          ∧ r.2.mem ((c.tc : Thread Cert.ReferenceIdeal.nD Cert.ReferenceIdeal.τ).loc Cert.ReferenceIdeal.main_v397) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)
      ∧ m' ((c.tc : Thread Cert.OutReferenceIdeal.nD Cert.OutReferenceIdeal.τ).loc Cert.OutReferenceIdeal.main_arg4) = m ((c.tc : Thread Cert.OutProjIdeal.nD Cert.OutProjIdeal.τ).loc Cert.OutProjIdeal.main_arg4)
      ∧ m' ((c.tc : Thread Cert.OutReferenceIdeal.nD Cert.OutReferenceIdeal.τ).loc Cert.OutReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v30) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutReferenceIdeal : Cert.OutReferenceIdeal.Facts) (hAttention : Cert.Attention.Facts),
    quiescent_Kernel (hKernel := hKernel)
    ∧ quiescent_KernelIdeal (hKernelIdeal := hKernelIdeal)
    ∧ quiescent_ReferenceIdeal (hReferenceIdeal := hReferenceIdeal)
    ∧ quiescent_OutProj (hOutProj := hOutProj)
    ∧ quiescent_OutProjIdeal (hOutProjIdeal := hOutProjIdeal)
    ∧ quiescent_OutReferenceIdeal (hOutReferenceIdeal := hOutReferenceIdeal)
    ∧ quiescent_Attention (hAttention := hAttention)
    ∧ preserves_Kernel_KernelIdeal
    ∧ algebraic_KernelIdeal_ReferenceIdeal (hKernelIdeal := hKernelIdeal) (hReferenceIdeal := hReferenceIdeal)
    ∧ preserves_OutProj_OutProjIdeal
    ∧ algebraic_OutProjIdeal_OutReferenceIdeal (hOutProjIdeal := hOutProjIdeal) (hOutReferenceIdeal := hOutReferenceIdeal)
-- ==== Kernel.lean ====
abbrev S8x4352x1024 : Shape := ⟨3, ![8, 4352, 1024]⟩
abbrev S1024x4168 : Shape := ⟨2, ![1024, 4168]⟩
abbrev S31x512 : Shape := ⟨2, ![31, 512]⟩
abbrev S512 : Shape := ⟨1, ![512]⟩
abbrev S32 : Shape := ⟨1, ![32]⟩
abbrev S_ : Shape := ⟨0, ![]⟩
abbrev S4352 : Shape := ⟨1, ![4352]⟩
abbrev S4352x1 : Shape := ⟨2, ![4352, 1]⟩
abbrev S1x32 : Shape := ⟨2, ![1, 32]⟩
abbrev S4352x32 : Shape := ⟨2, ![4352, 32]⟩
abbrev S1x4352x1x32 : Shape := ⟨4, ![1, 4352, 1, 32]⟩
abbrev S1x4352x4x32 : Shape := ⟨4, ![1, 4352, 4, 32]⟩
abbrev S4352x128 : Shape := ⟨2, ![4352, 128]⟩
abbrev S4352x64 : Shape := ⟨2, ![4352, 64]⟩
abbrev S1x4352x1x64 : Shape := ⟨4, ![1, 4352, 1, 64]⟩
abbrev S1x4352x2x64 : Shape := ⟨4, ![1, 4352, 2, 64]⟩
abbrev S32x4352 : Shape := ⟨2, ![32, 4352]⟩
abbrev S1024x512 : Shape := ⟨2, ![1024, 512]⟩
abbrev S1024x64 : Shape := ⟨2, ![1024, 64]⟩
abbrev S1024x2688 : Shape := ⟨2, ![1024, 2688]⟩
abbrev S1024x8 : Shape := ⟨2, ![1024, 8]⟩
abbrev S1024x1552 : Shape := ⟨2, ![1024, 1552]⟩
abbrev S1552x1024 : Shape := ⟨2, ![1552, 1024]⟩
abbrev S1x512 : Shape := ⟨2, ![1, 512]⟩
abbrev S8x4352x512 : Shape := ⟨3, ![8, 4352, 512]⟩
abbrev S8x4352x128 : Shape := ⟨3, ![8, 4352, 128]⟩
abbrev S8x512x4352 : Shape := ⟨3, ![8, 512, 4352]⟩
abbrev S8x17x8x80x256 : Shape := ⟨5, ![8, 17, 8, 80, 256]⟩
abbrev S8x8x4352 : Shape := ⟨3, ![8, 8, 4352]⟩
abbrev S1x256x1024 : Shape := ⟨3, ![1, 256, 1024]⟩
abbrev S256x128 : Shape := ⟨2, ![256, 128]⟩
abbrev S32x256 : Shape := ⟨2, ![32, 256]⟩
abbrev S1x256x512 : Shape := ⟨3, ![1, 256, 512]⟩
abbrev S1x256x128 : Shape := ⟨3, ![1, 256, 128]⟩
abbrev S1x512x256 : Shape := ⟨3, ![1, 512, 256]⟩
abbrev S1x1x8x80x256 : Shape := ⟨5, ![1, 1, 8, 80, 256]⟩
abbrev S1x8x256 : Shape := ⟨3, ![1, 8, 256]⟩
abbrev S288x512 : Shape := ⟨2, ![288, 512]⟩
abbrev S256x1024 : Shape := ⟨2, ![256, 1024]⟩
abbrev S256x512 : Shape := ⟨2, ![256, 512]⟩
abbrev S32x512 : Shape := ⟨2, ![32, 512]⟩
abbrev S280x512 : Shape := ⟨2, ![280, 512]⟩
abbrev S256 : Shape := ⟨1, ![256]⟩
abbrev S256x1 : Shape := ⟨2, ![256, 1]⟩
abbrev S1024x128 : Shape := ⟨2, ![1024, 128]⟩
abbrev S512x1024 : Shape := ⟨2, ![512, 1024]⟩
abbrev S512x256 : Shape := ⟨2, ![512, 256]⟩
abbrev S1x32x256 : Shape := ⟨3, ![1, 32, 256]⟩
abbrev S64x256 : Shape := ⟨2, ![64, 256]⟩
abbrev S1x1x1x64x256 : Shape := ⟨5, ![1, 1, 1, 64, 256]⟩
abbrev S16x256 : Shape := ⟨2, ![16, 256]⟩
abbrev S1x1x1x16x256 : Shape := ⟨5, ![1, 1, 1, 16, 256]⟩
abbrev S16x1024 : Shape := ⟨2, ![16, 1024]⟩
abbrev S8x256 : Shape := ⟨2, ![8, 256]⟩

abbrev nBuf : Space → Nat
  | .hbm => 66
  | .vmem => 34
  | .smem => 0
  | _ => 0

abbrev bufTy : (tb : Table) → Fin (tcTables nBuf tb) → BufTy
  | .hbm, ⟨0, _⟩ => ⟨S8x4352x1024, .f32⟩
  | .hbm, ⟨1, _⟩ => ⟨S1024x4168, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4352, .f32⟩
  | .hbm, ⟨21, _⟩ => ⟨S4352x1, .f32⟩
  | .hbm, ⟨22, _⟩ => ⟨S1x32, .f32⟩
  | .hbm, ⟨23, _⟩ => ⟨S4352x32, .f32⟩
  | .hbm, ⟨24, _⟩ => ⟨S4352x32, .f32⟩
  | .hbm, ⟨25, _⟩ => ⟨S4352x32, .f32⟩
  | .hbm, ⟨26, _⟩ => ⟨S4352x32, .f32⟩
  | .hbm, ⟨27, _⟩ => ⟨S4352x32, .f32⟩
  | .hbm, ⟨28, _⟩ => ⟨S1x4352x1x32, .f32⟩
  | .hbm, ⟨29, _⟩ => ⟨S1x4352x4x32, .f32⟩
  | .hbm, ⟨30, _⟩ => ⟨S4352x128, .f32⟩
  | .hbm, ⟨31, _⟩ => ⟨S4352x32, .f32⟩
  | .hbm, ⟨32, _⟩ => ⟨S4352x64, .f32⟩
  | .hbm, ⟨33, _⟩ => ⟨S1x4352x1x64, .f32⟩
  | .hbm, ⟨34, _⟩ => ⟨S1x4352x2x64, .f32⟩
  | .hbm, ⟨35, _⟩ => ⟨S4352x128, .f32⟩
  | .hbm, ⟨36, _⟩ => ⟨S32x4352, .f32⟩
  | .hbm, ⟨37, _⟩ => ⟨S32x4352, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x64, .f32⟩
  | .hbm, ⟨44, _⟩ => ⟨S1024x2688, .f32⟩
  | .hbm, ⟨45, _⟩ => ⟨S1024x2688, .bf16⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S1024x8, .f32⟩
  | .hbm, ⟨50, _⟩ => ⟨S_, .f32⟩
  | .hbm, ⟨51, _⟩ => ⟨S1024x8, .f32⟩
  | .hbm, ⟨52, _⟩ => ⟨S1024x1552, .f32⟩
  | .hbm, ⟨53, _⟩ => ⟨S1552x1024, .f32⟩
  | .hbm, ⟨54, _⟩ => ⟨S1552x1024, .bf16⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S8x4352x512, .bf16⟩
  | .hbm, ⟨59, _⟩ => ⟨S8x4352x512, .bf16⟩
  | .hbm, ⟨60, _⟩ => ⟨S8x4352x128, .bf16⟩
  | .hbm, ⟨61, _⟩ => ⟨S8x4352x512, .f32⟩
  | .hbm, ⟨62, _⟩ => ⟨S8x512x4352, .bf16⟩
  | .hbm, ⟨63, _⟩ => ⟨S8x512x4352, .bf16⟩
  | .hbm, ⟨64, _⟩ => ⟨S8x17x8x80x256, .bf16⟩
  | .hbm, ⟨65, _⟩ => ⟨S8x8x4352, .f32⟩
  | .local _ .vmem, ⟨0, _⟩ => ⟨S1x256x1024, .f32⟩
  | .local _ .vmem, ⟨1, _⟩ => ⟨S1x256x1024, .f32⟩
  | .local _ .vmem, ⟨2, _⟩ => ⟨S1024x2688, .bf16⟩
  | .local _ .vmem, ⟨3, _⟩ => ⟨S1552x1024, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x128, .bf16⟩
  | .local _ .vmem, ⟨21, _⟩ => ⟨S1x256x128, .bf16⟩
  | .local _ .vmem, ⟨22, _⟩ => ⟨S1x256x512, .f32⟩
  | .local _ .vmem, ⟨23, _⟩ => ⟨S1x256x512, .f32⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x1x8x80x256, .bf16⟩
  | .local _ .vmem, ⟨29, _⟩ => ⟨S1x1x8x80x256, .bf16⟩
  | .local _ .vmem, ⟨30, _⟩ => ⟨S1x8x256, .f32⟩
  | .local _ .vmem, ⟨31, _⟩ => ⟨S1x8x256, .f32⟩
  | .local _ .vmem, ⟨32, _⟩ => ⟨S288x512, .f32⟩
  | .local _ .vmem, ⟨33, _⟩ => ⟨S288x512, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev main_v47_5 : Ref sig .tc := ⟨.hbm, 63, rfl⟩
abbrev main_v47_6 : Ref sig .tc := ⟨.hbm, 64, rfl⟩
abbrev main_v47_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1552x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x8x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceIdeal.lean ====
abbrev S8x4352x1024 : Shape := ⟨3, ![8, 4352, 1024]⟩
abbrev S1024x4168 : Shape := ⟨2, ![1024, 4168]⟩
abbrev S31x512 : Shape := ⟨2, ![31, 512]⟩
abbrev S512 : Shape := ⟨1, ![512]⟩
abbrev S32 : Shape := ⟨1, ![32]⟩
abbrev S_ : Shape := ⟨0, ![]⟩
abbrev S4352 : Shape := ⟨1, ![4352]⟩
abbrev S4352x1 : Shape := ⟨2, ![4352, 1]⟩
abbrev S1x32 : Shape := ⟨2, ![1, 32]⟩
abbrev S4352x32 : Shape := ⟨2, ![4352, 32]⟩
abbrev S4352x1x32 : Shape := ⟨3, ![4352, 1, 32]⟩
abbrev S8x4352x4168 : Shape := ⟨3, ![8, 4352, 4168]⟩
abbrev S8x4352x512 : Shape := ⟨3, ![8, 4352, 512]⟩
abbrev S8x4352x64 : Shape := ⟨3, ![8, 4352, 64]⟩
abbrev S8x4352x8 : Shape := ⟨3, ![8, 4352, 8]⟩
abbrev S8x4382x512 : Shape := ⟨3, ![8, 4382, 512]⟩
abbrev S1x512 : Shape := ⟨2, ![1, 512]⟩
abbrev S1x1x512 : Shape := ⟨3, ![1, 1, 512]⟩
abbrev S8x4352 : Shape := ⟨2, ![8, 4352]⟩
abbrev S8x4352x1 : Shape := ⟨3, ![8, 4352, 1]⟩
abbrev S8x4352x8x64 : Shape := ⟨4, ![8, 4352, 8, 64]⟩
abbrev S8x4352x8x32 : Shape := ⟨4, ![8, 4352, 8, 32]⟩
abbrev S1x4352x1x32 : Shape := ⟨4, ![1, 4352, 1, 32]⟩
abbrev S8x4352x32 : Shape := ⟨3, ![8, 4352, 32]⟩
abbrev S1x4352x32 : Shape := ⟨3, ![1, 4352, 32]⟩
abbrev S8x17x256x8x64 : Shape := ⟨5, ![8, 17, 256, 8, 64]⟩
abbrev S8x17x8x64x256 : Shape := ⟨5, ![8, 17, 8, 64, 256]⟩
abbrev S8x17x8x16x256 : Shape := ⟨5, ![8, 17, 8, 16, 256]⟩
abbrev S8x17x8x80x256 : Shape := ⟨5, ![8, 17, 8, 80, 256]⟩
abbrev S8x4352x128 : Shape := ⟨3, ![8, 4352, 128]⟩
abbrev S8x512x4352 : Shape := ⟨3, ![8, 512, 4352]⟩
abbrev S8x8x4352 : Shape := ⟨3, ![8, 8, 4352]⟩

abbrev nBuf : Space → Nat
  | .hbm => 427
  | .vmem => 0
  | .smem => 0
  | _ => 0

abbrev hbmTy0_0 (i : Nat) : BufTy := match i % 128 with
  | 0 => ⟨S8x4352x1024, .f32⟩
  | 1 => ⟨S1024x4168, .f32⟩
  | 2 => ⟨S31x512, .f32⟩
  | 3 => ⟨S512, .f32⟩
  | 4 => ⟨S512, .f32⟩
  | 5 => ⟨S512, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S4352, .f32⟩
  | 21 => ⟨S4352x1, .f32⟩
  | 22 => ⟨S1x32, .f32⟩
  | 23 => ⟨S4352x32, .f32⟩
  | 24 => ⟨S4352x32, .f32⟩
  | 25 => ⟨S4352x32, .f32⟩
  | 26 => ⟨S4352x32, .f32⟩
  | 27 => ⟨S4352x32, .f32⟩
  | 28 => ⟨S4352x1x32, .f32⟩
  | 29 => ⟨S4352x1x32, .f32⟩
  | 30 => ⟨S8x4352x4168, .f32⟩
  | 31 => ⟨S8x4352x512, .f32⟩
  | 32 => ⟨S8x4352x512, .f32⟩
  | 33 => ⟨S8x4352x512, .f32⟩
  | 34 => ⟨S8x4352x512, .f32⟩
  | 35 => ⟨S8x4352x512, .f32⟩
  | 36 => ⟨S8x4352x512, .f32⟩
  | 37 => ⟨S8x4352x512, .f32⟩
  | 38 => ⟨S8x4352x512, .f32⟩
  | 39 => ⟨S8x4352x64, .f32⟩
  | 40 => ⟨S8x4352x8, .f32⟩
  | 41 => ⟨S8x4352x512, .f32⟩
  | 42 => ⟨S8x4352x512, .f32⟩
  | 43 => ⟨S_, .f32⟩
  | 44 => ⟨S8x4352x512, .f32⟩
  | 45 => ⟨S8x4352x512, .f32⟩
  | 46 => ⟨S_, .f32⟩
  | 47 => ⟨S8x4352x512, .f32⟩
  | 48 => ⟨S8x4352x512, .f32⟩
  | 49 => ⟨S8x4352x512, .f32⟩
  | 50 => ⟨S_, .i32⟩
  | 51 => ⟨S_, .f32⟩
  | 52 => ⟨S8x4382x512, .f32⟩
  | 53 => ⟨S_, .f32⟩
  | 54 => ⟨S8x4352x512, .f32⟩
  | 55 => ⟨S8x4352x512, .f32⟩
  | 56 => ⟨S1x512, .f32⟩
  | 57 => ⟨S512, .f32⟩
  | 58 => ⟨S1x1x512, .f32⟩
  | 59 => ⟨S8x4352x512, .f32⟩
  | 60 => ⟨S8x4352x512, .f32⟩
  | 61 => ⟨S8x4352x512, .f32⟩
  | 62 => ⟨S8x4352x512, .f32⟩
  | 63 => ⟨S1x512, .f32⟩
  | 64 => ⟨S512, .f32⟩
  | 65 => ⟨S1x1x512, .f32⟩
  | 66 => ⟨S8x4352x512, .f32⟩
  | 67 => ⟨S8x4352x512, .f32⟩
  | 68 => ⟨S8x4352x512, .f32⟩
  | 69 => ⟨S8x4352x512, .f32⟩
  | 70 => ⟨S1x512, .f32⟩
  | 71 => ⟨S512, .f32⟩
  | 72 => ⟨S1x1x512, .f32⟩
  | 73 => ⟨S8x4352x512, .f32⟩
  | 74 => ⟨S8x4352x512, .f32⟩
  | 75 => ⟨S8x4352x512, .f32⟩
  | 76 => ⟨S8x4352x512, .f32⟩
  | 77 => ⟨S1x512, .f32⟩
  | 78 => ⟨S512, .f32⟩
  | 79 => ⟨S1x1x512, .f32⟩
  | 80 => ⟨S8x4352x512, .f32⟩
  | 81 => ⟨S8x4352x512, .f32⟩
  | 82 => ⟨S8x4352x512, .f32⟩
  | 83 => ⟨S8x4352x512, .f32⟩
  | 84 => ⟨S1x512, .f32⟩
  | 85 => ⟨S512, .f32⟩
  | 86 => ⟨S1x1x512, .f32⟩
  | 87 => ⟨S8x4352x512, .f32⟩
  | 88 => ⟨S8x4352x512, .f32⟩
  | 89 => ⟨S8x4352x512, .f32⟩
  | 90 => ⟨S8x4352x512, .f32⟩
  | 91 => ⟨S1x512, .f32⟩
  | 92 => ⟨S512, .f32⟩
  | 93 => ⟨S1x1x512, .f32⟩
  | 94 => ⟨S8x4352x512, .f32⟩
  | 95 => ⟨S8x4352x512, .f32⟩
  | 96 => ⟨S8x4352x512, .f32⟩
  | 97 => ⟨S8x4352x512, .f32⟩
  | 98 => ⟨S1x512, .f32⟩
  | 99 => ⟨S512, .f32⟩
  | 100 => ⟨S1x1x512, .f32⟩
  | 101 => ⟨S8x4352x512, .f32⟩
  | 102 => ⟨S8x4352x512, .f32⟩
  | 103 => ⟨S8x4352x512, .f32⟩
  | 104 => ⟨S8x4352x512, .f32⟩
  | 105 => ⟨S1x512, .f32⟩
  | 106 => ⟨S512, .f32⟩
  | 107 => ⟨S1x1x512, .f32⟩
  | 108 => ⟨S8x4352x512, .f32⟩
  | 109 => ⟨S8x4352x512, .f32⟩
  | 110 => ⟨S8x4352x512, .f32⟩
  | 111 => ⟨S8x4352x512, .f32⟩
  | 112 => ⟨S1x512, .f32⟩
  | 113 => ⟨S512, .f32⟩
  | 114 => ⟨S1x1x512, .f32⟩
  | 115 => ⟨S8x4352x512, .f32⟩
  | 116 => ⟨S8x4352x512, .f32⟩
  | 117 => ⟨S8x4352x512, .f32⟩
  | 118 => ⟨S8x4352x512, .f32⟩
  | 119 => ⟨S1x512, .f32⟩
  | 120 => ⟨S512, .f32⟩
  | 121 => ⟨S1x1x512, .f32⟩
  | 122 => ⟨S8x4352x512, .f32⟩
  | 123 => ⟨S8x4352x512, .f32⟩
  | 124 => ⟨S8x4352x512, .f32⟩
  | 125 => ⟨S8x4352x512, .f32⟩
  | 126 => ⟨S1x512, .f32⟩
  | 127 => ⟨S512, .f32⟩
  | _ => ⟨S8x4352x1024, .f32⟩

abbrev hbmTy0_1 (i : Nat) : BufTy := match i % 128 with
  | 0 => ⟨S1x1x512, .f32⟩
  | 1 => ⟨S8x4352x512, .f32⟩
  | 2 => ⟨S8x4352x512, .f32⟩
  | 3 => ⟨S8x4352x512, .f32⟩
  | 4 => ⟨S8x4352x512, .f32⟩
  | 5 => ⟨S1x512, .f32⟩
  | 6 => ⟨S512, .f32⟩
  | 7 => ⟨S1x1x512, .f32⟩
  | 8 => ⟨S8x4352x512, .f32⟩
  | 9 => ⟨S8x4352x512, .f32⟩
  | 10 => ⟨S8x4352x512, .f32⟩
  | 11 => ⟨S8x4352x512, .f32⟩
  | 12 => ⟨S1x512, .f32⟩
  | 13 => ⟨S512, .f32⟩
  | 14 => ⟨S1x1x512, .f32⟩
  | 15 => ⟨S8x4352x512, .f32⟩
  | 16 => ⟨S8x4352x512, .f32⟩
  | 17 => ⟨S8x4352x512, .f32⟩
  | 18 => ⟨S8x4352x512, .f32⟩
  | 19 => ⟨S1x512, .f32⟩
  | 20 => ⟨S512, .f32⟩
  | 21 => ⟨S1x1x512, .f32⟩
  | 22 => ⟨S8x4352x512, .f32⟩
  | 23 => ⟨S8x4352x512, .f32⟩
  | 24 => ⟨S8x4352x512, .f32⟩
  | 25 => ⟨S8x4352x512, .f32⟩
  | 26 => ⟨S1x512, .f32⟩
  | 27 => ⟨S512, .f32⟩
  | 28 => ⟨S1x1x512, .f32⟩
  | 29 => ⟨S8x4352x512, .f32⟩
  | 30 => ⟨S8x4352x512, .f32⟩
  | 31 => ⟨S8x4352x512, .f32⟩
  | 32 => ⟨S8x4352x512, .f32⟩
  | 33 => ⟨S1x512, .f32⟩
  | 34 => ⟨S512, .f32⟩
  | 35 => ⟨S1x1x512, .f32⟩
  | 36 => ⟨S8x4352x512, .f32⟩
  | 37 => ⟨S8x4352x512, .f32⟩
  | 38 => ⟨S8x4352x512, .f32⟩
  | 39 => ⟨S8x4352x512, .f32⟩
  | 40 => ⟨S1x512, .f32⟩
  | 41 => ⟨S512, .f32⟩
  | 42 => ⟨S1x1x512, .f32⟩
  | 43 => ⟨S8x4352x512, .f32⟩
  | 44 => ⟨S8x4352x512, .f32⟩
  | 45 => ⟨S8x4352x512, .f32⟩
  | 46 => ⟨S8x4352x512, .f32⟩
  | 47 => ⟨S1x512, .f32⟩
  | 48 => ⟨S512, .f32⟩
  | 49 => ⟨S1x1x512, .f32⟩
  | 50 => ⟨S8x4352x512, .f32⟩
  | 51 => ⟨S8x4352x512, .f32⟩
  | 52 => ⟨S8x4352x512, .f32⟩
  | 53 => ⟨S8x4352x512, .f32⟩
  | 54 => ⟨S1x512, .f32⟩
  | 55 => ⟨S512, .f32⟩
  | 56 => ⟨S1x1x512, .f32⟩
  | 57 => ⟨S8x4352x512, .f32⟩
  | 58 => ⟨S8x4352x512, .f32⟩
  | 59 => ⟨S8x4352x512, .f32⟩
  | 60 => ⟨S8x4352x512, .f32⟩
  | 61 => ⟨S1x512, .f32⟩
  | 62 => ⟨S512, .f32⟩
  | 63 => ⟨S1x1x512, .f32⟩
  | 64 => ⟨S8x4352x512, .f32⟩
  | 65 => ⟨S8x4352x512, .f32⟩
  | 66 => ⟨S8x4352x512, .f32⟩
  | 67 => ⟨S8x4352x512, .f32⟩
  | 68 => ⟨S1x512, .f32⟩
  | 69 => ⟨S512, .f32⟩
  | 70 => ⟨S1x1x512, .f32⟩
  | 71 => ⟨S8x4352x512, .f32⟩
  | 72 => ⟨S8x4352x512, .f32⟩
  | 73 => ⟨S8x4352x512, .f32⟩
  | 74 => ⟨S8x4352x512, .f32⟩
  | 75 => ⟨S1x512, .f32⟩
  | 76 => ⟨S512, .f32⟩
  | 77 => ⟨S1x1x512, .f32⟩
  | 78 => ⟨S8x4352x512, .f32⟩
  | 79 => ⟨S8x4352x512, .f32⟩
  | 80 => ⟨S8x4352x512, .f32⟩
  | 81 => ⟨S8x4352x512, .f32⟩
  | 82 => ⟨S1x512, .f32⟩
  | 83 => ⟨S512, .f32⟩
  | 84 => ⟨S1x1x512, .f32⟩
  | 85 => ⟨S8x4352x512, .f32⟩
  | 86 => ⟨S8x4352x512, .f32⟩
  | 87 => ⟨S8x4352x512, .f32⟩
  | 88 => ⟨S8x4352x512, .f32⟩
  | 89 => ⟨S1x512, .f32⟩
  | 90 => ⟨S512, .f32⟩
  | 91 => ⟨S1x1x512, .f32⟩
  | 92 => ⟨S8x4352x512, .f32⟩
  | 93 => ⟨S8x4352x512, .f32⟩
  | 94 => ⟨S8x4352x512, .f32⟩
  | 95 => ⟨S8x4352x512, .f32⟩
  | 96 => ⟨S1x512, .f32⟩
  | 97 => ⟨S512, .f32⟩
  | 98 => ⟨S1x1x512, .f32⟩
  | 99 => ⟨S8x4352x512, .f32⟩
  | 100 => ⟨S8x4352x512, .f32⟩
  | 101 => ⟨S8x4352x512, .f32⟩
  | 102 => ⟨S8x4352x512, .f32⟩
  | 103 => ⟨S1x512, .f32⟩
  | 104 => ⟨S512, .f32⟩
  | 105 => ⟨S1x1x512, .f32⟩
  | 106 => ⟨S8x4352x512, .f32⟩
  | 107 => ⟨S8x4352x512, .f32⟩
  | 108 => ⟨S8x4352x512, .f32⟩
  | 109 => ⟨S8x4352x512, .f32⟩
  | 110 => ⟨S1x512, .f32⟩
  | 111 => ⟨S512, .f32⟩
  | 112 => ⟨S1x1x512, .f32⟩
  | 113 => ⟨S8x4352x512, .f32⟩
  | 114 => ⟨S8x4352x512, .f32⟩
  | 115 => ⟨S8x4352x512, .f32⟩
  | 116 => ⟨S8x4352x512, .f32⟩
  | 117 => ⟨S1x512, .f32⟩
  | 118 => ⟨S512, .f32⟩
  | 119 => ⟨S1x1x512, .f32⟩
  | 120 => ⟨S8x4352x512, .f32⟩
  | 121 => ⟨S8x4352x512, .f32⟩
  | 122 => ⟨S8x4352x512, .f32⟩
  | 123 => ⟨S8x4352x512, .f32⟩
  | 124 => ⟨S1x512, .f32⟩
  | 125 => ⟨S512, .f32⟩
  | 126 => ⟨S1x1x512, .f32⟩
  | 127 => ⟨S8x4352x512, .f32⟩
  | _ => ⟨S8x4352x1024, .f32⟩

abbrev hbmTy0_2 (i : Nat) : BufTy := match i % 128 with
  | 0 => ⟨S8x4352x512, .f32⟩
  | 1 => ⟨S8x4352x512, .f32⟩
  | 2 => ⟨S8x4352x512, .f32⟩
  | 3 => ⟨S1x512, .f32⟩
  | 4 => ⟨S512, .f32⟩
  | 5 => ⟨S1x1x512, .f32⟩
  | 6 => ⟨S8x4352x512, .f32⟩
  | 7 => ⟨S8x4352x512, .f32⟩
  | 8 => ⟨S8x4352x512, .f32⟩
  | 9 => ⟨S8x4352x512, .f32⟩
  | 10 => ⟨S1x512, .f32⟩
  | 11 => ⟨S512, .f32⟩
  | 12 => ⟨S1x1x512, .f32⟩
  | 13 => ⟨S8x4352x512, .f32⟩
  | 14 => ⟨S8x4352x512, .f32⟩
  | 15 => ⟨S8x4352x512, .f32⟩
  | 16 => ⟨S1x1x512, .f32⟩
  | 17 => ⟨S8x4352x512, .f32⟩
  | 18 => ⟨S8x4352x512, .f32⟩
  | 19 => ⟨S_, .f32⟩
  | 20 => ⟨S8x4352, .f32⟩
  | 21 => ⟨S8x4352x1, .f32⟩
  | 22 => ⟨S_, .f32⟩
  | 23 => ⟨S8x4352x1, .f32⟩
  | 24 => ⟨S8x4352x1, .f32⟩
  | 25 => ⟨S8x4352x512, .f32⟩
  | 26 => ⟨S8x4352x512, .f32⟩
  | 27 => ⟨S8x4352x512, .f32⟩
  | 28 => ⟨S_, .f32⟩
  | 29 => ⟨S8x4352, .f32⟩
  | 30 => ⟨S8x4352x1, .f32⟩
  | 31 => ⟨S_, .f32⟩
  | 32 => ⟨S8x4352x1, .f32⟩
  | 33 => ⟨S8x4352x1, .f32⟩
  | 34 => ⟨S8x4352x512, .f32⟩
  | 35 => ⟨S8x4352x512, .f32⟩
  | 36 => ⟨S_, .f32⟩
  | 37 => ⟨S8x4352x1, .f32⟩
  | 38 => ⟨S8x4352x1, .f32⟩
  | 39 => ⟨S8x4352x1, .f32⟩
  | 40 => ⟨S8x4352x512, .f32⟩
  | 41 => ⟨S8x4352x512, .f32⟩
  | 42 => ⟨S1x1x512, .f32⟩
  | 43 => ⟨S8x4352x512, .f32⟩
  | 44 => ⟨S8x4352x512, .f32⟩
  | 45 => ⟨S1x1x512, .f32⟩
  | 46 => ⟨S8x4352x512, .f32⟩
  | 47 => ⟨S8x4352x512, .f32⟩
  | 48 => ⟨S8x4352x512, .f32⟩
  | 49 => ⟨S8x4352x512, .f32⟩
  | 50 => ⟨S_, .f32⟩
  | 51 => ⟨S8x4352x512, .f32⟩
  | 52 => ⟨S8x4352x512, .f32⟩
  | 53 => ⟨S_, .f32⟩
  | 54 => ⟨S8x4352x512, .f32⟩
  | 55 => ⟨S8x4352x512, .f32⟩
  | 56 => ⟨S8x4352x512, .f32⟩
  | 57 => ⟨S8x4352x512, .f32⟩
  | 58 => ⟨S8x4352x512, .f32⟩
  | 59 => ⟨S_, .f32⟩
  | 60 => ⟨S8x4352x512, .f32⟩
  | 61 => ⟨S8x4352x512, .f32⟩
  | 62 => ⟨S_, .f32⟩
  | 63 => ⟨S8x4352x512, .f32⟩
  | 64 => ⟨S8x4352x512, .f32⟩
  | 65 => ⟨S8x4352x512, .f32⟩
  | 66 => ⟨S8x4352x512, .f32⟩
  | 67 => ⟨S8x4352x8x64, .f32⟩
  | 68 => ⟨S8x4352x8x32, .f32⟩
  | 69 => ⟨S8x4352x8x32, .f32⟩
  | 70 => ⟨S1x4352x1x32, .f32⟩
  | 71 => ⟨S8x4352x8x32, .f32⟩
  | 72 => ⟨S8x4352x8x32, .f32⟩
  | 73 => ⟨S1x4352x1x32, .f32⟩
  | 74 => ⟨S8x4352x8x32, .f32⟩
  | 75 => ⟨S8x4352x8x32, .f32⟩
  | 76 => ⟨S8x4352x8x32, .f32⟩
  | 77 => ⟨S1x4352x1x32, .f32⟩
  | 78 => ⟨S8x4352x8x32, .f32⟩
  | 79 => ⟨S8x4352x8x32, .f32⟩
  | 80 => ⟨S1x4352x1x32, .f32⟩
  | 81 => ⟨S8x4352x8x32, .f32⟩
  | 82 => ⟨S8x4352x8x32, .f32⟩
  | 83 => ⟨S8x4352x8x32, .f32⟩
  | 84 => ⟨S8x4352x8x64, .f32⟩
  | 85 => ⟨S8x4352x8x64, .f32⟩
  | 86 => ⟨S8x4352x8x32, .f32⟩
  | 87 => ⟨S8x4352x8x32, .f32⟩
  | 88 => ⟨S1x4352x1x32, .f32⟩
  | 89 => ⟨S8x4352x8x32, .f32⟩
  | 90 => ⟨S8x4352x8x32, .f32⟩
  | 91 => ⟨S1x4352x1x32, .f32⟩
  | 92 => ⟨S8x4352x8x32, .f32⟩
  | 93 => ⟨S8x4352x8x32, .f32⟩
  | 94 => ⟨S8x4352x8x32, .f32⟩
  | 95 => ⟨S1x4352x1x32, .f32⟩
  | 96 => ⟨S8x4352x8x32, .f32⟩
  | 97 => ⟨S8x4352x8x32, .f32⟩
  | 98 => ⟨S1x4352x1x32, .f32⟩
  | 99 => ⟨S8x4352x8x32, .f32⟩
  | 100 => ⟨S8x4352x8x32, .f32⟩
  | 101 => ⟨S8x4352x8x32, .f32⟩
  | 102 => ⟨S8x4352x8x64, .f32⟩
  | 103 => ⟨S8x4352x8x64, .f32⟩
  | 104 => ⟨S8x4352x8x32, .f32⟩
  | 105 => ⟨S8x4352x8x32, .f32⟩
  | 106 => ⟨S1x4352x1x32, .f32⟩
  | 107 => ⟨S8x4352x8x32, .f32⟩
  | 108 => ⟨S8x4352x8x32, .f32⟩
  | 109 => ⟨S1x4352x1x32, .f32⟩
  | 110 => ⟨S8x4352x8x32, .f32⟩
  | 111 => ⟨S8x4352x8x32, .f32⟩
  | 112 => ⟨S8x4352x8x32, .f32⟩
  | 113 => ⟨S1x4352x1x32, .f32⟩
  | 114 => ⟨S8x4352x8x32, .f32⟩
  | 115 => ⟨S8x4352x8x32, .f32⟩
  | 116 => ⟨S1x4352x1x32, .f32⟩
  | 117 => ⟨S8x4352x8x32, .f32⟩
  | 118 => ⟨S8x4352x8x32, .f32⟩
  | 119 => ⟨S8x4352x8x32, .f32⟩
  | 120 => ⟨S8x4352x8x64, .f32⟩
  | 121 => ⟨S8x4352x32, .f32⟩
  | 122 => ⟨S8x4352x32, .f32⟩
  | 123 => ⟨S1x4352x32, .f32⟩
  | 124 => ⟨S8x4352x32, .f32⟩
  | 125 => ⟨S8x4352x32, .f32⟩
  | 126 => ⟨S1x4352x32, .f32⟩
  | 127 => ⟨S8x4352x32, .f32⟩
  | _ => ⟨S8x4352x1024, .f32⟩

abbrev hbmTy0_3 (i : Nat) : BufTy := match i % 128 with
  | 0 => ⟨S8x4352x32, .f32⟩
  | 1 => ⟨S8x4352x32, .f32⟩
  | 2 => ⟨S1x4352x32, .f32⟩
  | 3 => ⟨S8x4352x32, .f32⟩
  | 4 => ⟨S8x4352x32, .f32⟩
  | 5 => ⟨S1x4352x32, .f32⟩
  | 6 => ⟨S8x4352x32, .f32⟩
  | 7 => ⟨S8x4352x32, .f32⟩
  | 8 => ⟨S8x4352x32, .f32⟩
  | 9 => ⟨S8x4352x64, .f32⟩
  | 10 => ⟨S8x17x256x8x64, .f32⟩
  | 11 => ⟨S8x17x8x64x256, .f32⟩
  | 12 => ⟨S_, .f32⟩
  | 13 => ⟨S8x17x8x16x256, .f32⟩
  | 14 => ⟨S8x17x8x80x256, .f32⟩
  | 15 => ⟨S8x4352x512, .bf16⟩
  | 16 => ⟨S8x4352x512, .f32⟩
  | 17 => ⟨S8x4352x512, .bf16⟩
  | 18 => ⟨S8x4352x128, .f32⟩
  | 19 => ⟨S8x4352x128, .bf16⟩
  | 20 => ⟨S8x4352x512, .f32⟩
  | 21 => ⟨S8x4352x512, .f32⟩
  | 22 => ⟨S_, .f32⟩
  | 23 => ⟨S8x4352x512, .f32⟩
  | 24 => ⟨S8x4352x512, .f32⟩
  | 25 => ⟨S_, .f32⟩
  | 26 => ⟨S8x4352x512, .f32⟩
  | 27 => ⟨S8x4352x512, .f32⟩
  | 28 => ⟨S8x4352x512, .f32⟩
  | 29 => ⟨S_, .f32⟩
  | 30 => ⟨S8x4352x8x64, .f32⟩
  | 31 => ⟨S8x4352x8x64, .f32⟩
  | 32 => ⟨S8x4352x512, .f32⟩
  | 33 => ⟨S8x512x4352, .f32⟩
  | 34 => ⟨S8x512x4352, .bf16⟩
  | 35 => ⟨S8x4352x512, .f32⟩
  | 36 => ⟨S8x512x4352, .f32⟩
  | 37 => ⟨S8x512x4352, .bf16⟩
  | 38 => ⟨S8x17x8x80x256, .bf16⟩
  | 39 => ⟨S_, .f32⟩
  | 40 => ⟨S8x4352x8, .f32⟩
  | 41 => ⟨S8x4352x8, .f32⟩
  | 42 => ⟨S8x8x4352, .f32⟩
  | _ => ⟨S8x4352x1024, .f32⟩

abbrev hbmTy (i : Nat) : BufTy := match i / 128 with
  | 0 => hbmTy0_0 i
  | 1 => hbmTy0_1 i
  | 2 => hbmTy0_2 i
  | 3 => hbmTy0_3 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_call0_v0 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_cst_6 : Ref sig .tc := ⟨.hbm, 275, rfl⟩
abbrev main_v260 : Ref sig .tc := ⟨.hbm, 276, rfl⟩
abbrev main_v261 : Ref sig .tc := ⟨.hbm, 277, rfl⟩
abbrev main_cst_7 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_cst_8 : Ref sig .tc := ⟨.hbm, 284, rfl⟩
abbrev main_v267 : Ref sig .tc := ⟨.hbm, 285, rfl⟩
abbrev main_v268 : Ref sig .tc := ⟨.hbm, 286, rfl⟩
abbrev main_cst_9 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_cst_10 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_cst_11 : Ref sig .tc := ⟨.hbm, 306, rfl⟩
abbrev main_v286 : Ref sig .tc := ⟨.hbm, 307, rfl⟩
abbrev main_v287 : Ref sig .tc := ⟨.hbm, 308, rfl⟩
abbrev main_cst_12 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_cst_13 : Ref sig .tc := ⟨.hbm, 315, rfl⟩
abbrev main_v293 : Ref sig .tc := ⟨.hbm, 316, rfl⟩
abbrev main_v294 : Ref sig .tc := ⟨.hbm, 317, rfl⟩
abbrev main_cst_14 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_cst_15 : Ref sig .tc := ⟨.hbm, 396, rfl⟩
abbrev main_v372 : Ref sig .tc := ⟨.hbm, 397, rfl⟩
abbrev main_v373 : Ref sig .tc := ⟨.hbm, 398, rfl⟩
abbrev main_v374 : Ref sig .tc := ⟨.hbm, 399, rfl⟩
abbrev main_v375 : Ref sig .tc := ⟨.hbm, 400, rfl⟩
abbrev main_v376 : Ref sig .tc := ⟨.hbm, 401, rfl⟩
abbrev main_v377 : Ref sig .tc := ⟨.hbm, 402, rfl⟩
abbrev main_v378 : Ref sig .tc := ⟨.hbm, 403, rfl⟩
abbrev main_v379 : Ref sig .tc := ⟨.hbm, 404, rfl⟩
abbrev main_v380 : Ref sig .tc := ⟨.hbm, 405, rfl⟩
abbrev main_cst_16 : Ref sig .tc := ⟨.hbm, 406, rfl⟩
abbrev main_v381 : Ref sig .tc := ⟨.hbm, 407, rfl⟩
abbrev main_v382 : Ref sig .tc := ⟨.hbm, 408, rfl⟩
abbrev main_cst_17 : Ref sig .tc := ⟨.hbm, 409, rfl⟩
abbrev main_v383 : Ref sig .tc := ⟨.hbm, 410, rfl⟩
abbrev main_v384 : Ref sig .tc := ⟨.hbm, 411, rfl⟩
abbrev main_v385 : Ref sig .tc := ⟨.hbm, 412, rfl⟩
abbrev main_cst_18 : Ref sig .tc := ⟨.hbm, 413, rfl⟩
abbrev main_v386 : Ref sig .tc := ⟨.hbm, 414, rfl⟩
abbrev main_v387 : Ref sig .tc := ⟨.hbm, 415, rfl⟩
abbrev main_v388 : Ref sig .tc := ⟨.hbm, 416, rfl⟩
abbrev main_v389 : Ref sig .tc := ⟨.hbm, 417, rfl⟩
abbrev main_v390 : Ref sig .tc := ⟨.hbm, 418, rfl⟩
abbrev main_v391 : Ref sig .tc := ⟨.hbm, 419, rfl⟩
abbrev main_v392 : Ref sig .tc := ⟨.hbm, 420, rfl⟩
abbrev main_v393 : Ref sig .tc := ⟨.hbm, 421, rfl⟩
abbrev main_v394 : Ref sig .tc := ⟨.hbm, 422, rfl⟩
abbrev main_cst_19 : Ref sig .tc := ⟨.hbm, 423, rfl⟩
abbrev main_v395 : Ref sig .tc := ⟨.hbm, 424, rfl⟩
abbrev main_v396 : Ref sig .tc := ⟨.hbm, 425, rfl⟩
abbrev main_v397 : Ref sig .tc := ⟨.hbm, 426, rfl⟩

abbrev nD : Nat := 1
abbrev τ : Topo := Topo.v7x

variable {F : FTy → Type} [FloatOps F]
-- ==== OutProj.lean ====
abbrev S8x4352x512 : Shape := ⟨3, ![8, 4352, 512]⟩
abbrev S8x4352x1024 : Shape := ⟨3, ![8, 4352, 1024]⟩
abbrev S1024x1024 : Shape := ⟨2, ![1024, 1024]⟩
abbrev S1024 : Shape := ⟨1, ![1024]⟩
abbrev S34816x512 : Shape := ⟨2, ![34816, 512]⟩
abbrev S34816x1024 : Shape := ⟨2, ![34816, 1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S34816x512, .bf16⟩
  | .hbm, ⟨7, _⟩ => ⟨S34816x512, .bf16⟩
  | .hbm, ⟨8, _⟩ => ⟨S34816x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S34816x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S8x4352x512 : Shape := ⟨3, ![8, 4352, 512]⟩
abbrev S8x4352x1024 : Shape := ⟨3, ![8, 4352, 1024]⟩
abbrev S1024x1024 : Shape := ⟨2, ![1024, 1024]⟩
abbrev S1024 : Shape := ⟨1, ![1024]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S34816x1024 : Shape := ⟨2, ![34816, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x4352x1024, .bf16⟩
  | .hbm, ⟨7, _⟩ => ⟨S8x4352x1024, .f32⟩
  | .hbm, ⟨8, _⟩ => ⟨S8x4352x1024, .f32⟩
  | .hbm, ⟨9, _⟩ => ⟨S_, .f32⟩
  | .hbm, ⟨10, _⟩ => ⟨S8x4352x1024, .f32⟩
  | .hbm, ⟨11, _⟩ => ⟨S8x4352x1024, .f32⟩
  | .hbm, ⟨12, _⟩ => ⟨S8x4352x1024, .f32⟩
  | .hbm, ⟨13, _⟩ => ⟨S_, .f32⟩
  | .hbm, ⟨14, _⟩ => ⟨S8x4352, .f32⟩
  | .hbm, ⟨15, _⟩ => ⟨S8x4352x1, .f32⟩
  | .hbm, ⟨16, _⟩ => ⟨S_, .f32⟩
  | .hbm, ⟨17, _⟩ => ⟨S8x4352x1, .f32⟩
  | .hbm, ⟨18, _⟩ => ⟨S8x4352x1, .f32⟩
  | .hbm, ⟨19, _⟩ => ⟨S8x4352x1024, .f32⟩
  | .hbm, ⟨20, _⟩ => ⟨S8x4352x1024, .f32⟩
  | .hbm, ⟨21, _⟩ => ⟨S8x4352x1024, .f32⟩
  | .hbm, ⟨22, _⟩ => ⟨S_, .f32⟩
  | .hbm, ⟨23, _⟩ => ⟨S8x4352, .f32⟩
  | .hbm, ⟨24, _⟩ => ⟨S8x4352x1, .f32⟩
  | .hbm, ⟨25, _⟩ => ⟨S_, .f32⟩
  | .hbm, ⟨26, _⟩ => ⟨S8x4352x1, .f32⟩
  | .hbm, ⟨27, _⟩ => ⟨S8x4352x1, .f32⟩
  | .hbm, ⟨28, _⟩ => ⟨S8x4352x1024, .f32⟩
  | .hbm, ⟨29, _⟩ => ⟨S8x4352x1024, .f32⟩
  | .hbm, ⟨30, _⟩ => ⟨S_, .f32⟩
  | .hbm, ⟨31, _⟩ => ⟨S8x4352x1, .f32⟩
  | .hbm, ⟨32, _⟩ => ⟨S8x4352x1, .f32⟩
  | .hbm, ⟨33, _⟩ => ⟨S8x4352x1, .f32⟩
  | .hbm, ⟨34, _⟩ => ⟨S8x4352x1024, .f32⟩
  | .hbm, ⟨35, _⟩ => ⟨S8x4352x1024, .f32⟩
  | .hbm, ⟨36, _⟩ => ⟨S1x1x1024, .f32⟩
  | .hbm, ⟨37, _⟩ => ⟨S8x4352x1024, .f32⟩
  | .hbm, ⟨38, _⟩ => ⟨S8x4352x1024, .f32⟩
  | .hbm, ⟨39, _⟩ => ⟨S1x1x1024, .f32⟩
  | .hbm, ⟨40, _⟩ => ⟨S8x4352x1024, .f32⟩
  | .hbm, ⟨41, _⟩ => ⟨S8x4352x1024, .f32⟩
  | .hbm, ⟨42, _⟩ => ⟨S34816x1024, .f32⟩
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Attention.lean ====
abbrev S8x512x4352 : Shape := ⟨3, ![8, 512, 4352]⟩
abbrev S8x8x4352 : Shape := ⟨3, ![8, 8, 4352]⟩
abbrev S8x4352x512 : Shape := ⟨3, ![8, 4352, 512]⟩
abbrev S8x4352x128 : Shape := ⟨3, ![8, 4352, 128]⟩
abbrev S8x17x8x80x256 : Shape := ⟨5, ![8, 17, 8, 80, 256]⟩
abbrev S1x512x256 : Shape := ⟨3, ![1, 512, 256]⟩
abbrev S1x8x256 : Shape := ⟨3, ![1, 8, 256]⟩
abbrev S1x4352x512 : Shape := ⟨3, ![1, 4352, 512]⟩
abbrev S1x4352x128 : Shape := ⟨3, ![1, 4352, 128]⟩
abbrev S1x17x8x80x256 : Shape := ⟨5, ![1, 17, 8, 80, 256]⟩
abbrev S1x256x512 : Shape := ⟨3, ![1, 256, 512]⟩
abbrev S17x256x256 : Shape := ⟨3, ![17, 256, 256]⟩
abbrev S8x128x256 : Shape := ⟨3, ![8, 128, 256]⟩
abbrev S256x256 : Shape := ⟨2, ![256, 256]⟩
abbrev S8x8x256 : Shape := ⟨3, ![8, 8, 256]⟩
abbrev S512x256 : Shape := ⟨2, ![512, 256]⟩
abbrev S8x256 : Shape := ⟨2, ![8, 256]⟩
abbrev S8x256x256 : Shape := ⟨3, ![8, 256, 256]⟩
abbrev S128x256 : Shape := ⟨2, ![128, 256]⟩
abbrev S1x128x256 : Shape := ⟨3, ![1, 128, 256]⟩
abbrev S1x256x128 : Shape := ⟨3, ![1, 256, 128]⟩
abbrev S256x128 : Shape := ⟨2, ![256, 128]⟩
abbrev S1x256x256 : Shape := ⟨3, ![1, 256, 256]⟩
abbrev S1x1x256 : Shape := ⟨3, ![1, 1, 256]⟩
abbrev S1x256 : Shape := ⟨2, ![1, 256]⟩
abbrev S256 : Shape := ⟨1, ![256]⟩
abbrev S1 : Shape := ⟨1, ![1]⟩
abbrev S1x1x1 : Shape := ⟨3, ![1, 1, 1]⟩
abbrev S32x256 : Shape := ⟨2, ![32, 256]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S1x1x1x80x256 : Shape := ⟨5, ![1, 1, 1, 80, 256]⟩
abbrev S80x256 : Shape := ⟨2, ![80, 256]⟩
abbrev S64x256 : Shape := ⟨2, ![64, 256]⟩
abbrev S256x512 : Shape := ⟨2, ![256, 512]⟩

abbrev nBuf : Space → Nat
  | .hbm => 8
  | .vmem => 26
  | .smem => 0
  | _ => 0

abbrev bufTy : (tb : Table) → Fin (tcTables nBuf tb) → BufTy
  | .hbm, ⟨0, _⟩ => ⟨S8x512x4352, .bf16⟩
  | .hbm, ⟨1, _⟩ => ⟨S8x512x4352, .bf16⟩
  | .hbm, ⟨2, _⟩ => ⟨S8x8x4352, .f32⟩
  | .hbm, ⟨3, _⟩ => ⟨S8x4352x512, .bf16⟩
  | .hbm, ⟨4, _⟩ => ⟨S8x4352x128, .bf16⟩
  | .hbm, ⟨5, _⟩ => ⟨S8x17x8x80x256, .bf16⟩
  | .hbm, ⟨6, _⟩ => ⟨S8x4352x512, .f32⟩
  | .hbm, ⟨7, _⟩ => ⟨S8x4352x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x8x256, .f32⟩
  | .local _ .vmem, ⟨5, _⟩ => ⟨S1x8x256, .f32⟩
  | .local _ .vmem, ⟨6, _⟩ => ⟨S1x4352x512, .bf16⟩
  | .local _ .vmem, ⟨7, _⟩ => ⟨S1x4352x512, .bf16⟩
  | .local _ .vmem, ⟨8, _⟩ => ⟨S1x4352x128, .bf16⟩
  | .local _ .vmem, ⟨9, _⟩ => ⟨S1x4352x128, .bf16⟩
  | .local _ .vmem, ⟨10, _⟩ => ⟨S1x17x8x80x256, .bf16⟩
  | .local _ .vmem, ⟨11, _⟩ => ⟨S1x17x8x80x256, .bf16⟩
  | .local _ .vmem, ⟨12, _⟩ => ⟨S1x256x512, .f32⟩
  | .local _ .vmem, ⟨13, _⟩ => ⟨S1x256x512, .f32⟩
  | .local _ .vmem, ⟨14, _⟩ => ⟨S1x256x512, .bf16⟩
  | .local _ .vmem, ⟨15, _⟩ => ⟨S1x256x512, .bf16⟩
  | .local _ .vmem, ⟨16, _⟩ => ⟨S17x256x256, .f32⟩
  | .local _ .vmem, ⟨17, _⟩ => ⟨S8x128x256, .bf16⟩
  | .local _ .vmem, ⟨18, _⟩ => ⟨S8x128x256, .bf16⟩
  | .local _ .vmem, ⟨19, _⟩ => ⟨S256x256, .f32⟩
  | .local _ .vmem, ⟨20, _⟩ => ⟨S8x8x256, .f32⟩
  | .local _ .vmem, ⟨21, _⟩ => ⟨S8x8x256, .f32⟩
  | .local _ .vmem, ⟨22, _⟩ => ⟨S512x256, .f32⟩
  | .local _ .vmem, ⟨23, _⟩ => ⟨S8x256, .f32⟩
  | .local _ .vmem, ⟨24, _⟩ => ⟨S8x256x256, .f32⟩
  | .local _ .vmem, ⟨25, _⟩ => ⟨S8x256x256, .f32⟩
  | _, _ => ⟨S8x512x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![8, 17], ![false, false]⟩

def k0_mult1 : BitVec 32 :=
  let c0_i32_127 : BitVec 32 := 0#32
  c0_i32_127
def k0_mult2 : BitVec 32 :=
  let c0_i32_137 : BitVec 32 := 0#32
  c0_i32_137
def k0_mult3 : BitVec 32 :=
  let c0_i32_147 : BitVec 32 := 0#32
  c0_i32_147
def k0_mult4 : BitVec 32 :=
  let c0_i32_157 : BitVec 32 := 0#32
  c0_i32_157
def k0_mult5 : BitVec 32 :=
  let c0_i32_167 : BitVec 32 := 0#32
  c0_i32_167
def k0_mult6 : BitVec 32 :=
  let c0_i32_177 : BitVec 32 := 0#32
  c0_i32_177
def k0_mult7 : BitVec 32 :=
  let c0_i32_187 : BitVec 32 := 0#32
  c0_i32_187
def k0_mult8 : BitVec 32 :=
  let c0_i32_197 : BitVec 32 := 0#32
  c0_i32_197
@[reducible] def k0_t1_loop (i : grid0.Coords) : Scf.Loop 32 :=
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_211 : BitVec 32 := 1#32
  ⟨c0_i32_209, v303, c1_i32_211⟩
def k0_mult9 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_421 : BitVec 32 := 256#32
  let v580 : BitVec 32 := Scalar.muli v578 c256_i32_421
  v580
def k0_off1 (i : grid0.Coords) (k0_t1 : Fin (k0_t1_loop i).trips) : Fin 3 → Nat :=
  let c0_422 : Index := 0#32
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_421 : BitVec 32 := 256#32
  let v580 : BitVec 32 := Scalar.muli v578 c256_i32_421
  let v581 : BitVec 32 := v580
  let v582 : Index := Scalar.indexCast v581
  let c0_423 : Index := 0#32
  ![0, v582.toNat, 0]
def k0_mult10 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_438 : BitVec 32 := 256#32
  let v600 : BitVec 32 := Scalar.muli v578 c256_i32_438
  v600
def k0_mult11 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_455 : BitVec 32 := 256#32
  let v620 : BitVec 32 := Scalar.muli v578 c256_i32_455
  v620
def k0_mult12 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_472 : BitVec 32 := 256#32
  let v640 : BitVec 32 := Scalar.muli v578 c256_i32_472
  v640
def k0_mult13 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_489 : BitVec 32 := 256#32
  let v660 : BitVec 32 := Scalar.muli v578 c256_i32_489
  v660
def k0_mult14 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_506 : BitVec 32 := 256#32
  let v680 : BitVec 32 := Scalar.muli v578 c256_i32_506
  v680
def k0_mult15 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_523 : BitVec 32 := 256#32
  let v700 : BitVec 32 := Scalar.muli v578 c256_i32_523
  v700
def k0_mult16 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_419 : BitVec 32 := 1#32
  let v578 : BitVec 32 := Scalar.addi v577 c1_i32_419
  let c256_i32_540 : BitVec 32 := 256#32
  let v720 : BitVec 32 := Scalar.muli v578 c256_i32_540
  v720
def k0_off2 (i : grid0.Coords) (k0_t1 : Fin (k0_t1_loop i).trips) : Fin 3 → Nat :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let v747 : Index := Scalar.indexCast v577
  let c0_559 : Index := 0#32
  let c0_560 : Index := 0#32
  ![v747.toNat, 0, 0]
def k0_mult17 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_566 : BitVec 32 := 256#32
  let v887 : BitVec 32 := Scalar.muli v885 c256_i32_566
  v887
def k0_off3 (i : grid0.Coords) (k0_t1 : Fin (k0_t1_loop i).trips) : Fin 3 → Nat :=
  let c0_567 : Index := 0#32
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_566 : BitVec 32 := 256#32
  let v887 : BitVec 32 := Scalar.muli v885 c256_i32_566
  let v888 : BitVec 32 := v887
  let v889 : Index := Scalar.indexCast v888
  let c0_568 : Index := 0#32
  ![0, v889.toNat, 0]
def k0_mult18 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_583 : BitVec 32 := 256#32
  let v907 : BitVec 32 := Scalar.muli v885 c256_i32_583
  v907
def k0_mult19 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_600 : BitVec 32 := 256#32
  let v927 : BitVec 32 := Scalar.muli v885 c256_i32_600
  v927
def k0_mult20 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_617 : BitVec 32 := 256#32
  let v947 : BitVec 32 := Scalar.muli v885 c256_i32_617
  v947
def k0_mult21 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_634 : BitVec 32 := 256#32
  let v967 : BitVec 32 := Scalar.muli v885 c256_i32_634
  v967
def k0_mult22 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_651 : BitVec 32 := 256#32
  let v987 : BitVec 32 := Scalar.muli v885 c256_i32_651
  v987
def k0_mult23 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_668 : BitVec 32 := 256#32
  let v1007 : BitVec 32 := Scalar.muli v885 c256_i32_668
  v1007
def k0_mult24 (i : grid0.Coords) (k0_t1 : Fin (k0_t1_loop i).trips) : BitVec 32 :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c2_i32_564 : BitVec 32 := 2#32
  let v884 : BitVec 32 := Scalar.addi v577 c2_i32_564
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v885 : BitVec 32 := Scalar.minsi v884 v188
  let c256_i32_685 : BitVec 32 := 256#32
  let v1027 : BitVec 32 := Scalar.muli v885 c256_i32_685
  v1027
def k0_off4 (i : grid0.Coords) (k0_t1 : Fin (k0_t1_loop i).trips) : Fin 3 → Nat :=
  let c2_i32_418 : BitVec 32 := 2#32
  let c0_i32_209 : BitVec 32 := 0#32
  let c1_i32_211 : BitVec 32 := 1#32
  let arg20 : BitVec 32 := Scf.iv c0_i32_209 c1_i32_211 k0_t1
  let v577 : BitVec 32 := Scalar.muli c2_i32_418 arg20
  let c1_i32_563 : BitVec 32 := 1#32
  let v883 : BitVec 32 := Scalar.addi v577 c1_i32_563
  let v1054 : Index := Scalar.indexCast v883
  let c0_704 : Index := 0#32
  let c0_705 : Index := 0#32
  ![v1054.toNat, 0, 0]
@[reducible] def k0_t2_loop (i : grid0.Coords) : Scf.Loop 32 :=
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let v300 : BitVec 32 := Scalar.addi c0_i32_209 v299
  let c1_i32_212 : BitVec 32 := 1#32
  ⟨v303, v300, c1_i32_212⟩
def k0_mult25 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_421 : BitVec 32 := 256#32
  let v580 : BitVec 32 := Scalar.muli v578 c256_i32_421
  v580
def k0_off5 (i : grid0.Coords) (k0_t2 : Fin (k0_t2_loop i).trips) : Fin 3 → Nat :=
  let c0_422 : Index := 0#32
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_421 : BitVec 32 := 256#32
  let v580 : BitVec 32 := Scalar.muli v578 c256_i32_421
  let v581 : BitVec 32 := v580
  let v582 : Index := Scalar.indexCast v581
  let c0_423 : Index := 0#32
  ![0, v582.toNat, 0]
def k0_mult26 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_438 : BitVec 32 := 256#32
  let v600 : BitVec 32 := Scalar.muli v578 c256_i32_438
  v600
def k0_mult27 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_455 : BitVec 32 := 256#32
  let v620 : BitVec 32 := Scalar.muli v578 c256_i32_455
  v620
def k0_mult28 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_472 : BitVec 32 := 256#32
  let v640 : BitVec 32 := Scalar.muli v578 c256_i32_472
  v640
def k0_mult29 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_489 : BitVec 32 := 256#32
  let v660 : BitVec 32 := Scalar.muli v578 c256_i32_489
  v660
def k0_mult30 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_506 : BitVec 32 := 256#32
  let v680 : BitVec 32 := Scalar.muli v578 c256_i32_506
  v680
def k0_mult31 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_523 : BitVec 32 := 256#32
  let v700 : BitVec 32 := Scalar.muli v578 c256_i32_523
  v700
def k0_mult32 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_419 : BitVec 32 := 1#32
  let v578 : BitVec 32 := Scalar.addi v577 c1_i32_419
  let c256_i32_540 : BitVec 32 := 256#32
  let v720 : BitVec 32 := Scalar.muli v578 c256_i32_540
  v720
def k0_off6 (i : grid0.Coords) (k0_t2 : Fin (k0_t2_loop i).trips) : Fin 3 → Nat :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let v747 : Index := Scalar.indexCast v577
  let c0_559 : Index := 0#32
  let c0_560 : Index := 0#32
  ![v747.toNat, 0, 0]
def k0_mult33 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_566 : BitVec 32 := 256#32
  let v887 : BitVec 32 := Scalar.muli v885 c256_i32_566
  v887
def k0_off7 (i : grid0.Coords) (k0_t2 : Fin (k0_t2_loop i).trips) : Fin 3 → Nat :=
  let c0_567 : Index := 0#32
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_566 : BitVec 32 := 256#32
  let v887 : BitVec 32 := Scalar.muli v885 c256_i32_566
  let v888 : BitVec 32 := v887
  let v889 : Index := Scalar.indexCast v888
  let c0_568 : Index := 0#32
  ![0, v889.toNat, 0]
def k0_mult34 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_583 : BitVec 32 := 256#32
  let v907 : BitVec 32 := Scalar.muli v885 c256_i32_583
  v907
def k0_mult35 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_600 : BitVec 32 := 256#32
  let v927 : BitVec 32 := Scalar.muli v885 c256_i32_600
  v927
def k0_mult36 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_617 : BitVec 32 := 256#32
  let v947 : BitVec 32 := Scalar.muli v885 c256_i32_617
  v947
def k0_mult37 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_634 : BitVec 32 := 256#32
  let v967 : BitVec 32 := Scalar.muli v885 c256_i32_634
  v967
def k0_mult38 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_651 : BitVec 32 := 256#32
  let v987 : BitVec 32 := Scalar.muli v885 c256_i32_651
  v987
def k0_mult39 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_668 : BitVec 32 := 256#32
  let v1007 : BitVec 32 := Scalar.muli v885 c256_i32_668
  v1007
def k0_mult40 (i : grid0.Coords) (k0_t2 : Fin (k0_t2_loop i).trips) : BitVec 32 :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c2_i32_564 : BitVec 32 := 2#32
  let v884 : BitVec 32 := Scalar.addi v577 c2_i32_564
  let c1_i32_113 : BitVec 32 := 1#32
  let v188 : BitVec 32 := Scalar.subi v0 c1_i32_113
  let v885 : BitVec 32 := Scalar.minsi v884 v188
  let c256_i32_685 : BitVec 32 := 256#32
  let v1027 : BitVec 32 := Scalar.muli v885 c256_i32_685
  v1027
def k0_off8 (i : grid0.Coords) (k0_t2 : Fin (k0_t2_loop i).trips) : Fin 3 → Nat :=
  let c2_i32_418 : BitVec 32 := 2#32
  let c0_i32_209 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v299 : BitVec 32 := Scalar.subi v205 c0_i32_209
  let c1_i32_210 : BitVec 32 := 1#32
  let v301 : BitVec 32 := Scalar.divsi v299 c1_i32_210
  let v302 : BitVec 32 := Scalar.muli v301 c1_i32_210
  let v303 : BitVec 32 := Scalar.addi c0_i32_209 v302
  let c1_i32_212 : BitVec 32 := 1#32
  let arg20 : BitVec 32 := Scf.iv v303 c1_i32_212 k0_t2
  let v577 : BitVec 32 := Scalar.muli c2_i32_418 arg20
  let c1_i32_563 : BitVec 32 := 1#32
  let v883 : BitVec 32 := Scalar.addi v577 c1_i32_563
  let v1054 : Index := Scalar.indexCast v883
  let c0_704 : Index := 0#32
  let c0_705 : Index := 0#32
  ![v1054.toNat, 0, 0]
def k0_cond1 (i : grid0.Coords) : BitVec 1 :=
  let arg1 : BitVec 32 := BitVec.ofNat 32 (i 1).val
  let c1_i32 : BitVec 32 := 1#32
  let v0 : BitVec 32 := Scalar.addi arg1 c1_i32
  let c2_i32_120 : BitVec 32 := 2#32
  let c0_i32_121 : BitVec 32 := 0#32
  let v206 : BitVec 1 := Scalar.cmpi .eq c2_i32_120 c0_i32_121
  let c1_i32_122 : BitVec 32 := 1#32
  let v207 : BitVec 32 := Scalar.select v206 c1_i32_122 c2_i32_120
  let v208 : BitVec 32 := Scalar.remsi v0 v207
  let c0_i32_124 : BitVec 32 := 0#32
  let v210 : BitVec 1 := Scalar.cmpi .slt v208 c0_i32_124
  let c0_i32_125 : BitVec 32 := 0#32
  let v211 : BitVec 1 := Scalar.cmpi .slt v207 c0_i32_125
  let v212 : BitVec 1 := Scalar.xori v210 v211
  let c0_i32_123 : BitVec 32 := 0#32
  let v209 : BitVec 1 := Scalar.cmpi .ne v208 c0_i32_123
  let v213 : BitVec 1 := Scalar.andi v212 v209
  let v214 : BitVec 32 := Scalar.addi v208 v207
  let v215 : BitVec 32 := Scalar.select v213 v214 v208
  let c1_i32_126 : BitVec 32 := 1#32
  let v216 : BitVec 1 := Scalar.cmpi .eq v215 c1_i32_126
  let v306 : BitVec 32 := Scalar.extui v216
  let c0_i32_213 : BitVec 32 := 0#32
  let v307 : BitVec 1 := Scalar.cmpi .ne v306 c0_i32_213
  v307

def k0_off9 (i : grid0.Coords) : Fin 3 → Nat :=
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v657 : Index := Scalar.indexCast v188
  let c0_477 : Index := 0#32
  let c0_478 : Index := 0#32
  ![v657.toNat, 0, 0]
@[reducible] def k0_t3_loop (i : grid0.Coords) : Scf.Loop 32 :=
  let c0_i32_444 : BitVec 32 := 0#32
  let arg1 : BitVec 32 := BitVec.ofNat 32 (i 1).val
  let c1_i32 : BitVec 32 := 1#32
  let v0 : BitVec 32 := Scalar.addi arg1 c1_i32
  let v637 : BitVec 32 := Scalar.subi v0 c0_i32_444
  let c1_i32_445 : BitVec 32 := 1#32
  let v639 : BitVec 32 := Scalar.divsi v637 c1_i32_445
  let v640 : BitVec 32 := Scalar.muli v639 c1_i32_445
  let v641 : BitVec 32 := Scalar.addi c0_i32_444 v640
  let c1_i32_446 : BitVec 32 := 1#32
  ⟨c0_i32_444, v641, c1_i32_446⟩
def k0_off10 (i : grid0.Coords) (k0_t3 : Fin (k0_t3_loop i).trips) : Fin 3 → Nat :=
  let c0_i32_444 : BitVec 32 := 0#32
  let c1_i32_446 : BitVec 32 := 1#32
  let arg25 : BitVec 32 := Scf.iv c0_i32_444 c1_i32_446 k0_t3
  let v672 : Index := Scalar.indexCast arg25
  let c0_459 : Index := 0#32
  let c0_460 : Index := 0#32
  ![v672.toNat, 0, 0]
@[reducible] def k0_t4_loop (i : grid0.Coords) : Scf.Loop 32 :=
  let c0_i32_444 : BitVec 32 := 0#32
  let arg1 : BitVec 32 := BitVec.ofNat 32 (i 1).val
  let c1_i32 : BitVec 32 := 1#32
  let v0 : BitVec 32 := Scalar.addi arg1 c1_i32
  let v637 : BitVec 32 := Scalar.subi v0 c0_i32_444
  let c1_i32_445 : BitVec 32 := 1#32
  let v639 : BitVec 32 := Scalar.divsi v637 c1_i32_445
  let v640 : BitVec 32 := Scalar.muli v639 c1_i32_445
  let v641 : BitVec 32 := Scalar.addi c0_i32_444 v640
  let v638 : BitVec 32 := Scalar.addi c0_i32_444 v637
  let c1_i32_447 : BitVec 32 := 1#32
  ⟨v641, v638, c1_i32_447⟩
def k0_off11 (i : grid0.Coords) (k0_t4 : Fin (k0_t4_loop i).trips) : Fin 3 → Nat :=
  let c0_i32_444 : BitVec 32 := 0#32
  let arg1 : BitVec 32 := BitVec.ofNat 32 (i 1).val
  let c1_i32 : BitVec 32 := 1#32
  let v0 : BitVec 32 := Scalar.addi arg1 c1_i32
  let v637 : BitVec 32 := Scalar.subi v0 c0_i32_444
  let c1_i32_445 : BitVec 32 := 1#32
  let v639 : BitVec 32 := Scalar.divsi v637 c1_i32_445
  let v640 : BitVec 32 := Scalar.muli v639 c1_i32_445
  let v641 : BitVec 32 := Scalar.addi c0_i32_444 v640
  let c1_i32_447 : BitVec 32 := 1#32
  let arg25 : BitVec 32 := Scf.iv v641 c1_i32_447 k0_t4
  let v672 : Index := Scalar.indexCast arg25
  let c0_459 : Index := 0#32
  let c0_460 : Index := 0#32
  ![v672.toNat, 0, 0]
@[reducible] def k0_t5_loop (i : grid0.Coords) : Scf.Loop 32 :=
  let c0_i32_463 : BitVec 32 := 0#32
  let arg1 : BitVec 32 := BitVec.ofNat 32 (i 1).val
  let c1_i32 : BitVec 32 := 1#32
  let v0 : BitVec 32 := Scalar.addi arg1 c1_i32
  let v685 : BitVec 32 := Scalar.subi v0 c0_i32_463
  let c1_i32_464 : BitVec 32 := 1#32
  let v687 : BitVec 32 := Scalar.divsi v685 c1_i32_464
  let v688 : BitVec 32 := Scalar.muli v687 c1_i32_464
  let v689 : BitVec 32 := Scalar.addi c0_i32_463 v688
  let c1_i32_465 : BitVec 32 := 1#32
  ⟨c0_i32_463, v689, c1_i32_465⟩
def k0_off12 (i : grid0.Coords) (k0_t5 : Fin (k0_t5_loop i).trips) : Fin 3 → Nat :=
  let c0_i32_463 : BitVec 32 := 0#32
  let c1_i32_465 : BitVec 32 := 1#32
  let arg25 : BitVec 32 := Scf.iv c0_i32_463 c1_i32_465 k0_t5
  let v701 : Index := Scalar.indexCast arg25
  let c0_470 : Index := 0#32
  let c0_471 : Index := 0#32
  ![v701.toNat, 0, 0]
@[reducible] def k0_t6_loop (i : grid0.Coords) : Scf.Loop 32 :=
  let c0_i32_463 : BitVec 32 := 0#32
  let arg1 : BitVec 32 := BitVec.ofNat 32 (i 1).val
  let c1_i32 : BitVec 32 := 1#32
  let v0 : BitVec 32 := Scalar.addi arg1 c1_i32
  let v685 : BitVec 32 := Scalar.subi v0 c0_i32_463
  let c1_i32_464 : BitVec 32 := 1#32
  let v687 : BitVec 32 := Scalar.divsi v685 c1_i32_464
  let v688 : BitVec 32 := Scalar.muli v687 c1_i32_464
  let v689 : BitVec 32 := Scalar.addi c0_i32_463 v688
  let v686 : BitVec 32 := Scalar.addi c0_i32_463 v685
  let c1_i32_466 : BitVec 32 := 1#32
  ⟨v689, v686, c1_i32_466⟩
def k0_off13 (i : grid0.Coords) (k0_t6 : Fin (k0_t6_loop i).trips) : Fin 3 → Nat :=
  let c0_i32_463 : BitVec 32 := 0#32
  let arg1 : BitVec 32 := BitVec.ofNat 32 (i 1).val
  let c1_i32 : BitVec 32 := 1#32
  let v0 : BitVec 32 := Scalar.addi arg1 c1_i32
  let v685 : BitVec 32 := Scalar.subi v0 c0_i32_463
  let c1_i32_464 : BitVec 32 := 1#32
  let v687 : BitVec 32 := Scalar.divsi v685 c1_i32_464
  let v688 : BitVec 32 := Scalar.muli v687 c1_i32_464
  let v689 : BitVec 32 := Scalar.addi c0_i32_463 v688
  let c1_i32_466 : BitVec 32 := 1#32
  let arg25 : BitVec 32 := Scf.iv v689 c1_i32_466 k0_t6
  let v701 : Index := Scalar.indexCast arg25
  let c0_470 : Index := 0#32
  let c0_471 : Index := 0#32
  ![v701.toNat, 0, 0]
@[reducible] def k0_t7_loop (i : grid0.Coords) : Scf.Loop 32 :=
  let c0_i32_444 : BitVec 32 := 0#32
  let arg1 : BitVec 32 := BitVec.ofNat 32 (i 1).val
  let c1_i32 : BitVec 32 := 1#32
  let v0 : BitVec 32 := Scalar.addi arg1 c1_i32
  let v637 : BitVec 32 := Scalar.subi v0 c0_i32_444
  let c1_i32_445 : BitVec 32 := 1#32
  let v639 : BitVec 32 := Scalar.divsi v637 c1_i32_445
  let v640 : BitVec 32 := Scalar.muli v639 c1_i32_445
  let v641 : BitVec 32 := Scalar.addi c0_i32_444 v640
  let c1_i32_446 : BitVec 32 := 1#32
  ⟨c0_i32_444, v641, c1_i32_446⟩
def k0_off14 (i : grid0.Coords) (k0_t7 : Fin (k0_t7_loop i).trips) : Fin 3 → Nat :=
  let c0_i32_444 : BitVec 32 := 0#32
  let c1_i32_446 : BitVec 32 := 1#32
  let arg25 : BitVec 32 := Scf.iv c0_i32_444 c1_i32_446 k0_t7
  let v672 : Index := Scalar.indexCast arg25
  let c0_459 : Index := 0#32
  let c0_460 : Index := 0#32
  ![v672.toNat, 0, 0]
@[reducible] def k0_t8_loop (i : grid0.Coords) : Scf.Loop 32 :=
  let c0_i32_444 : BitVec 32 := 0#32
  let arg1 : BitVec 32 := BitVec.ofNat 32 (i 1).val
  let c1_i32 : BitVec 32 := 1#32
  let v0 : BitVec 32 := Scalar.addi arg1 c1_i32
  let v637 : BitVec 32 := Scalar.subi v0 c0_i32_444
  let c1_i32_445 : BitVec 32 := 1#32
  let v639 : BitVec 32 := Scalar.divsi v637 c1_i32_445
  let v640 : BitVec 32 := Scalar.muli v639 c1_i32_445
  let v641 : BitVec 32 := Scalar.addi c0_i32_444 v640
  let v638 : BitVec 32 := Scalar.addi c0_i32_444 v637
  let c1_i32_447 : BitVec 32 := 1#32
  ⟨v641, v638, c1_i32_447⟩
def k0_off15 (i : grid0.Coords) (k0_t8 : Fin (k0_t8_loop i).trips) : Fin 3 → Nat :=
  let c0_i32_444 : BitVec 32 := 0#32
  let arg1 : BitVec 32 := BitVec.ofNat 32 (i 1).val
  let c1_i32 : BitVec 32 := 1#32
  let v0 : BitVec 32 := Scalar.addi arg1 c1_i32
  let v637 : BitVec 32 := Scalar.subi v0 c0_i32_444
  let c1_i32_445 : BitVec 32 := 1#32
  let v639 : BitVec 32 := Scalar.divsi v637 c1_i32_445
  let v640 : BitVec 32 := Scalar.muli v639 c1_i32_445
  let v641 : BitVec 32 := Scalar.addi c0_i32_444 v640
  let c1_i32_447 : BitVec 32 := 1#32
  let arg25 : BitVec 32 := Scf.iv v641 c1_i32_447 k0_t8
  let v672 : Index := Scalar.indexCast arg25
  let c0_459 : Index := 0#32
  let c0_460 : Index := 0#32
  ![v672.toNat, 0, 0]
@[reducible] def k0_t9_loop (i : grid0.Coords) : Scf.Loop 32 :=
  let c0_i32_463 : BitVec 32 := 0#32
  let arg1 : BitVec 32 := BitVec.ofNat 32 (i 1).val
  let c1_i32 : BitVec 32 := 1#32
  let v0 : BitVec 32 := Scalar.addi arg1 c1_i32
  let v685 : BitVec 32 := Scalar.subi v0 c0_i32_463
  let c1_i32_464 : BitVec 32 := 1#32
  let v687 : BitVec 32 := Scalar.divsi v685 c1_i32_464
  let v688 : BitVec 32 := Scalar.muli v687 c1_i32_464
  let v689 : BitVec 32 := Scalar.addi c0_i32_463 v688
  let c1_i32_465 : BitVec 32 := 1#32
  ⟨c0_i32_463, v689, c1_i32_465⟩
def k0_off16 (i : grid0.Coords) (k0_t9 : Fin (k0_t9_loop i).trips) : Fin 3 → Nat :=
  let c0_i32_463 : BitVec 32 := 0#32
  let c1_i32_465 : BitVec 32 := 1#32
  let arg25 : BitVec 32 := Scf.iv c0_i32_463 c1_i32_465 k0_t9
  let v701 : Index := Scalar.indexCast arg25
  let c0_470 : Index := 0#32
  let c0_471 : Index := 0#32
  ![v701.toNat, 0, 0]
@[reducible] def k0_t10_loop (i : grid0.Coords) : Scf.Loop 32 :=
  let c0_i32_463 : BitVec 32 := 0#32
  let arg1 : BitVec 32 := BitVec.ofNat 32 (i 1).val
  let c1_i32 : BitVec 32 := 1#32
  let v0 : BitVec 32 := Scalar.addi arg1 c1_i32
  let v685 : BitVec 32 := Scalar.subi v0 c0_i32_463
  let c1_i32_464 : BitVec 32 := 1#32
  let v687 : BitVec 32 := Scalar.divsi v685 c1_i32_464
  let v688 : BitVec 32 := Scalar.muli v687 c1_i32_464
  let v689 : BitVec 32 := Scalar.addi c0_i32_463 v688
  let v686 : BitVec 32 := Scalar.addi c0_i32_463 v685
  let c1_i32_466 : BitVec 32 := 1#32
  ⟨v689, v686, c1_i32_466⟩
def k0_off17 (i : grid0.Coords) (k0_t10 : Fin (k0_t10_loop i).trips) : Fin 3 → Nat :=
  let c0_i32_463 : BitVec 32 := 0#32
  let arg1 : BitVec 32 := BitVec.ofNat 32 (i 1).val
  let c1_i32 : BitVec 32 := 1#32
  let v0 : BitVec 32 := Scalar.addi arg1 c1_i32
  let v685 : BitVec 32 := Scalar.subi v0 c0_i32_463
  let c1_i32_464 : BitVec 32 := 1#32
  let v687 : BitVec 32 := Scalar.divsi v685 c1_i32_464
  let v688 : BitVec 32 := Scalar.muli v687 c1_i32_464
  let v689 : BitVec 32 := Scalar.addi c0_i32_463 v688
  let c1_i32_466 : BitVec 32 := 1#32
  let arg25 : BitVec 32 := Scf.iv v689 c1_i32_466 k0_t10
  let v701 : Index := Scalar.indexCast arg25
  let c0_470 : Index := 0#32
  let c0_471 : Index := 0#32
  ![v701.toNat, 0, 0]
@[reducible] def k0_t11_loop (i : grid0.Coords) : Scf.Loop 32 :=
  let c0_i32_425 : BitVec 32 := 0#32
  let arg1 : BitVec 32 := BitVec.ofNat 32 (i 1).val
  let c1_i32 : BitVec 32 := 1#32
  let v0 : BitVec 32 := Scalar.addi arg1 c1_i32
  let v589 : BitVec 32 := Scalar.subi v0 c0_i32_425
  let c1_i32_426 : BitVec 32 := 1#32
  let v591 : BitVec 32 := Scalar.divsi v589 c1_i32_426
  let v592 : BitVec 32 := Scalar.muli v591 c1_i32_426
  let v593 : BitVec 32 := Scalar.addi c0_i32_425 v592
  let c1_i32_427 : BitVec 32 := 1#32
  ⟨c0_i32_425, v593, c1_i32_427⟩
def k0_off18 (i : grid0.Coords) (k0_t11 : Fin (k0_t11_loop i).trips) : Fin 3 → Nat :=
  let c0_i32_425 : BitVec 32 := 0#32
  let c1_i32_427 : BitVec 32 := 1#32
  let arg20 : BitVec 32 := Scf.iv c0_i32_425 c1_i32_427 k0_t11
  let v612 : Index := Scalar.indexCast arg20
  let c0_439 : Index := 0#32
  let c0_440 : Index := 0#32
  ![v612.toNat, 0, 0]
@[reducible] def k0_t12_loop (i : grid0.Coords) : Scf.Loop 32 :=
  let c0_i32_425 : BitVec 32 := 0#32
  let arg1 : BitVec 32 := BitVec.ofNat 32 (i 1).val
  let c1_i32 : BitVec 32 := 1#32
  let v0 : BitVec 32 := Scalar.addi arg1 c1_i32
  let v589 : BitVec 32 := Scalar.subi v0 c0_i32_425
  let c1_i32_426 : BitVec 32 := 1#32
  let v591 : BitVec 32 := Scalar.divsi v589 c1_i32_426
  let v592 : BitVec 32 := Scalar.muli v591 c1_i32_426
  let v593 : BitVec 32 := Scalar.addi c0_i32_425 v592
  let v590 : BitVec 32 := Scalar.addi c0_i32_425 v589
  let c1_i32_428 : BitVec 32 := 1#32
  ⟨v593, v590, c1_i32_428⟩
def k0_off19 (i : grid0.Coords) (k0_t12 : Fin (k0_t12_loop i).trips) : Fin 3 → Nat :=
  let c0_i32_425 : BitVec 32 := 0#32
  let arg1 : BitVec 32 := BitVec.ofNat 32 (i 1).val
  let c1_i32 : BitVec 32 := 1#32
  let v0 : BitVec 32 := Scalar.addi arg1 c1_i32
  let v589 : BitVec 32 := Scalar.subi v0 c0_i32_425
  let c1_i32_426 : BitVec 32 := 1#32
  let v591 : BitVec 32 := Scalar.divsi v589 c1_i32_426
  let v592 : BitVec 32 := Scalar.muli v591 c1_i32_426
  let v593 : BitVec 32 := Scalar.addi c0_i32_425 v592
  let c1_i32_428 : BitVec 32 := 1#32
  let arg20 : BitVec 32 := Scf.iv v593 c1_i32_428 k0_t12
  let v612 : Index := Scalar.indexCast arg20
  let c0_439 : Index := 0#32
  let c0_440 : Index := 0#32
  ![v612.toNat, 0, 0]
@[reducible] def k0_t13_loop (i : grid0.Coords) : Scf.Loop 32 :=
  let c0_i32_432 : BitVec 32 := 0#32
  let arg1 : BitVec 32 := BitVec.ofNat 32 (i 1).val
  let c1_i32 : BitVec 32 := 1#32
  let v0 : BitVec 32 := Scalar.addi arg1 c1_i32
  let v601 : BitVec 32 := Scalar.subi v0 c0_i32_432
  let c1_i32_433 : BitVec 32 := 1#32
  let v603 : BitVec 32 := Scalar.divsi v601 c1_i32_433
  let v604 : BitVec 32 := Scalar.muli v603 c1_i32_433
  let v605 : BitVec 32 := Scalar.addi c0_i32_432 v604
  let c1_i32_434 : BitVec 32 := 1#32
  ⟨c0_i32_432, v605, c1_i32_434⟩
def k0_off20 (i : grid0.Coords) (k0_t13 : Fin (k0_t13_loop i).trips) : Fin 3 → Nat :=
  let c0_i32_432 : BitVec 32 := 0#32
  let c1_i32_434 : BitVec 32 := 1#32
  let arg20 : BitVec 32 := Scf.iv c0_i32_432 c1_i32_434 k0_t13
  let v612 : Index := Scalar.indexCast arg20
  let c0_439 : Index := 0#32
  let c0_440 : Index := 0#32
  ![v612.toNat, 0, 0]
@[reducible] def k0_t14_loop (i : grid0.Coords) : Scf.Loop 32 :=
  let c0_i32_432 : BitVec 32 := 0#32
  let arg1 : BitVec 32 := BitVec.ofNat 32 (i 1).val
  let c1_i32 : BitVec 32 := 1#32
  let v0 : BitVec 32 := Scalar.addi arg1 c1_i32
  let v601 : BitVec 32 := Scalar.subi v0 c0_i32_432
  let c1_i32_433 : BitVec 32 := 1#32
  let v603 : BitVec 32 := Scalar.divsi v601 c1_i32_433
  let v604 : BitVec 32 := Scalar.muli v603 c1_i32_433
  let v605 : BitVec 32 := Scalar.addi c0_i32_432 v604
  let v602 : BitVec 32 := Scalar.addi c0_i32_432 v601
  let c1_i32_435 : BitVec 32 := 1#32
  ⟨v605, v602, c1_i32_435⟩
def k0_off21 (i : grid0.Coords) (k0_t14 : Fin (k0_t14_loop i).trips) : Fin 3 → Nat :=
  let c0_i32_432 : BitVec 32 := 0#32
  let arg1 : BitVec 32 := BitVec.ofNat 32 (i 1).val
  let c1_i32 : BitVec 32 := 1#32
  let v0 : BitVec 32 := Scalar.addi arg1 c1_i32
  let v601 : BitVec 32 := Scalar.subi v0 c0_i32_432
  let c1_i32_433 : BitVec 32 := 1#32
  let v603 : BitVec 32 := Scalar.divsi v601 c1_i32_433
  let v604 : BitVec 32 := Scalar.muli v603 c1_i32_433
  let v605 : BitVec 32 := Scalar.addi c0_i32_432 v604
  let c1_i32_435 : BitVec 32 := 1#32
  let arg20 : BitVec 32 := Scf.iv v605 c1_i32_435 k0_t14
  let v612 : Index := Scalar.indexCast arg20
  let c0_439 : Index := 0#32
  let c0_440 : Index := 0#32
  ![v612.toNat, 0, 0]
def k0_mult41 : BitVec 32 :=
  let c0_i32_258 : BitVec 32 := 0#32
  c0_i32_258
def k0_mult42 : BitVec 32 :=
  let c0_i32_270 : BitVec 32 := 0#32
  c0_i32_270
def k0_mult43 : BitVec 32 :=
  let c0_i32_282 : BitVec 32 := 0#32
  c0_i32_282
def k0_mult44 : BitVec 32 :=
  let c0_i32_294 : BitVec 32 := 0#32
  c0_i32_294
def k0_mult45 : BitVec 32 :=
  let c0_i32_306 : BitVec 32 := 0#32
  c0_i32_306
def k0_mult46 : BitVec 32 :=
  let c0_i32_318 : BitVec 32 := 0#32
  c0_i32_318
def k0_mult47 : BitVec 32 :=
  let c0_i32_330 : BitVec 32 := 0#32
  c0_i32_330
def k0_mult48 : BitVec 32 :=
  let c0_i32_342 : BitVec 32 := 0#32
  c0_i32_342
@[reducible] def k0_t15_loop (i : grid0.Coords) : Scf.Loop 32 :=
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_355 : BitVec 32 := 1#32
  ⟨c0_i32_353, v501, c1_i32_355⟩
def k0_off22 (i : grid0.Coords) (k0_t15 : Fin (k0_t15_loop i).trips) : Fin 3 → Nat :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let v579 : Index := Scalar.indexCast v578
  let c0_420 : Index := 0#32
  let c0_421 : Index := 0#32
  ![v579.toNat, 0, 0]
def k0_mult49 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_428 : BitVec 32 := 256#32
  let v590 : BitVec 32 := Scalar.muli v578 c256_i32_428
  v590
def k0_off23 (i : grid0.Coords) (k0_t15 : Fin (k0_t15_loop i).trips) : Fin 3 → Nat :=
  let c0_429 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_428 : BitVec 32 := 256#32
  let v590 : BitVec 32 := Scalar.muli v578 c256_i32_428
  let v591 : BitVec 32 := v590
  let v592 : Index := Scalar.indexCast v591
  let c0_430 : Index := 0#32
  ![0, v592.toNat, 0]
def k0_off24 (i : grid0.Coords) (k0_t15 : Fin (k0_t15_loop i).trips) : Fin 5 → Nat :=
  let c0_458 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v764 : Index := Scalar.indexCast v577
  let c0_459 : Index := 0#32
  let c0_460 : Index := 0#32
  let c0_461 : Index := 0#32
  ![0, v764.toNat, 0, 0, 0]
def k0_mult50 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_475 : BitVec 32 := 256#32
  let v787 : BitVec 32 := Scalar.muli v578 c256_i32_475
  v787
def k0_off25 (i : grid0.Coords) (k0_t15 : Fin (k0_t15_loop i).trips) : Fin 5 → Nat :=
  let c0_505 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v961 : Index := Scalar.indexCast v577
  let c1_506 : Index := 1#32
  let c0_507 : Index := 0#32
  let c0_508 : Index := 0#32
  ![0, v961.toNat, 1, 0, 0]
def k0_mult51 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_522 : BitVec 32 := 256#32
  let v984 : BitVec 32 := Scalar.muli v578 c256_i32_522
  v984
def k0_off26 (i : grid0.Coords) (k0_t15 : Fin (k0_t15_loop i).trips) : Fin 3 → Nat :=
  let c0_523 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_522 : BitVec 32 := 256#32
  let v984 : BitVec 32 := Scalar.muli v578 c256_i32_522
  let v985 : BitVec 32 := v984
  let v986 : Index := Scalar.indexCast v985
  let c128_524 : Index := 128#32
  ![0, v986.toNat, 128]
def k0_off27 (i : grid0.Coords) (k0_t15 : Fin (k0_t15_loop i).trips) : Fin 5 → Nat :=
  let c0_552 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v1158 : Index := Scalar.indexCast v577
  let c2_553 : Index := 2#32
  let c0_554 : Index := 0#32
  let c0_555 : Index := 0#32
  ![0, v1158.toNat, 2, 0, 0]
def k0_mult52 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_569 : BitVec 32 := 256#32
  let v1181 : BitVec 32 := Scalar.muli v578 c256_i32_569
  v1181
def k0_off28 (i : grid0.Coords) (k0_t15 : Fin (k0_t15_loop i).trips) : Fin 5 → Nat :=
  let c0_599 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v1355 : Index := Scalar.indexCast v577
  let c3_600 : Index := 3#32
  let c0_601 : Index := 0#32
  let c0_602 : Index := 0#32
  ![0, v1355.toNat, 3, 0, 0]
def k0_mult53 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_616 : BitVec 32 := 256#32
  let v1378 : BitVec 32 := Scalar.muli v578 c256_i32_616
  v1378
def k0_off29 (i : grid0.Coords) (k0_t15 : Fin (k0_t15_loop i).trips) : Fin 3 → Nat :=
  let c0_617 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_616 : BitVec 32 := 256#32
  let v1378 : BitVec 32 := Scalar.muli v578 c256_i32_616
  let v1379 : BitVec 32 := v1378
  let v1380 : Index := Scalar.indexCast v1379
  let c256_618 : Index := 256#32
  ![0, v1380.toNat, 256]
def k0_off30 (i : grid0.Coords) (k0_t15 : Fin (k0_t15_loop i).trips) : Fin 5 → Nat :=
  let c0_646 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v1552 : Index := Scalar.indexCast v577
  let c4_647 : Index := 4#32
  let c0_648 : Index := 0#32
  let c0_649 : Index := 0#32
  ![0, v1552.toNat, 4, 0, 0]
def k0_mult54 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_663 : BitVec 32 := 256#32
  let v1575 : BitVec 32 := Scalar.muli v578 c256_i32_663
  v1575
def k0_off31 (i : grid0.Coords) (k0_t15 : Fin (k0_t15_loop i).trips) : Fin 5 → Nat :=
  let c0_693 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v1749 : Index := Scalar.indexCast v577
  let c5_694 : Index := 5#32
  let c0_695 : Index := 0#32
  let c0_696 : Index := 0#32
  ![0, v1749.toNat, 5, 0, 0]
def k0_mult55 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_710 : BitVec 32 := 256#32
  let v1772 : BitVec 32 := Scalar.muli v578 c256_i32_710
  v1772
def k0_off32 (i : grid0.Coords) (k0_t15 : Fin (k0_t15_loop i).trips) : Fin 3 → Nat :=
  let c0_711 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_710 : BitVec 32 := 256#32
  let v1772 : BitVec 32 := Scalar.muli v578 c256_i32_710
  let v1773 : BitVec 32 := v1772
  let v1774 : Index := Scalar.indexCast v1773
  let c384_712 : Index := 384#32
  ![0, v1774.toNat, 384]
def k0_off33 (i : grid0.Coords) (k0_t15 : Fin (k0_t15_loop i).trips) : Fin 5 → Nat :=
  let c0_740 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v1946 : Index := Scalar.indexCast v577
  let c6_741 : Index := 6#32
  let c0_742 : Index := 0#32
  let c0_743 : Index := 0#32
  ![0, v1946.toNat, 6, 0, 0]
def k0_mult56 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_419 : BitVec 32 := 1#32
  let v578 : BitVec 32 := Scalar.addi v577 c1_i32_419
  let c256_i32_757 : BitVec 32 := 256#32
  let v1969 : BitVec 32 := Scalar.muli v578 c256_i32_757
  v1969
def k0_off34 (i : grid0.Coords) (k0_t15 : Fin (k0_t15_loop i).trips) : Fin 5 → Nat :=
  let c0_787 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let v2143 : Index := Scalar.indexCast v577
  let c7_788 : Index := 7#32
  let c0_789 : Index := 0#32
  let c0_790 : Index := 0#32
  ![0, v2143.toNat, 7, 0, 0]
def k0_off35 (i : grid0.Coords) (k0_t15 : Fin (k0_t15_loop i).trips) : Fin 3 → Nat :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let v2168 : Index := Scalar.indexCast v2167
  let c0_804 : Index := 0#32
  let c0_805 : Index := 0#32
  ![v2168.toNat, 0, 0]
def k0_mult57 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_812 : BitVec 32 := 256#32
  let v2179 : BitVec 32 := Scalar.muli v2167 c256_i32_812
  v2179
def k0_off36 (i : grid0.Coords) (k0_t15 : Fin (k0_t15_loop i).trips) : Fin 3 → Nat :=
  let c0_813 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_812 : BitVec 32 := 256#32
  let v2179 : BitVec 32 := Scalar.muli v2167 c256_i32_812
  let v2180 : BitVec 32 := v2179
  let v2181 : Index := Scalar.indexCast v2180
  let c0_814 : Index := 0#32
  ![0, v2181.toNat, 0]
def k0_off37 (i : grid0.Coords) (k0_t15 : Fin (k0_t15_loop i).trips) : Fin 5 → Nat :=
  let c0_842 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v2353 : Index := Scalar.indexCast v2165
  let c0_843 : Index := 0#32
  let c0_844 : Index := 0#32
  let c0_845 : Index := 0#32
  ![0, v2353.toNat, 0, 0, 0]
def k0_mult58 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_859 : BitVec 32 := 256#32
  let v2376 : BitVec 32 := Scalar.muli v2167 c256_i32_859
  v2376
def k0_off38 (i : grid0.Coords) (k0_t15 : Fin (k0_t15_loop i).trips) : Fin 5 → Nat :=
  let c0_889 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v2550 : Index := Scalar.indexCast v2165
  let c1_890 : Index := 1#32
  let c0_891 : Index := 0#32
  let c0_892 : Index := 0#32
  ![0, v2550.toNat, 1, 0, 0]
def k0_mult59 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_906 : BitVec 32 := 256#32
  let v2573 : BitVec 32 := Scalar.muli v2167 c256_i32_906
  v2573
def k0_off39 (i : grid0.Coords) (k0_t15 : Fin (k0_t15_loop i).trips) : Fin 3 → Nat :=
  let c0_907 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_906 : BitVec 32 := 256#32
  let v2573 : BitVec 32 := Scalar.muli v2167 c256_i32_906
  let v2574 : BitVec 32 := v2573
  let v2575 : Index := Scalar.indexCast v2574
  let c128_908 : Index := 128#32
  ![0, v2575.toNat, 128]
def k0_off40 (i : grid0.Coords) (k0_t15 : Fin (k0_t15_loop i).trips) : Fin 5 → Nat :=
  let c0_936 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v2747 : Index := Scalar.indexCast v2165
  let c2_937 : Index := 2#32
  let c0_938 : Index := 0#32
  let c0_939 : Index := 0#32
  ![0, v2747.toNat, 2, 0, 0]
def k0_mult60 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_953 : BitVec 32 := 256#32
  let v2770 : BitVec 32 := Scalar.muli v2167 c256_i32_953
  v2770
def k0_off41 (i : grid0.Coords) (k0_t15 : Fin (k0_t15_loop i).trips) : Fin 5 → Nat :=
  let c0_983 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v2944 : Index := Scalar.indexCast v2165
  let c3_984 : Index := 3#32
  let c0_985 : Index := 0#32
  let c0_986 : Index := 0#32
  ![0, v2944.toNat, 3, 0, 0]
def k0_mult61 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_1000 : BitVec 32 := 256#32
  let v2967 : BitVec 32 := Scalar.muli v2167 c256_i32_1000
  v2967
def k0_off42 (i : grid0.Coords) (k0_t15 : Fin (k0_t15_loop i).trips) : Fin 3 → Nat :=
  let c0_1001 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_1000 : BitVec 32 := 256#32
  let v2967 : BitVec 32 := Scalar.muli v2167 c256_i32_1000
  let v2968 : BitVec 32 := v2967
  let v2969 : Index := Scalar.indexCast v2968
  let c256_1002 : Index := 256#32
  ![0, v2969.toNat, 256]
def k0_off43 (i : grid0.Coords) (k0_t15 : Fin (k0_t15_loop i).trips) : Fin 5 → Nat :=
  let c0_1030 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v3141 : Index := Scalar.indexCast v2165
  let c4_1031 : Index := 4#32
  let c0_1032 : Index := 0#32
  let c0_1033 : Index := 0#32
  ![0, v3141.toNat, 4, 0, 0]
def k0_mult62 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_1047 : BitVec 32 := 256#32
  let v3164 : BitVec 32 := Scalar.muli v2167 c256_i32_1047
  v3164
def k0_off44 (i : grid0.Coords) (k0_t15 : Fin (k0_t15_loop i).trips) : Fin 5 → Nat :=
  let c0_1077 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v3338 : Index := Scalar.indexCast v2165
  let c5_1078 : Index := 5#32
  let c0_1079 : Index := 0#32
  let c0_1080 : Index := 0#32
  ![0, v3338.toNat, 5, 0, 0]
def k0_mult63 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_1094 : BitVec 32 := 256#32
  let v3361 : BitVec 32 := Scalar.muli v2167 c256_i32_1094
  v3361
def k0_off45 (i : grid0.Coords) (k0_t15 : Fin (k0_t15_loop i).trips) : Fin 3 → Nat :=
  let c0_1095 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_1094 : BitVec 32 := 256#32
  let v3361 : BitVec 32 := Scalar.muli v2167 c256_i32_1094
  let v3362 : BitVec 32 := v3361
  let v3363 : Index := Scalar.indexCast v3362
  let c384_1096 : Index := 384#32
  ![0, v3363.toNat, 384]
def k0_off46 (i : grid0.Coords) (k0_t15 : Fin (k0_t15_loop i).trips) : Fin 5 → Nat :=
  let c0_1124 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v3535 : Index := Scalar.indexCast v2165
  let c6_1125 : Index := 6#32
  let c0_1126 : Index := 0#32
  let c0_1127 : Index := 0#32
  ![0, v3535.toNat, 6, 0, 0]
def k0_mult64 (i : grid0.Coords) (k0_t15 : Fin (k0_t15_loop i).trips) : BitVec 32 :=
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c2_i32_803 : BitVec 32 := 2#32
  let v2166 : BitVec 32 := Scalar.addi v577 c2_i32_803
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2167 : BitVec 32 := Scalar.minsi v2166 v188
  let c256_i32_1141 : BitVec 32 := 256#32
  let v3558 : BitVec 32 := Scalar.muli v2167 c256_i32_1141
  v3558
def k0_off47 (i : grid0.Coords) (k0_t15 : Fin (k0_t15_loop i).trips) : Fin 5 → Nat :=
  let c0_1171 : Index := 0#32
  let c2_i32_418 : BitVec 32 := 2#32
  let c0_i32_353 : BitVec 32 := 0#32
  let c1_i32_355 : BitVec 32 := 1#32
  let arg20 : BitVec 32 := Scf.iv c0_i32_353 c1_i32_355 k0_t15
  let v577 : BitVec 32 := Scalar.muli c2_i32_418 arg20
  let c1_i32_802 : BitVec 32 := 1#32
  let v2165 : BitVec 32 := Scalar.addi v577 c1_i32_802
  let v3732 : Index := Scalar.indexCast v2165
  let c7_1172 : Index := 7#32
  let c0_1173 : Index := 0#32
  let c0_1174 : Index := 0#32
  ![0, v3732.toNat, 7, 0, 0]
@[reducible] def k0_t16_loop (i : grid0.Coords) : Scf.Loop 32 :=
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let v498 : BitVec 32 := Scalar.addi c0_i32_353 v497
  let c1_i32_356 : BitVec 32 := 1#32
  ⟨v501, v498, c1_i32_356⟩
def k0_off48 (i : grid0.Coords) (k0_t16 : Fin (k0_t16_loop i).trips) : Fin 3 → Nat :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let v579 : Index := Scalar.indexCast v578
  let c0_420 : Index := 0#32
  let c0_421 : Index := 0#32
  ![v579.toNat, 0, 0]
def k0_mult65 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_428 : BitVec 32 := 256#32
  let v590 : BitVec 32 := Scalar.muli v578 c256_i32_428
  v590
def k0_off49 (i : grid0.Coords) (k0_t16 : Fin (k0_t16_loop i).trips) : Fin 3 → Nat :=
  let c0_429 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_428 : BitVec 32 := 256#32
  let v590 : BitVec 32 := Scalar.muli v578 c256_i32_428
  let v591 : BitVec 32 := v590
  let v592 : Index := Scalar.indexCast v591
  let c0_430 : Index := 0#32
  ![0, v592.toNat, 0]
def k0_off50 (i : grid0.Coords) (k0_t16 : Fin (k0_t16_loop i).trips) : Fin 5 → Nat :=
  let c0_458 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v764 : Index := Scalar.indexCast v577
  let c0_459 : Index := 0#32
  let c0_460 : Index := 0#32
  let c0_461 : Index := 0#32
  ![0, v764.toNat, 0, 0, 0]
def k0_mult66 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_475 : BitVec 32 := 256#32
  let v787 : BitVec 32 := Scalar.muli v578 c256_i32_475
  v787
def k0_off51 (i : grid0.Coords) (k0_t16 : Fin (k0_t16_loop i).trips) : Fin 5 → Nat :=
  let c0_505 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v961 : Index := Scalar.indexCast v577
  let c1_506 : Index := 1#32
  let c0_507 : Index := 0#32
  let c0_508 : Index := 0#32
  ![0, v961.toNat, 1, 0, 0]
def k0_mult67 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_522 : BitVec 32 := 256#32
  let v984 : BitVec 32 := Scalar.muli v578 c256_i32_522
  v984
def k0_off52 (i : grid0.Coords) (k0_t16 : Fin (k0_t16_loop i).trips) : Fin 3 → Nat :=
  let c0_523 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_522 : BitVec 32 := 256#32
  let v984 : BitVec 32 := Scalar.muli v578 c256_i32_522
  let v985 : BitVec 32 := v984
  let v986 : Index := Scalar.indexCast v985
  let c128_524 : Index := 128#32
  ![0, v986.toNat, 128]
def k0_off53 (i : grid0.Coords) (k0_t16 : Fin (k0_t16_loop i).trips) : Fin 5 → Nat :=
  let c0_552 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v1158 : Index := Scalar.indexCast v577
  let c2_553 : Index := 2#32
  let c0_554 : Index := 0#32
  let c0_555 : Index := 0#32
  ![0, v1158.toNat, 2, 0, 0]
def k0_mult68 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_569 : BitVec 32 := 256#32
  let v1181 : BitVec 32 := Scalar.muli v578 c256_i32_569
  v1181
def k0_off54 (i : grid0.Coords) (k0_t16 : Fin (k0_t16_loop i).trips) : Fin 5 → Nat :=
  let c0_599 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v1355 : Index := Scalar.indexCast v577
  let c3_600 : Index := 3#32
  let c0_601 : Index := 0#32
  let c0_602 : Index := 0#32
  ![0, v1355.toNat, 3, 0, 0]
def k0_mult69 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_616 : BitVec 32 := 256#32
  let v1378 : BitVec 32 := Scalar.muli v578 c256_i32_616
  v1378
def k0_off55 (i : grid0.Coords) (k0_t16 : Fin (k0_t16_loop i).trips) : Fin 3 → Nat :=
  let c0_617 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_616 : BitVec 32 := 256#32
  let v1378 : BitVec 32 := Scalar.muli v578 c256_i32_616
  let v1379 : BitVec 32 := v1378
  let v1380 : Index := Scalar.indexCast v1379
  let c256_618 : Index := 256#32
  ![0, v1380.toNat, 256]
def k0_off56 (i : grid0.Coords) (k0_t16 : Fin (k0_t16_loop i).trips) : Fin 5 → Nat :=
  let c0_646 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v1552 : Index := Scalar.indexCast v577
  let c4_647 : Index := 4#32
  let c0_648 : Index := 0#32
  let c0_649 : Index := 0#32
  ![0, v1552.toNat, 4, 0, 0]
def k0_mult70 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_663 : BitVec 32 := 256#32
  let v1575 : BitVec 32 := Scalar.muli v578 c256_i32_663
  v1575
def k0_off57 (i : grid0.Coords) (k0_t16 : Fin (k0_t16_loop i).trips) : Fin 5 → Nat :=
  let c0_693 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v1749 : Index := Scalar.indexCast v577
  let c5_694 : Index := 5#32
  let c0_695 : Index := 0#32
  let c0_696 : Index := 0#32
  ![0, v1749.toNat, 5, 0, 0]
def k0_mult71 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_710 : BitVec 32 := 256#32
  let v1772 : BitVec 32 := Scalar.muli v578 c256_i32_710
  v1772
def k0_off58 (i : grid0.Coords) (k0_t16 : Fin (k0_t16_loop i).trips) : Fin 3 → Nat :=
  let c0_711 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_710 : BitVec 32 := 256#32
  let v1772 : BitVec 32 := Scalar.muli v578 c256_i32_710
  let v1773 : BitVec 32 := v1772
  let v1774 : Index := Scalar.indexCast v1773
  let c384_712 : Index := 384#32
  ![0, v1774.toNat, 384]
def k0_off59 (i : grid0.Coords) (k0_t16 : Fin (k0_t16_loop i).trips) : Fin 5 → Nat :=
  let c0_740 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v1946 : Index := Scalar.indexCast v577
  let c6_741 : Index := 6#32
  let c0_742 : Index := 0#32
  let c0_743 : Index := 0#32
  ![0, v1946.toNat, 6, 0, 0]
def k0_mult72 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_419 : BitVec 32 := 1#32
  let v578 : BitVec 32 := Scalar.addi v577 c1_i32_419
  let c256_i32_757 : BitVec 32 := 256#32
  let v1969 : BitVec 32 := Scalar.muli v578 c256_i32_757
  v1969
def k0_off60 (i : grid0.Coords) (k0_t16 : Fin (k0_t16_loop i).trips) : Fin 5 → Nat :=
  let c0_787 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let v2143 : Index := Scalar.indexCast v577
  let c7_788 : Index := 7#32
  let c0_789 : Index := 0#32
  let c0_790 : Index := 0#32
  ![0, v2143.toNat, 7, 0, 0]
def k0_off61 (i : grid0.Coords) (k0_t16 : Fin (k0_t16_loop i).trips) : Fin 3 → Nat :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let v2168 : Index := Scalar.indexCast v2167
  let c0_804 : Index := 0#32
  let c0_805 : Index := 0#32
  ![v2168.toNat, 0, 0]
def k0_mult73 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_812 : BitVec 32 := 256#32
  let v2179 : BitVec 32 := Scalar.muli v2167 c256_i32_812
  v2179
def k0_off62 (i : grid0.Coords) (k0_t16 : Fin (k0_t16_loop i).trips) : Fin 3 → Nat :=
  let c0_813 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_812 : BitVec 32 := 256#32
  let v2179 : BitVec 32 := Scalar.muli v2167 c256_i32_812
  let v2180 : BitVec 32 := v2179
  let v2181 : Index := Scalar.indexCast v2180
  let c0_814 : Index := 0#32
  ![0, v2181.toNat, 0]
def k0_off63 (i : grid0.Coords) (k0_t16 : Fin (k0_t16_loop i).trips) : Fin 5 → Nat :=
  let c0_842 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v2353 : Index := Scalar.indexCast v2165
  let c0_843 : Index := 0#32
  let c0_844 : Index := 0#32
  let c0_845 : Index := 0#32
  ![0, v2353.toNat, 0, 0, 0]
def k0_mult74 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_859 : BitVec 32 := 256#32
  let v2376 : BitVec 32 := Scalar.muli v2167 c256_i32_859
  v2376
def k0_off64 (i : grid0.Coords) (k0_t16 : Fin (k0_t16_loop i).trips) : Fin 5 → Nat :=
  let c0_889 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v2550 : Index := Scalar.indexCast v2165
  let c1_890 : Index := 1#32
  let c0_891 : Index := 0#32
  let c0_892 : Index := 0#32
  ![0, v2550.toNat, 1, 0, 0]
def k0_mult75 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_906 : BitVec 32 := 256#32
  let v2573 : BitVec 32 := Scalar.muli v2167 c256_i32_906
  v2573
def k0_off65 (i : grid0.Coords) (k0_t16 : Fin (k0_t16_loop i).trips) : Fin 3 → Nat :=
  let c0_907 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_906 : BitVec 32 := 256#32
  let v2573 : BitVec 32 := Scalar.muli v2167 c256_i32_906
  let v2574 : BitVec 32 := v2573
  let v2575 : Index := Scalar.indexCast v2574
  let c128_908 : Index := 128#32
  ![0, v2575.toNat, 128]
def k0_off66 (i : grid0.Coords) (k0_t16 : Fin (k0_t16_loop i).trips) : Fin 5 → Nat :=
  let c0_936 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v2747 : Index := Scalar.indexCast v2165
  let c2_937 : Index := 2#32
  let c0_938 : Index := 0#32
  let c0_939 : Index := 0#32
  ![0, v2747.toNat, 2, 0, 0]
def k0_mult76 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_953 : BitVec 32 := 256#32
  let v2770 : BitVec 32 := Scalar.muli v2167 c256_i32_953
  v2770
def k0_off67 (i : grid0.Coords) (k0_t16 : Fin (k0_t16_loop i).trips) : Fin 5 → Nat :=
  let c0_983 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v2944 : Index := Scalar.indexCast v2165
  let c3_984 : Index := 3#32
  let c0_985 : Index := 0#32
  let c0_986 : Index := 0#32
  ![0, v2944.toNat, 3, 0, 0]
def k0_mult77 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_1000 : BitVec 32 := 256#32
  let v2967 : BitVec 32 := Scalar.muli v2167 c256_i32_1000
  v2967
def k0_off68 (i : grid0.Coords) (k0_t16 : Fin (k0_t16_loop i).trips) : Fin 3 → Nat :=
  let c0_1001 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_1000 : BitVec 32 := 256#32
  let v2967 : BitVec 32 := Scalar.muli v2167 c256_i32_1000
  let v2968 : BitVec 32 := v2967
  let v2969 : Index := Scalar.indexCast v2968
  let c256_1002 : Index := 256#32
  ![0, v2969.toNat, 256]
def k0_off69 (i : grid0.Coords) (k0_t16 : Fin (k0_t16_loop i).trips) : Fin 5 → Nat :=
  let c0_1030 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v3141 : Index := Scalar.indexCast v2165
  let c4_1031 : Index := 4#32
  let c0_1032 : Index := 0#32
  let c0_1033 : Index := 0#32
  ![0, v3141.toNat, 4, 0, 0]
def k0_mult78 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_1047 : BitVec 32 := 256#32
  let v3164 : BitVec 32 := Scalar.muli v2167 c256_i32_1047
  v3164
def k0_off70 (i : grid0.Coords) (k0_t16 : Fin (k0_t16_loop i).trips) : Fin 5 → Nat :=
  let c0_1077 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v3338 : Index := Scalar.indexCast v2165
  let c5_1078 : Index := 5#32
  let c0_1079 : Index := 0#32
  let c0_1080 : Index := 0#32
  ![0, v3338.toNat, 5, 0, 0]
def k0_mult79 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_1094 : BitVec 32 := 256#32
  let v3361 : BitVec 32 := Scalar.muli v2167 c256_i32_1094
  v3361
def k0_off71 (i : grid0.Coords) (k0_t16 : Fin (k0_t16_loop i).trips) : Fin 3 → Nat :=
  let c0_1095 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_1094 : BitVec 32 := 256#32
  let v3361 : BitVec 32 := Scalar.muli v2167 c256_i32_1094
  let v3362 : BitVec 32 := v3361
  let v3363 : Index := Scalar.indexCast v3362
  let c384_1096 : Index := 384#32
  ![0, v3363.toNat, 384]
def k0_off72 (i : grid0.Coords) (k0_t16 : Fin (k0_t16_loop i).trips) : Fin 5 → Nat :=
  let c0_1124 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v3535 : Index := Scalar.indexCast v2165
  let c6_1125 : Index := 6#32
  let c0_1126 : Index := 0#32
  let c0_1127 : Index := 0#32
  ![0, v3535.toNat, 6, 0, 0]
def k0_mult80 (i : grid0.Coords) (k0_t16 : Fin (k0_t16_loop i).trips) : BitVec 32 :=
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c2_i32_803 : BitVec 32 := 2#32
  let v2166 : BitVec 32 := Scalar.addi v577 c2_i32_803
  let c1_i32_113 : BitVec 32 := 1#32
  let v188 : BitVec 32 := Scalar.subi v0 c1_i32_113
  let v2167 : BitVec 32 := Scalar.minsi v2166 v188
  let c256_i32_1141 : BitVec 32 := 256#32
  let v3558 : BitVec 32 := Scalar.muli v2167 c256_i32_1141
  v3558
def k0_off73 (i : grid0.Coords) (k0_t16 : Fin (k0_t16_loop i).trips) : Fin 5 → Nat :=
  let c0_1171 : Index := 0#32
  let c2_i32_418 : BitVec 32 := 2#32
  let c0_i32_353 : BitVec 32 := 0#32
  let arg1 : BitVec 32 := BitVec.ofNat 32 (i 1).val
  let c1_i32 : BitVec 32 := 1#32
  let v0 : BitVec 32 := Scalar.addi arg1 c1_i32
  let c0_i32_114 : BitVec 32 := 0#32
  let v190 : BitVec 1 := Scalar.cmpi .sgt v0 c0_i32_114
  let v191 : BitVec 32 := Scalar.extui v190
  let c0_i32_115 : BitVec 32 := 0#32
  let v192 : BitVec 1 := Scalar.cmpi .slt v0 c0_i32_115
  let v193 : BitVec 32 := Scalar.extui v192
  let v194 : BitVec 32 := Scalar.subi v191 v193
  let c2_i32 : BitVec 32 := 2#32
  let c0_i32_116 : BitVec 32 := 0#32
  let v195 : BitVec 1 := Scalar.cmpi .sgt c2_i32 c0_i32_116
  let v196 : BitVec 32 := Scalar.extui v195
  let c0_i32_117 : BitVec 32 := 0#32
  let v197 : BitVec 1 := Scalar.cmpi .slt c2_i32 c0_i32_117
  let v198 : BitVec 32 := Scalar.extui v197
  let v199 : BitVec 32 := Scalar.subi v196 v198
  let v200 : BitVec 1 := Scalar.cmpi .ne v194 v199
  let v201 : BitVec 32 := Scalar.remsi v0 c2_i32
  let c0_i32_118 : BitVec 32 := 0#32
  let v202 : BitVec 1 := Scalar.cmpi .ne v201 c0_i32_118
  let v203 : BitVec 1 := Scalar.andi v200 v202
  let v189 : BitVec 32 := Scalar.divsi v0 c2_i32
  let c1_i32_119 : BitVec 32 := 1#32
  let v204 : BitVec 32 := Scalar.subi v189 c1_i32_119
  let v205 : BitVec 32 := Scalar.select v203 v204 v189
  let v497 : BitVec 32 := Scalar.subi v205 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg20 : BitVec 32 := Scf.iv v501 c1_i32_356 k0_t16
  let v577 : BitVec 32 := Scalar.muli c2_i32_418 arg20
  let c1_i32_802 : BitVec 32 := 1#32
  let v2165 : BitVec 32 := Scalar.addi v577 c1_i32_802
  let v3732 : Index := Scalar.indexCast v2165
  let c7_1172 : Index := 7#32
  let c0_1173 : Index := 0#32
  let c0_1174 : Index := 0#32
  ![0, v3732.toNat, 7, 0, 0]
def k0_cond6 (i : grid0.Coords) : BitVec 1 :=
  let arg1 : BitVec 32 := BitVec.ofNat 32 (i 1).val
  let c1_i32 : BitVec 32 := 1#32
  let v0 : BitVec 32 := Scalar.addi arg1 c1_i32
  let c2_i32_120 : BitVec 32 := 2#32
  let c0_i32_121 : BitVec 32 := 0#32
  let v206 : BitVec 1 := Scalar.cmpi .eq c2_i32_120 c0_i32_121
  let c1_i32_122 : BitVec 32 := 1#32
  let v207 : BitVec 32 := Scalar.select v206 c1_i32_122 c2_i32_120
  let v208 : BitVec 32 := Scalar.remsi v0 v207
  let c0_i32_124 : BitVec 32 := 0#32
  let v210 : BitVec 1 := Scalar.cmpi .slt v208 c0_i32_124
  let c0_i32_125 : BitVec 32 := 0#32
  let v211 : BitVec 1 := Scalar.cmpi .slt v207 c0_i32_125
  let v212 : BitVec 1 := Scalar.xori v210 v211
  let c0_i32_123 : BitVec 32 := 0#32
  let v209 : BitVec 1 := Scalar.cmpi .ne v208 c0_i32_123
  let v213 : BitVec 1 := Scalar.andi v212 v209
  let v214 : BitVec 32 := Scalar.addi v208 v207
  let v215 : BitVec 32 := Scalar.select v213 v214 v208
  let c1_i32_126 : BitVec 32 := 1#32
  let v216 : BitVec 1 := Scalar.cmpi .eq v215 c1_i32_126
  let v502 : BitVec 32 := Scalar.extui v216
  let c0_i32_357 : BitVec 32 := 0#32
  let v503 : BitVec 1 := Scalar.cmpi .ne v502 c0_i32_357
  v503

def k0_off74 (i : grid0.Coords) : Fin 5 → Nat :=
  let c0_438 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v739 : Index := Scalar.indexCast v188
  let c0_439 : Index := 0#32
  let c0_440 : Index := 0#32
  let c0_441 : Index := 0#32
  ![0, v739.toNat, 0, 0, 0]
def k0_off75 (i : grid0.Coords) : Fin 5 → Nat :=
  let c0_473 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v923 : Index := Scalar.indexCast v188
  let c1_474 : Index := 1#32
  let c0_475 : Index := 0#32
  let c0_476 : Index := 0#32
  ![0, v923.toNat, 1, 0, 0]
def k0_off76 (i : grid0.Coords) : Fin 5 → Nat :=
  let c0_508 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v1107 : Index := Scalar.indexCast v188
  let c2_509 : Index := 2#32
  let c0_510 : Index := 0#32
  let c0_511 : Index := 0#32
  ![0, v1107.toNat, 2, 0, 0]
def k0_off77 (i : grid0.Coords) : Fin 5 → Nat :=
  let c0_543 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v1291 : Index := Scalar.indexCast v188
  let c3_544 : Index := 3#32
  let c0_545 : Index := 0#32
  let c0_546 : Index := 0#32
  ![0, v1291.toNat, 3, 0, 0]
def k0_off78 (i : grid0.Coords) : Fin 5 → Nat :=
  let c0_578 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v1475 : Index := Scalar.indexCast v188
  let c4_579 : Index := 4#32
  let c0_580 : Index := 0#32
  let c0_581 : Index := 0#32
  ![0, v1475.toNat, 4, 0, 0]
def k0_off79 (i : grid0.Coords) : Fin 5 → Nat :=
  let c0_613 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v1659 : Index := Scalar.indexCast v188
  let c5_614 : Index := 5#32
  let c0_615 : Index := 0#32
  let c0_616 : Index := 0#32
  ![0, v1659.toNat, 5, 0, 0]
def k0_off80 (i : grid0.Coords) : Fin 5 → Nat :=
  let c0_648 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v1843 : Index := Scalar.indexCast v188
  let c6_649 : Index := 6#32
  let c0_650 : Index := 0#32
  let c0_651 : Index := 0#32
  ![0, v1843.toNat, 6, 0, 0]
def k0_off81 (i : grid0.Coords) : Fin 5 → Nat :=
  let c0_683 : Index := 0#32
  let arg1 : BitVec 32 := BitVec.ofNat 32 (i 1).val
  let c1_i32 : BitVec 32 := 1#32
  let v0 : BitVec 32 := Scalar.addi arg1 c1_i32
  let c1_i32_113 : BitVec 32 := 1#32
  let v188 : BitVec 32 := Scalar.subi v0 c1_i32_113
  let v2027 : Index := Scalar.indexCast v188
  let c7_684 : Index := 7#32
  let c0_685 : Index := 0#32
  let c0_686 : Index := 0#32
  ![0, v2027.toNat, 7, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x17x8x80x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.InSpec.lean ====
/-
  What the input projection computes, in plain terms: the layer's rows times the projection's weights, split into the
  convolution branch, the rotated queries and keys, the values and the gates.
-/
module

public import Idealize.ShloMosaic.Lib.Pointwise

@[expose] public section

noncomputable section

namespace Cert.Proof.InSpec

open Idealize.ShloMosaic

/-- The layer's input: sequence, position, lane. -/
abbrev Rows := (⟨3, ![8, 4352, 1024]⟩ : Shape).Idx → EReal

/-- The projection's weights. -/
abbrev Weights := (⟨2, ![1024, 4168]⟩ : Shape).Idx → EReal

/-- The convolution's weights: tap, lane. -/
abbrev Taps := (⟨2, ![31, 512]⟩ : Shape).Idx → EReal

/-- One number per lane of the convolution branch. -/
abbrev Lanes := (⟨1, ![512]⟩ : Shape).Idx → EReal

/-- Column `e` of the projection at position `p` of sequence `b`. -/
def proj (h : Rows) (w : Weights) (b : Fin 8) (p : Fin 4352) (e : Fin 4168) : EReal :=
  ∑ x : Fin 1024, h (ix3 b p x) * w (ix2 x e)

/-- `x` times its sigmoid. -/
def silu (x : EReal) : EReal := x * Ideal.logistic x

/-- The rotation's angle at position `p` for the pair of lanes `d`. -/
def angle (p : Fin 4352) (d : Fin 32) : EReal :=
  FloatOps.sitofp (F := Ideal) .f32 (BitVec.ofNat 32 p.val)
    * Ideal.pow (Ideal.ofBits .f32 0x461C4000#32)
        (Ideal.div (-(Ideal.ofBits .f32 0x40000000#32 * FloatOps.sitofp (F := Ideal) .f32 (BitVec.ofNat 32 d.val)))
          (Ideal.ofBits .f32 0x42800000#32))

/-- The first half of a rotated head: lane `d`. -/
def ropeLo (x1 x2 : EReal) (p : Fin 4352) (d : Fin 32) : EReal :=
  x1 * Ideal.cos (angle p d) - x2 * Ideal.sin (angle p d)

/-- The second half of a rotated head: lane `32 + d`. -/
def ropeHi (x1 x2 : EReal) (p : Fin 4352) (d : Fin 32) : EReal :=
  x2 * Ideal.cos (angle p d) + x1 * Ideal.sin (angle p d)

/-- Heads of 64 lanes, rotated: lane `l` of a row `x` of such heads at position `p`. -/
def rope {n : ℕ} (hn : n % 64 = 0) (x : Fin n → EReal) (p : Fin 4352) (l : Fin n) : EReal :=
  if h : l.val % 64 < 32 then
    ropeLo (x l) (x ⟨l.val + 32, by omega⟩) p ⟨l.val % 64, h⟩
  else ropeHi (x ⟨l.val - 32, by omega⟩) (x l) p ⟨l.val % 64 - 32, by omega⟩

/-- Two first halves agree when their lanes do. -/
theorem ropeLo_congr {N : ℕ} (X : Fin N → EReal) (p : Fin 4352) {a a' c c' : Fin N} {d d' : Fin 32}
    (ha : a.val = a'.val) (hc : c.val = c'.val) (hd : d.val = d'.val) :
    X a * Ideal.cos (angle p d) - X c * Ideal.sin (angle p d)
      = X a' * Ideal.cos (angle p d') - X c' * Ideal.sin (angle p d') := by
  rw [Fin.ext ha, Fin.ext hc, Fin.ext hd]

/-- Two second halves agree when their lanes do. -/
theorem ropeHi_congr {N : ℕ} (X : Fin N → EReal) (p : Fin 4352) {a a' c c' : Fin N} {d d' : Fin 32}
    (ha : a.val = a'.val) (hc : c.val = c'.val) (hd : d.val = d'.val) :
    X a * Ideal.cos (angle p d) + X c * Ideal.sin (angle p d)
      = X a' * Ideal.cos (angle p d') + X c' * Ideal.sin (angle p d') := by
  rw [Fin.ext ha, Fin.ext hc, Fin.ext hd]

/-- The gated convolution input, before the convolution. -/
def u (h : Rows) (w : Weights) (b : Fin 8) (p : Fin 4352) (l : Fin 512) : EReal :=
  proj h w b p ⟨l.val, by omega⟩ * Ideal.logistic (proj h w b p ⟨512 + l.val, by omega⟩)

/-- The same with 30 rows of zeros before the first position. -/
def padded (h : Rows) (w : Weights) (b : Fin 8) (q : ℕ) (l : Fin 512) : EReal :=
  if hq : 30 ≤ q ∧ q - 30 < 4352 then u h w b ⟨q - 30, hq.2⟩ l else 0

/-- A sum over the 31 taps, written out. -/
theorem sum31 (f : Fin 31 → EReal) : ∑ j, f j =
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero, zero_add]
  rfl

/-- The causal convolution of 31 taps, each lane by itself. -/
def conv (h : Rows) (w : Weights) (cw : Taps) (cb : Lanes) (b : Fin 8) (p : Fin 4352) (l : Fin 512) : EReal :=
  (∑ j : Fin 31, padded h w b (p.val + j.val) l * cw (ix2 j l)) + cb (ix1 l)

/-- One row's layer normalisation at lane `l`. -/
def norm (v : Fin 512 → EReal) (g b : Lanes) (l : Fin 512) : EReal :=
  (v l - Ideal.div (∑ k, v k) (Ideal.ofBits .f32 0x44000000#32))
    * Ideal.rsqrt (Ideal.div (∑ k, (v k - Ideal.div (∑ k, v k) (Ideal.ofBits .f32 0x44000000#32))
          * (v k - Ideal.div (∑ k, v k) (Ideal.ofBits .f32 0x44000000#32))) (Ideal.ofBits .f32 0x44000000#32)
        + Ideal.ofBits .f32 0x3727C5AC#32) * g (ix1 l) + b (ix1 l)

/-- The convolution branch's result. -/
def yc (h : Rows) (w : Weights) (cw : Taps) (cb g lb : Lanes) (b : Fin 8) (p : Fin 4352) (l : Fin 512) : EReal :=
  silu (norm (conv h w cw cb b p) g lb l) * silu (proj h w b p ⟨1024 + l.val, by omega⟩)

/-- The rotated keys. -/
def k (h : Rows) (w : Weights) (b : Fin 8) (p : Fin 4352) (l : Fin 512) : EReal :=
  rope (n := 512) rfl (fun j => proj h w b p ⟨2048 + j.val, by omega⟩) p l

/-- The indexer's rotated keys, twice side by side. -/
def ki (h : Rows) (w : Weights) (b : Fin 8) (p : Fin 4352) (l : Fin 128) : EReal :=
  rope (n := 64) rfl (fun j => proj h w b p ⟨4096 + j.val, by omega⟩) p ⟨l.val % 64, by omega⟩

/-- The attention's gate. -/
def ga (h : Rows) (w : Weights) (b : Fin 8) (p : Fin 4352) (l : Fin 512) : EReal :=
  silu (proj h w b p ⟨3072 + l.val, by omega⟩)

/-- The rotated and scaled queries, positions along the lanes. -/
def qt (h : Rows) (w : Weights) (b : Fin 8) (l : Fin 512) (p : Fin 4352) : EReal :=
  rope (n := 512) rfl (fun j => proj h w b p ⟨1536 + j.val, by omega⟩) p l * Ideal.ofBits .f32 0x3E38AA3B#32

/-- The indexer's rotated queries, positions along the lanes. -/
def qit (h : Rows) (w : Weights) (b : Fin 8) (l : Fin 512) (p : Fin 4352) : EReal :=
  rope (n := 512) rfl (fun j => proj h w b p ⟨3584 + j.val, by omega⟩) p l

/-- The values of block `t` of 256 positions and head `g`, positions along the lanes, with 16 rows of ones below. -/
def vt (h : Rows) (w : Weights) (b : Fin 8) (t : Fin 17) (g : Fin 8) (r : Fin 80) (s : Fin 256) : EReal :=
  if hr : r.val < 64 then
    proj h w b ⟨t.val * 256 + s.val, by omega⟩ ⟨2560 + (g.val * 64 + r.val), by omega⟩
  else 1

/-- The indexer's scaled head weights, positions along the lanes. -/
def wt (h : Rows) (w : Weights) (b : Fin 8) (g : Fin 8) (p : Fin 4352) : EReal :=
  proj h w b p ⟨4160 + g.val, by omega⟩ * Ideal.ofBits .f32 0x3D3504F3#32

end Cert.Proof.InSpec

end
-- ==== Proof.InBlock.lean ====
/-
  The input projection's kernel at the ideal instance, point by point: what the body leaves in each result's block, in
  terms of the blocks it reads.
-/
module

public import proofs.«01_k».proof.Proof.InSpec
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InBlock

open Idealize.ShloMosaic Idealize.ShloMosaic.TcCoe Idealize.SL.Sem
open Cert.KernelIdeal Cert.KernelIdeal.Gen

variable (m : (ℓ : Loc nD τ sig) → Buf (Elt Ideal) ℓ)

/-- Row `r` of a block of rows times column `e` of weights laid out for the row results. -/
def rowOf (x0 : Vec Ideal S1x256x1024 .f32) (x1 : Vec Ideal S1024x2688 .bf16) (r : Fin 256) (e : Fin 2688) : EReal :=
  ∑ x : Fin 1024, x0 (ix3 0 r x) * x1 (ix2 x e)

/-- Row `e` of weights laid out for the transposed results times row `r` of a block of rows. -/
def colOf (x0 : Vec Ideal S1x256x1024 .f32) (x2 : Vec Ideal S1552x1024 .bf16) (e : Fin 1552) (r : Fin 256) : EReal :=
  ∑ x : Fin 1024, x2 (ix2 e x) * x0 (ix3 0 r x)

/-- Row `r` of point `t`'s block times column `e` of the weights laid out for the row results. -/
def row (c : Dev nD) (t : Fin cfg0.N) (r : Fin 256) (e : Fin 2688) : EReal :=
  rowOf (iblk m c 0 t) (iblk m c 1 t) r e

/-- Row `e` of the weights laid out for the transposed results times row `r` of point `t`'s block. -/
def col (c : Dev nD) (t : Fin cfg0.N) (e : Fin 1552) (r : Fin 256) : EReal :=
  colOf (iblk m c 0 t) (iblk m c 2 t) e r

/-- The body's lane mask: the first half of each head of 64 lanes. -/
theorem mask (r : Fin 256) (l : Fin 128) :
    k0_pay33 k0_pay30 k0_pay31 k0_pay32 (ix2 r l) = if l.val % 64 < 32 then 1#1 else 0#1 := by
  pointwise [k0_pay33, k0_pay30, k0_pay31, k0_pay32]
  revert l
  decide +kernel

/-- A choice by a decided bit. -/
theorem sel {α : Type} (P : Prop) [Decidable P] (a b : α) :
    Scalar.select (if P then 1#1 else 0#1) a b = if P then a else b := by
  split <;> rfl

/-- A lane and its partner, each times its table's entry: equal when the lanes are. -/
theorem pair {n k : ℕ} (X : Fin n → EReal) (C S : Fin k → EReal) {a a' b b' : Fin n} {d d' : Fin k}
    (ha : a.val = a'.val) (hb : b.val = b'.val) (hd : d.val = d'.val) :
    X a * C d + X b * S d = X a' * C d' + X b' * S d' := by
  rw [Fin.ext ha, Fin.ext hb, Fin.ext hd]

end Cert.Proof.InBlock

end
-- ==== Proof.InKeys.lean ====
/-
  The rotated keys and the indexer's rotated keys, block by block.
-/
module

public import proofs.«01_k».proof.Proof.InBlock
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InKeys

open Idealize.ShloMosaic Idealize.ShloMosaic.TcCoe Idealize.SL.Sem
open Cert.KernelIdeal Cert.KernelIdeal.Gen

open InBlock

variable (m : (ℓ : Loc nD τ sig) → Buf (Elt Ideal) ℓ)

set_option maxHeartbeats 2000000 in
/-- The keys' payload. -/
theorem pay34At (v2 : FVec Ideal S256x1024 .bf16) (v249 v251 : FVec Ideal S256x128 .f32) (w : Vec Ideal S1024x512 .bf16) (r : Fin 256) (l : Fin 512) :
    k0_pay34 v2 v249 v251 k0_pay30 k0_pay31 k0_pay32 w (ix3 0 r l) =
      (∑ x, v2 (ix2 r x) * w (ix2 x l)) * v249 (ix2 r ⟨l.val % 128, by omega⟩) +
      (if h : l.val % 64 < 32 then (∑ x, v2 (ix2 r x) * w (ix2 x ⟨l.val + 32, by omega⟩)) else
       (∑ x, v2 (ix2 r x) * w (ix2 x ⟨l.val - 32, by omega⟩))) * v251 (ix2 r ⟨l.val % 128, by omega⟩) := by
  unfold k0_pay34
  dsimp only
  generalize hX : matmul dot_S256x1024_S1024x512_S256x512_1_0_0_1_n_n none v2 (shapeCast S1024x512 w shapeCasts_S1024x512_S1024x512) (constant S256x512 .f32 0x00000000#32) = X
  have hXat : ∀ (r : Fin 256) (l : Fin 512), X (ix2 r l) = ∑ x, v2 (ix2 r x) * w (ix2 x l) := by
    intro r l
    rw [← hX]
    pointwise
  simp only [← hXat]
  clear hXat hX
  generalize hM : k0_pay33 k0_pay30 k0_pay31 k0_pay32 = M
  have hMat : ∀ (r : Fin 256) (l : Fin 128), M (ix2 r l) = if l.val % 64 < 32 then 1#1 else 0#1 := by
    intro r l
    rw [← hM]
    exact mask r l
  pointwise [hMat]
  simp only [sel]
  repeat' split
  all_goals first
    | (exfalso; omega)
    | (refine pair (fun j => X (ix2 r j)) (fun j => v249 (ix2 r j)) (fun j => v251 (ix2 r j)) ?_ ?_ ?_ <;> dsimp only <;> omega)

/-- The indexer's keys' payload. -/
theorem pay37At (v2 : FVec Ideal S256x1024 .bf16) (v249 v251 : FVec Ideal S256x128 .f32) (w : Vec Ideal S1024x128 .bf16) (r : Fin 256) (l : Fin 128) :
    k0_pay37 v2 v249 v251 (k0_pay33 k0_pay30 k0_pay31 k0_pay32) w (ix3 0 r l) =
      (∑ x, v2 (ix2 r x) * w (ix2 x l)) * v249 (ix2 r l) +
      (if h : l.val % 64 < 32 then (∑ x, v2 (ix2 r x) * w (ix2 x ⟨l.val + 32, by omega⟩)) else
       (∑ x, v2 (ix2 r x) * w (ix2 x ⟨l.val - 32, by omega⟩))) * v251 (ix2 r l) := by
  pointwise [k0_pay37, mask]
  simp only [sel]
  repeat' split
  all_goals first
    | (exfalso; omega)
    | (refine pair (fun j => ∑ x, v2 (ix2 r x) * w (ix2 x j)) (fun j => v249 (ix2 r j)) (fun j => v251 (ix2 r j)) ?_ ?_ ?_ <;> dsimp only <;> omega)

/-- The keys' block. -/
theorem block_k (c : Dev nD) (t : Fin cfg0.N) (r : Fin 256) (l : Fin 512) :
    ((outsAt0 m c t.val t.isLt).2.1 : S1x256x512.Idx → EReal) (ix3 0 r l) =
      row m c t r ⟨1536 + l.val, by omega⟩ * (iblk m c 7 t : S256x128.Idx → EReal) (ix2 r ⟨l.val % 128, by omega⟩)
        + (if h : l.val % 64 < 32 then row m c t r ⟨1536 + (l.val + 32), by omega⟩ else row m c t r ⟨1536 + (l.val - 32), by omega⟩)
          * (iblk m c 8 t : S256x128.Idx → EReal) (ix2 r ⟨l.val % 128, by omega⟩) := by
  by_cases h0 : t.val % 17 = 0
  all_goals first | rw [outsAt0_A m c t h0] | rw [outsAt0_B m c t h0]
  all_goals dsimp only
  all_goals frame_out
  all_goals refine (pay34At _ _ _ _ _ _).trans ?_
  all_goals unfold row rowOf
  all_goals pointwise [k0_pay2, k0_pay28, k0_pay29]

/-- The indexer's keys' block. -/
theorem block_ki (c : Dev nD) (t : Fin cfg0.N) (r : Fin 256) (l : Fin 128) :
    ((outsAt0 m c t.val t.isLt).2.2.1 : S1x256x128.Idx → EReal) (ix3 0 r l) =
      row m c t r ⟨2560 + l.val, by omega⟩ * (iblk m c 7 t : S256x128.Idx → EReal) (ix2 r l)
        + (if h : l.val % 64 < 32 then row m c t r ⟨2560 + (l.val + 32), by omega⟩ else row m c t r ⟨2560 + (l.val - 32), by omega⟩)
          * (iblk m c 8 t : S256x128.Idx → EReal) (ix2 r l) := by
  by_cases h0 : t.val % 17 = 0
  all_goals first | rw [outsAt0_A m c t h0] | rw [outsAt0_B m c t h0]
  all_goals dsimp only
  all_goals frame_out
  all_goals refine (pay37At _ _ _ _ _ _).trans ?_
  all_goals unfold row rowOf
  all_goals pointwise [k0_pay2, k0_pay28, k0_pay29]

end Cert.Proof.InKeys

end
-- ==== Proof.InPoints.lean ====
/-
  The grid's points: which sequence and which 256 positions each takes, and which block each window holds there.
-/
module

public import proofs.«01_k».proof.Proof.InBlock
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.Proof.InPoints

open Idealize.ShloMosaic Idealize.ShloMosaic.TcCoe Idealize.SL.Sem
open Cert.KernelIdeal Cert.KernelIdeal.Gen

/-- A point's sequence is one of the eight. -/
theorem seqLt (n : ℕ) (hn : n < 136) : n / 17 < 8 := by omega

/-- A point's positions are among the 4352. -/
theorem posLt (n : ℕ) (r : Fin 256) : n % 17 * 256 + r.val < 4352 := by omega

/-- There are 136 points. -/
theorem lt (t : Fin cfg0.N) : t.val < 136 := by
  exact lt_of_lt_of_eq t.isLt N_0

/-- The sequence point `t` takes. -/
def seq (t : Fin cfg0.N) : Fin 8 := ⟨t.val / 17, seqLt t.val (lt t)⟩

/-- The position row `r` of point `t` takes. -/
def pos (t : Fin cfg0.N) (r : Fin 256) : Fin 4352 := ⟨t.val % 17 * 256 + r.val, posLt t.val r⟩

/-- Which block each operand's window takes at point `t`. -/
theorem idxIn : ∀ t : Fin cfg0.N, win0_0.index t = ![t.val / 17, t.val % 17, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val % 17, 0] ∧ win0_8.index t = ![t.val % 17, 0]
    ∧ win0_9.index t = ![0, t.val % 17] ∧ win0_10.index t = ![0, t.val % 17] :=
  (by decide +kernel : ∀ t : Fin grid0.N, _)

/-- Which block each result's window takes at point `t`. -/
theorem idxOut : ∀ t : Fin cfg0.N, win0_11.index t = ![t.val / 17, t.val % 17, 0] ∧ win0_12.index t = ![t.val / 17, t.val % 17, 0]
    ∧ win0_13.index t = ![t.val / 17, t.val % 17, 0] ∧ win0_14.index t = ![t.val / 17, t.val % 17, 0]
    ∧ win0_15.index t = ![t.val / 17, 0, t.val % 17] ∧ win0_16.index t = ![t.val / 17, 0, t.val % 17]
    ∧ win0_17.index t = ![t.val / 17, t.val % 17, 0, 0, 0] ∧ win0_18.index t = ![t.val / 17, 0, t.val % 17] :=
  (by decide +kernel : ∀ t : Fin grid0.N, _)

end Cert.Proof.InPoints

end
-- ==== Proof.InWeights.lean ====
/-
  The arrays the input projection's host code lays out for the kernel, entry by entry: the weights' columns in the order
  the kernel takes them, the rotation's tables, and the lanes' vectors under a unit axis.
-/
module

public import proofs.«01_k».proof.Proof.InSpec
public import proofs.«01_k».proof.Proof.Gen.KernelIdeal.Frame
public import Idealize.ShloMosaic.Lib.Claim
public import Idealize.ShloMosaic.Lib.Pointwise

@[expose] public section

set_option maxRecDepth 16384

noncomputable section

namespace Cert.Proof.InWeights

open Idealize.ShloMosaic Idealize.ShloMosaic.TcCoe Idealize.SL.Sem
open Cert.KernelIdeal Cert.KernelIdeal.Gen

/-- The weights laid out for the row results. -/
def wn (w : FVec Ideal S1024x4168 .f32) : FVec Ideal S1024x2688 .bf16 :=
  truncf (F := Ideal) .bf16 (concatenate S1024x2688 1 [⟨S1024x512, extractStridedSlice S1024x512 ![0, 0] w slices_S1024x4168_S1024x512_0_0⟩,
    ⟨S1024x512, extractStridedSlice S1024x512 ![0, 512] w slices_S1024x4168_S1024x512_0_512⟩,
    ⟨S1024x512, extractStridedSlice S1024x512 ![0, 1024] w slices_S1024x4168_S1024x512_0_1024⟩,
    ⟨S1024x512, extractStridedSlice S1024x512 ![0, 2048] w slices_S1024x4168_S1024x512_0_2048⟩,
    ⟨S1024x512, extractStridedSlice S1024x512 ![0, 3072] w slices_S1024x4168_S1024x512_0_3072⟩,
    ⟨S1024x64, extractStridedSlice S1024x64 ![0, 4096] w slices_S1024x4168_S1024x64_0_4096⟩,
    ⟨S1024x64, extractStridedSlice S1024x64 ![0, 4096] w slices_S1024x4168_S1024x64_0_4096⟩]
    concatenates_S1024x512_S1024x512_S1024x512_S1024x512_S1024x512_S1024x64_S1024x64_S1024x2688_d1) bitsLt_bf16_f32

/-- The weights laid out for the transposed results. -/
def wt (w : FVec Ideal S1024x4168 .f32) : FVec Ideal S1552x1024 .bf16 :=
  truncf (F := Ideal) .bf16 (transpose S1552x1024 [1, 0] (concatenate S1024x1552 1
    [⟨S1024x512, extractStridedSlice S1024x512 ![0, 1536] w slices_S1024x4168_S1024x512_0_1536⟩,
    ⟨S1024x512, extractStridedSlice S1024x512 ![0, 3584] w slices_S1024x4168_S1024x512_0_3584⟩,
    ⟨S1024x512, extractStridedSlice S1024x512 ![0, 2560] w slices_S1024x4168_S1024x512_0_2560⟩,
    ⟨S1024x8, extractStridedSlice S1024x8 ![0, 4160] w slices_S1024x4168_S1024x8_0_4160⟩,
    ⟨S1024x8, broadcastInDim S1024x8 ![] bcast_S_S1024x8 (constant (F := Ideal) S_ .f32 0x00000000#32)⟩]
    concatenates_S1024x512_S1024x512_S1024x512_S1024x8_S1024x8_S1024x1552_d1) transposes_S1024x1552_S1552x1024_1_0) bitsLt_bf16_f32

/-- An entry is the one at an equal column. -/
theorem lane (w : FVec Ideal S1024x4168 .f32) (x : Fin 1024) {a b : ℕ} {ha : a < 4168} {hb : b < 4168} (h : a = b) :
    (w (ix2 x ⟨a, ha⟩) : EReal) = w (ix2 x ⟨b, hb⟩) := by
  subst h
  rfl

/-- The convolution's columns and its gate's. -/
theorem wnA (w : FVec Ideal S1024x4168 .f32) (x : Fin 1024) (e : Fin 2688) (h : e.val < 1536) :
    (wn w : S1024x2688.Idx → EReal) (ix2 x e) = w (ix2 x ⟨e.val, by omega⟩) := by
  pointwise [wn] <;> (try split_ifs) <;> first | (exfalso; omega) | exact lane _ _ (by omega)

/-- The keys' columns. -/
theorem wnK (w : FVec Ideal S1024x4168 .f32) (x : Fin 1024) (l : Fin 512) :
    (wn w : S1024x2688.Idx → EReal) (ix2 x ⟨1536 + l.val, by omega⟩) = w (ix2 x ⟨2048 + l.val, by omega⟩) := by
  pointwise [wn] <;> (try split_ifs) <;> first | (exfalso; omega) | exact lane _ _ (by omega)

/-- The attention's gate's columns. -/
theorem wnZ (w : FVec Ideal S1024x4168 .f32) (x : Fin 1024) (l : Fin 512) :
    (wn w : S1024x2688.Idx → EReal) (ix2 x ⟨2048 + l.val, by omega⟩) = w (ix2 x ⟨3072 + l.val, by omega⟩) := by
  pointwise [wn] <;> (try split_ifs) <;> first | (exfalso; omega) | exact lane _ _ (by omega)

/-- The indexer's keys' columns, twice side by side. -/
theorem wnI (w : FVec Ideal S1024x4168 .f32) (x : Fin 1024) (l : Fin 128) :
    (wn w : S1024x2688.Idx → EReal) (ix2 x ⟨2560 + l.val, by omega⟩) = w (ix2 x ⟨4096 + l.val % 64, by omega⟩) := by
  pointwise [wn] <;> (try split_ifs) <;> first | (exfalso; omega) | exact lane _ _ (by omega)

/-- The queries' rows. -/
theorem wtQ (w : FVec Ideal S1024x4168 .f32) (x : Fin 1024) (l : Fin 512) :
    (wt w : S1552x1024.Idx → EReal) (ix2 ⟨0 + l.val, by omega⟩ x) = w (ix2 x ⟨1536 + l.val, by omega⟩) := by
  pointwise [wt] <;> (try split_ifs) <;> first | (exfalso; omega) | exact lane _ _ (by omega)

/-- The indexer's queries' rows. -/
theorem wtI (w : FVec Ideal S1024x4168 .f32) (x : Fin 1024) (l : Fin 512) :
    (wt w : S1552x1024.Idx → EReal) (ix2 ⟨512 + l.val, by omega⟩ x) = w (ix2 x ⟨3584 + l.val, by omega⟩) := by
  pointwise [wt] <;> (try split_ifs) <;> first | (exfalso; omega) | exact lane _ _ (by omega)

/-- The values' rows. -/
theorem wtV (w : FVec Ideal S1024x4168 .f32) (x : Fin 1024) (l : Fin 512) :
    (wt w : S1552x1024.Idx → EReal) (ix2 ⟨1024 + l.val, by omega⟩ x) = w (ix2 x ⟨2560 + l.val, by omega⟩) := by
  pointwise [wt] <;> (try split_ifs) <;> first | (exfalso; omega) | exact lane _ _ (by omega)

/-- The indexer's head weights' rows. -/
theorem wtW (w : FVec Ideal S1024x4168 .f32) (x : Fin 1024) (l : Fin 8) :
    (wt w : S1552x1024.Idx → EReal) (ix2 ⟨1536 + l.val, by omega⟩ x) = w (ix2 x ⟨4160 + l.val, by omega⟩) := by
  pointwise [wt] <;> (try split_ifs) <;> first | (exfalso; omega) | exact lane _ _ (by omega)

/-- A vector of lanes under a leading unit axis. -/
theorem lanes (x : FVec Ideal S512 .f32) (k : Fin 512) :
    (broadcastInDim S1x512 ![1] bcast_S512_S1x512_1 x : S1x512.Idx → EReal) (ix2 0 k) = x (ix1 k) := by
  pointwise

/-- The rotation's angles, position by pair of lanes. -/
def angles : FVec Ideal S4352x32 .f32 :=
  mulf (broadcastInDim S4352x32 ![0, 1] bcast_S4352x1_S4352x32_0_1 (broadcastInDim S4352x1 ![0] bcast_S4352_S4352x1_0
      (sitofp (F := Ideal) .f32 (iotaInDim S4352 32 0))))
    (broadcastInDim S4352x32 ![0, 1] bcast_S1x32_S4352x32_0_1 (broadcastInDim S1x32 ![1] bcast_S32_S1x32_1
      (Host.powf (broadcastInDim S32 ![] bcast_S_S32 (constant (F := Ideal) S_ .f32 0x461C4000#32))
        (Host.divf (Host.negf (addf (broadcastInDim S32 ![] bcast_S_S32 (constant (F := Ideal) S_ .f32 0x00000000#32))
            (mulf (broadcastInDim S32 ![] bcast_S_S32 (constant (F := Ideal) S_ .f32 0x40000000#32)) (sitofp (F := Ideal) .f32 (iotaInDim S32 32 0)))))
          (broadcastInDim S32 ![] bcast_S_S32 (constant (F := Ideal) S_ .f32 0x42800000#32))))))

/-- Entry by entry. -/
theorem anglesAt (p : Fin 4352) (d : Fin 32) : (angles : S4352x32.Idx → EReal) (ix2 p d) = InSpec.angle p d := by
  pointwise [angles, InSpec.angle]

/-- Their cosines. -/
theorem cosAt (p : Fin 4352) (d : Fin 32) : (Host.cos angles : S4352x32.Idx → EReal) (ix2 p d) = Ideal.cos (InSpec.angle p d) := by
  pointwise [angles, InSpec.angle]

/-- Their sines. -/
theorem sinAt (p : Fin 4352) (d : Fin 32) : (Host.sin angles : S4352x32.Idx → EReal) (ix2 p d) = Ideal.sin (InSpec.angle p d) := by
  pointwise [angles, InSpec.angle]

/-- A table of 32 lanes repeated four times side by side. -/
theorem four (x : FVec Ideal S4352x32 .f32) (p : Fin 4352) (l : Fin 128) :
    (shapeCast S4352x128 (broadcastInDim S1x4352x4x32 ![0, 1, 2, 3] bcast_S1x4352x1x32_S1x4352x4x32_0_1_2_3
      (shapeCast S1x4352x1x32 x shapeCasts_S4352x32_S1x4352x1x32)) shapeCasts_S1x4352x4x32_S4352x128 : S4352x128.Idx → EReal) (ix2 p l)
      = x (ix2 p ⟨l.val % 32, by omega⟩) := by
  pointwise

/-- A table of 64 lanes repeated twice side by side. -/
theorem two (x : FVec Ideal S4352x64 .f32) (p : Fin 4352) (l : Fin 128) :
    (shapeCast S4352x128 (broadcastInDim S1x4352x2x64 ![0, 1, 2, 3] bcast_S1x4352x1x64_S1x4352x2x64_0_1_2_3
      (shapeCast S1x4352x1x64 x shapeCasts_S4352x64_S1x4352x1x64)) shapeCasts_S1x4352x2x64_S4352x128 : S4352x128.Idx → EReal) (ix2 p l)
      = x (ix2 p ⟨l.val % 64, by omega⟩) := by
  pointwise

/-- A table's negation beside the table. -/
theorem signed (x : FVec Ideal S4352x32 .f32) (p : Fin 4352) (l : Fin 64) :
    (concatenate S4352x64 1 [⟨S4352x32, Host.negf x⟩, ⟨S4352x32, x⟩] concatenates_S4352x32_S4352x32_S4352x64_d1 : S4352x64.Idx → EReal) (ix2 p l)
      = if h : l.val < 32 then -(x (ix2 p ⟨l.val, h⟩) : EReal) else x (ix2 p ⟨l.val - 32, by omega⟩) := by
  pointwise

/-- A table turned: lanes by positions. -/
theorem turned (x : FVec Ideal S4352x32 .f32) (d : Fin 32) (p : Fin 4352) :
    (transpose S32x4352 [1, 0] x transposes_S4352x32_S32x4352_1_0 : S32x4352.Idx → EReal) (ix2 d p) = x (ix2 p d) := by
  pointwise

/-- The cosines repeated four times. -/
theorem cos4 (p : Fin 4352) (l : Fin 128) :
    (shapeCast S4352x128 (broadcastInDim S1x4352x4x32 ![0, 1, 2, 3] bcast_S1x4352x1x32_S1x4352x4x32_0_1_2_3
      (shapeCast S1x4352x1x32 (Host.cos angles) shapeCasts_S4352x32_S1x4352x1x32)) shapeCasts_S1x4352x4x32_S4352x128 : S4352x128.Idx → EReal) (ix2 p l)
      = Ideal.cos (InSpec.angle p ⟨l.val % 32, by omega⟩) :=
  (four _ _ _).trans (cosAt _ _)

/-- The sines, negated beside not, repeated twice. -/
theorem sin4 (p : Fin 4352) (l : Fin 128) :
    (shapeCast S4352x128 (broadcastInDim S1x4352x2x64 ![0, 1, 2, 3] bcast_S1x4352x1x64_S1x4352x2x64_0_1_2_3
      (shapeCast S1x4352x1x64 (concatenate S4352x64 1 [⟨S4352x32, Host.negf (Host.sin angles)⟩, ⟨S4352x32, Host.sin angles⟩]
        concatenates_S4352x32_S4352x32_S4352x64_d1) shapeCasts_S4352x64_S1x4352x1x64)) shapeCasts_S1x4352x2x64_S4352x128
        : S4352x128.Idx → EReal) (ix2 p l)
      = if h : l.val % 64 < 32 then -Ideal.sin (InSpec.angle p ⟨l.val % 64, h⟩)
        else Ideal.sin (InSpec.angle p ⟨l.val % 64 - 32, by omega⟩) := by
  refine (two _ _ _).trans ((signed _ _ _).trans ?_)
  simp only [sinAt]

/-- The cosines turned. -/
theorem cosT (d : Fin 32) (p : Fin 4352) :
    (transpose S32x4352 [1, 0] (Host.cos angles) transposes_S4352x32_S32x4352_1_0 : S32x4352.Idx → EReal) (ix2 d p)
      = Ideal.cos (InSpec.angle p d) :=
  (turned _ _ _).trans (cosAt _ _)

/-- The sines turned. -/
theorem sinT (d : Fin 32) (p : Fin 4352) :
    (transpose S32x4352 [1, 0] (Host.sin angles) transposes_S4352x32_S32x4352_1_0 : S32x4352.Idx → EReal) (ix2 d p)
      = Ideal.sin (InSpec.angle p d) :=
  (turned _ _ _).trans (sinAt _ _)

end Cert.Proof.InWeights

end
-- ==== Proof.InEntry.lean ====
/-
  The blocks of the kernel's operands at a point: rows, taps and lanes.
-/
module

public import proofs.«01_k».proof.Proof.InPoints
public import proofs.«01_k».proof.Proof.InWeights
public import Idealize.ShloMosaic.Lib.Tactic.CleanTypes

@[expose] public section

set_option maxRecDepth 16384

noncomputable section

namespace Cert.Proof.InEntry

open Idealize.ShloMosaic Idealize.ShloMosaic.TcCoe Idealize.SL.Sem
open Cert.KernelIdeal Cert.KernelIdeal.Gen
open InPoints

variable (m : (ℓ : Loc nD τ sig) → Buf (Elt Ideal) ℓ)

set_option maxHeartbeats 2000000 in
/-- A row of the layer's input. -/
theorem arrH (c : Dev nD) (t : Fin cfg0.N) (r : Fin 256) (x : Fin 1024) :
    (iblk m c 0 t : S1x256x1024.Idx → EReal) (ix3 0 r x) = (m (c.tc.loc main_arg0) : S8x4352x1024.Idx → EReal) (ix3 (seq t) (pos t r) x) := by
  have e0 := (idxIn t).1
  have p : ((View.whole main_arg0).slice (win0_0.rect t)).emb (ix3 0 r x) = (ix3 (seq t) (pos t r) x : S8x4352x1024.Idx) := by
    blk_ext [e0]
    all_goals rfl
  simp only [iblk]
  blk_simp [e0]
  entry_read
  rw [p]

set_option maxHeartbeats 2000000 in
/-- The convolution's weights. -/
theorem arrT (c : Dev nD) (t : Fin cfg0.N) (x : Fin 31) (l : Fin 512) :
    (iblk m c 3 t : S31x512.Idx → EReal) (ix2 x l) = (m (c.tc.loc main_arg2) : S31x512.Idx → EReal) (ix2 x l) := by
  have e3 := (idxIn t).2.2.2.1
  have p : ((View.whole main_arg2).slice (win0_3.rect t)).emb (ix2 x l) = (ix2 x l : S31x512.Idx) := by
    blk_ext [e3]
  simp only [iblk]
  blk_simp [e3]
  entry_read
  rw [p]

set_option maxHeartbeats 2000000 in
/-- The convolution's bias. -/
theorem arr4 (c : Dev nD) (t : Fin cfg0.N) (l : Fin 512) :
    (iblk m c 4 t : S1x512.Idx → EReal) (ix2 0 l) = (m (c.tc.loc main_arg3) : S512.Idx → EReal) (ix1 l) := by
  have e4 := (idxIn t).2.2.2.2.1
  have p : ((View.whole main_v44).slice (win0_4.rect t)).emb (ix2 0 l) = (ix2 0 l : S1x512.Idx) := by
    blk_ext [e4]
  simp only [iblk]
  blk_simp [e4]
  entry_read
  rw [p]
  exact InWeights.lanes _ _

set_option maxHeartbeats 2000000 in
/-- The normalisation's scale. -/
theorem arr5 (c : Dev nD) (t : Fin cfg0.N) (l : Fin 512) :
    (iblk m c 5 t : S1x512.Idx → EReal) (ix2 0 l) = (m (c.tc.loc main_arg4) : S512.Idx → EReal) (ix1 l) := by
  have e5 := (idxIn t).2.2.2.2.2.1
  have p : ((View.whole main_v45).slice (win0_5.rect t)).emb (ix2 0 l) = (ix2 0 l : S1x512.Idx) := by
    blk_ext [e5]
  simp only [iblk]
  blk_simp [e5]
  entry_read
  rw [p]
  exact InWeights.lanes _ _

set_option maxHeartbeats 2000000 in
/-- The normalisation's shift. -/
theorem arr6 (c : Dev nD) (t : Fin cfg0.N) (l : Fin 512) :
    (iblk m c 6 t : S1x512.Idx → EReal) (ix2 0 l) = (m (c.tc.loc main_arg5) : S512.Idx → EReal) (ix1 l) := by
  have e6 := (idxIn t).2.2.2.2.2.2.1
  have p : ((View.whole main_v46).slice (win0_6.rect t)).emb (ix2 0 l) = (ix2 0 l : S1x512.Idx) := by
    blk_ext [e6]
  simp only [iblk]
  blk_simp [e6]
  entry_read
  rw [p]
  exact InWeights.lanes _ _

end Cert.Proof.InEntry

end
-- ==== Proof.InEntryW.lean ====
/-
  The blocks of the kernel's operands at a point: the weights.
-/
module

public import proofs.«01_k».proof.Proof.InPoints
public import proofs.«01_k».proof.Proof.InWeights
public import Idealize.ShloMosaic.Lib.Tactic.CleanTypes

@[expose] public section

set_option maxRecDepth 16384

noncomputable section

namespace Cert.Proof.InEntryW

open Idealize.ShloMosaic Idealize.ShloMosaic.TcCoe Idealize.SL.Sem
open Cert.KernelIdeal Cert.KernelIdeal.Gen
open InPoints

variable (m : (ℓ : Loc nD τ sig) → Buf (Elt Ideal) ℓ)

/-- The array of the weights for the row results when the kernel starts. -/
theorem startN (c : Dev nD) : (V m c main_v35 : S1024x2688.Idx → EReal) = InWeights.wn (m (c.tc.loc main_arg1)) := by
  rfl

/-- The array of the weights for the transposed results when the kernel starts. -/
theorem startC (c : Dev nD) : (V m c main_v43 : S1552x1024.Idx → EReal) = InWeights.wt (m (c.tc.loc main_arg1)) := by
  rfl

set_option maxHeartbeats 2000000 in
/-- The weights for the row results. -/
theorem arrN (c : Dev nD) (t : Fin cfg0.N) (x : Fin 1024) (e : Fin 2688) :
    (iblk m c 1 t : S1024x2688.Idx → EReal) (ix2 x e) = (InWeights.wn (m (c.tc.loc main_arg1)) : S1024x2688.Idx → EReal) (ix2 x e) := by
  have e1 := (idxIn t).2.1
  have p : ((View.whole main_v35).slice (win0_1.rect t)).emb (ix2 x e) = (ix2 x e : S1024x2688.Idx) := by
    blk_ext [e1]
  simp only [iblk]
  blk_simp [e1]
  rw [p]
  exact congrFun (startN m c) _

set_option maxHeartbeats 2000000 in
/-- The weights for the transposed results. -/
theorem arrC (c : Dev nD) (t : Fin cfg0.N) (e : Fin 1552) (x : Fin 1024) :
    (iblk m c 2 t : S1552x1024.Idx → EReal) (ix2 e x) = (InWeights.wt (m (c.tc.loc main_arg1)) : S1552x1024.Idx → EReal) (ix2 e x) := by
  have e2 := (idxIn t).2.2.1
  have p : ((View.whole main_v43).slice (win0_2.rect t)).emb (ix2 e x) = (ix2 e x : S1552x1024.Idx) := by
    blk_ext [e2]
  simp only [iblk]
  blk_simp [e2]
  rw [p]
  exact congrFun (startC m c) _

end Cert.Proof.InEntryW

end
-- ==== Proof.InRows.lean ====
/-
  A point's rows and columns of the projection, in terms of the arguments.
-/
module

public import proofs.«01_k».proof.Proof.InEntry
public import proofs.«01_k».proof.Proof.InEntryW

@[expose] public section

set_option maxRecDepth 16384

noncomputable section

namespace Cert.Proof.InRows

open Idealize.ShloMosaic Idealize.ShloMosaic.TcCoe Idealize.SL.Sem
open Cert.KernelIdeal Cert.KernelIdeal.Gen
open InPoints InBlock

variable (m : (ℓ : Loc nD τ sig) → Buf (Elt Ideal) ℓ)

/-- The layer's input. -/
abbrev h (c : Dev nD) : InSpec.Rows := m (c.tc.loc main_arg0)
/-- The projection's weights. -/
abbrev w (c : Dev nD) : InSpec.Weights := m (c.tc.loc main_arg1)
/-- The convolution's weights. -/
abbrev cw (c : Dev nD) : InSpec.Taps := m (c.tc.loc main_arg2)
/-- The convolution's bias. -/
abbrev cb (c : Dev nD) : InSpec.Lanes := m (c.tc.loc main_arg3)
/-- The normalisation's scale. -/
abbrev lg (c : Dev nD) : InSpec.Lanes := m (c.tc.loc main_arg4)
/-- The normalisation's shift. -/
abbrev lb (c : Dev nD) : InSpec.Lanes := m (c.tc.loc main_arg5)

/-- A row's product with a column of the weights. -/
theorem rowAt (c : Dev nD) (t : Fin cfg0.N) (r : Fin 256) (e : Fin 2688) (e' : Fin 4168)
    (he : ∀ x : Fin 1024, (InWeights.wn (w m c) : S1024x2688.Idx → EReal) (ix2 x e) = w m c (ix2 x e')) :
    row m c t r e = InSpec.proj (h m c) (w m c) (seq t) (pos t r) e' := by
  unfold row rowOf InSpec.proj
  refine Finset.sum_congr rfl fun x _ => ?_
  exact congrArg₂ (fun a b : EReal => a * b) (InEntry.arrH m c t r x) ((InEntryW.arrN m c t x e).trans (he x))

/-- A column of the transposed results. -/
theorem colAt (c : Dev nD) (t : Fin cfg0.N) (r : Fin 256) (e : Fin 1552) (e' : Fin 4168)
    (he : ∀ x : Fin 1024, (InWeights.wt (w m c) : S1552x1024.Idx → EReal) (ix2 e x) = w m c (ix2 x e')) :
    col m c t e r = InSpec.proj (h m c) (w m c) (seq t) (pos t r) e' := by
  unfold col colOf InSpec.proj
  refine Finset.sum_congr rfl fun x _ => ?_
  refine (congrArg₂ (fun a b : EReal => a * b) ((InEntryW.arrC m c t e x).trans (he x)) (InEntry.arrH m c t r x)).trans (mul_comm _ _)

/-- The convolution's columns and its gate's. -/
theorem rowA (c : Dev nD) (t : Fin cfg0.N) (r : Fin 256) (e : Fin 2688) (he : e.val < 1536) :
    row m c t r e = InSpec.proj (h m c) (w m c) (seq t) (pos t r) ⟨e.val, Nat.lt_trans he (by decide)⟩ :=
  rowAt m c t r e _ fun x => InWeights.wnA _ x e he

/-- The keys' columns. -/
theorem rowK (c : Dev nD) (t : Fin cfg0.N) (r : Fin 256) (l : Fin 512) (hl : 1536 + l.val < 2688) (hl' : 2048 + l.val < 4168) :
    row m c t r ⟨1536 + l.val, hl⟩ = InSpec.proj (h m c) (w m c) (seq t) (pos t r) ⟨2048 + l.val, hl'⟩ :=
  rowAt m c t r _ _ fun x => InWeights.wnK _ x l

/-- The attention's gate's columns. -/
theorem rowZ (c : Dev nD) (t : Fin cfg0.N) (r : Fin 256) (l : Fin 512) (hl : 2048 + l.val < 2688) (hl' : 3072 + l.val < 4168) :
    row m c t r ⟨2048 + l.val, hl⟩ = InSpec.proj (h m c) (w m c) (seq t) (pos t r) ⟨3072 + l.val, hl'⟩ :=
  rowAt m c t r _ _ fun x => InWeights.wnZ _ x l

/-- The indexer's keys' columns. -/
theorem rowI (c : Dev nD) (t : Fin cfg0.N) (r : Fin 256) (l : Fin 128) (hl : 2560 + l.val < 2688) (hl' : 4096 + l.val % 64 < 4168) :
    row m c t r ⟨2560 + l.val, hl⟩ = InSpec.proj (h m c) (w m c) (seq t) (pos t r) ⟨4096 + l.val % 64, hl'⟩ :=
  rowAt m c t r _ _ fun x => InWeights.wnI _ x l

/-- The queries' rows. -/
theorem colQ (c : Dev nD) (t : Fin cfg0.N) (r : Fin 256) (l : Fin 512) (hl : 0 + l.val < 1552) (hl' : 1536 + l.val < 4168) :
    col m c t ⟨0 + l.val, hl⟩ r = InSpec.proj (h m c) (w m c) (seq t) (pos t r) ⟨1536 + l.val, hl'⟩ :=
  colAt m c t r _ _ fun x => InWeights.wtQ _ x l

/-- The indexer's queries' rows. -/
theorem colI (c : Dev nD) (t : Fin cfg0.N) (r : Fin 256) (l : Fin 512) (hl : 512 + l.val < 1552) (hl' : 3584 + l.val < 4168) :
    col m c t ⟨512 + l.val, hl⟩ r = InSpec.proj (h m c) (w m c) (seq t) (pos t r) ⟨3584 + l.val, hl'⟩ :=
  colAt m c t r _ _ fun x => InWeights.wtI _ x l

/-- The values' rows. -/
theorem colV (c : Dev nD) (t : Fin cfg0.N) (r : Fin 256) (l : Fin 512) (hl : 1024 + l.val < 1552) (hl' : 2560 + l.val < 4168) :
    col m c t ⟨1024 + l.val, hl⟩ r = InSpec.proj (h m c) (w m c) (seq t) (pos t r) ⟨2560 + l.val, hl'⟩ :=
  colAt m c t r _ _ fun x => InWeights.wtV _ x l

/-- The indexer's head weights' rows. -/
theorem colW (c : Dev nD) (t : Fin cfg0.N) (r : Fin 256) (l : Fin 8) (hl : 1536 + l.val < 1552) (hl' : 4160 + l.val < 4168) :
    col m c t ⟨1536 + l.val, hl⟩ r = InSpec.proj (h m c) (w m c) (seq t) (pos t r) ⟨4160 + l.val, hl'⟩ :=
  colAt m c t r _ _ fun x => InWeights.wtW _ x l

end Cert.Proof.InRows

end
-- ==== Proof.InEntryR.lean ====
/-
  The blocks of the kernel's operands at a point: the rotation's tables.
-/
module

public import proofs.«01_k».proof.Proof.InPoints
public import proofs.«01_k».proof.Proof.InWeights
public import Idealize.ShloMosaic.Lib.Tactic.CleanTypes

@[expose] public section

set_option maxRecDepth 16384

noncomputable section

namespace Cert.Proof.InEntryR

open Idealize.ShloMosaic Idealize.ShloMosaic.TcCoe Idealize.SL.Sem
open Cert.KernelIdeal Cert.KernelIdeal.Gen
open InPoints

variable (m : (ℓ : Loc nD τ sig) → Buf (Elt Ideal) ℓ)

set_option maxHeartbeats 2000000 in
/-- The cosines along the lanes. -/
theorem arrCos (c : Dev nD) (t : Fin cfg0.N) (r : Fin 256) (l : Fin 128) :
    (iblk m c 7 t : S256x128.Idx → EReal) (ix2 r l) = Ideal.cos (InSpec.angle (pos t r) ⟨l.val % 32, Nat.mod_lt _ (by decide)⟩) := by
  have e7 := (idxIn t).2.2.2.2.2.2.2.1
  have p : ((View.whole main_v20).slice (win0_7.rect t)).emb (ix2 r l) = (ix2 (pos t r) l : S4352x128.Idx) := by
    blk_ext [e7]
    all_goals rfl
  simp only [iblk]
  blk_simp [e7]
  entry_read
  rw [p]
  exact InWeights.cos4 _ _

set_option maxHeartbeats 2000000 in
/-- The signed sines along the lanes. -/
theorem arrSin (c : Dev nD) (t : Fin cfg0.N) (r : Fin 256) (l : Fin 128) :
    (iblk m c 8 t : S256x128.Idx → EReal) (ix2 r l) = if h : l.val % 64 < 32 then -Ideal.sin (InSpec.angle (pos t r) ⟨l.val % 64, h⟩)
        else Ideal.sin (InSpec.angle (pos t r) ⟨l.val % 64 - 32, (by omega : ∀ n : ℕ, n % 64 - 32 < 32) _⟩) := by
  have e8 := (idxIn t).2.2.2.2.2.2.2.2.1
  have p : ((View.whole main_v25).slice (win0_8.rect t)).emb (ix2 r l) = (ix2 (pos t r) l : S4352x128.Idx) := by
    blk_ext [e8]
    all_goals rfl
  simp only [iblk]
  blk_simp [e8]
  entry_read
  rw [p]
  exact InWeights.sin4 _ _

set_option maxHeartbeats 2000000 in
/-- The cosines along the positions. -/
theorem arrCosT (c : Dev nD) (t : Fin cfg0.N) (d : Fin 32) (r : Fin 256) :
    (iblk m c 9 t : S32x256.Idx → EReal) (ix2 d r) = Ideal.cos (InSpec.angle (pos t r) d) := by
  have e9 := (idxIn t).2.2.2.2.2.2.2.2.2.1
  have p : ((View.whole main_v26).slice (win0_9.rect t)).emb (ix2 d r) = (ix2 d (pos t r) : S32x4352.Idx) := by
    blk_ext [e9]
    all_goals rfl
  simp only [iblk]
  blk_simp [e9]
  entry_read
  rw [p]
  exact InWeights.cosT _ _

set_option maxHeartbeats 2000000 in
/-- The sines along the positions. -/
theorem arrSinT (c : Dev nD) (t : Fin cfg0.N) (d : Fin 32) (r : Fin 256) :
    (iblk m c 10 t : S32x256.Idx → EReal) (ix2 d r) = Ideal.sin (InSpec.angle (pos t r) d) := by
  have e10 := (idxIn t).2.2.2.2.2.2.2.2.2.2
  have p : ((View.whole main_v27).slice (win0_10.rect t)).emb (ix2 d r) = (ix2 d (pos t r) : S32x4352.Idx) := by
    blk_ext [e10]
    all_goals rfl
  simp only [iblk]
  blk_simp [e10]
  entry_read
  rw [p]
  exact InWeights.sinT _ _

end Cert.Proof.InEntryR

end
-- ==== Proof.InRope.lean ====
/-
  The rotation over a row: a lane times its cosine plus its partner times its signed sine.
-/
module

public import proofs.«01_k».proof.Proof.InSpec

@[expose] public section

noncomputable section

namespace Cert.Proof.InRope

open Idealize.ShloMosaic

/-- A partner half a head on is a lane of the row. -/
theorem up (r : Fin 512) (h : r.val % 64 < 32) : r.val + 32 < 512 := by omega

/-- A partner half a head back is a lane of the row. -/
theorem down (r : Fin 512) : r.val - 32 < 512 := by omega

/-- The same in a row of 128. -/
theorem up128 (r : Fin 128) (h : r.val % 64 < 32) : r.val + 32 < 128 := by omega

/-- The same in a row of 128. -/
theorem down128 (r : Fin 128) : r.val - 32 < 128 := by omega

/-- A lane times its cosine plus its partner times its signed sine is the rotation. -/
theorem row {n : ℕ} (hn : n % 64 = 0) (X : Fin n → EReal) (p : Fin 4352) (l : Fin n) (a : Fin 32) (s : ℕ)
    (ha : a.val = l.val % 32) (hs : s % 64 = l.val % 64) (A B C S : EReal) (hA : A = X l)
    (hB : B = if h : l.val % 64 < 32 then X ⟨l.val + 32, by omega⟩ else X ⟨l.val - 32, by omega⟩)
    (hC : C = Ideal.cos (InSpec.angle p a))
    (hS : S = if h : s % 64 < 32 then -Ideal.sin (InSpec.angle p ⟨s % 64, h⟩) else Ideal.sin (InSpec.angle p ⟨s % 64 - 32, by omega⟩)) :
    A * C + B * S = InSpec.rope hn X p l := by
  unfold InSpec.rope InSpec.ropeLo InSpec.ropeHi
  by_cases h : l.val % 64 < 32
  · have h' : s % 64 < 32 := by omega
    rw [dif_pos h] at hB
    rw [dif_pos h'] at hS
    rw [dif_pos h, hA, hB, hC, hS, mul_neg, ← sub_eq_add_neg]
    exact congrArg₂ (fun u v : EReal => u - v)
      (congrArg (fun q => X l * Ideal.cos (InSpec.angle p q)) (Fin.ext (by show a.val = l.val % 64; omega)))
      (congrArg (fun q => X _ * Ideal.sin (InSpec.angle p q)) (Fin.ext (by show s % 64 = l.val % 64; omega)))
  · have h' : ¬ s % 64 < 32 := by omega
    rw [dif_neg h] at hB
    rw [dif_neg h'] at hS
    rw [dif_neg h, hA, hB, hC, hS]
    exact congrArg₂ (fun u v : EReal => u + v)
      (congrArg (fun q => X l * Ideal.cos (InSpec.angle p q)) (Fin.ext (by show a.val = l.val % 64 - 32; omega)))
      (congrArg (fun q => X _ * Ideal.sin (InSpec.angle p q)) (Fin.ext (by show s % 64 - 32 = l.val % 64 - 32; omega)))

end Cert.Proof.InRope

end
-- ==== Proof.InKeysAt.lean ====
/-
  The rotated keys at a point, in terms of the arguments.
-/
module

public import proofs.«01_k».proof.Proof.InKeys
public import proofs.«01_k».proof.Proof.InRows
public import proofs.«01_k».proof.Proof.InEntryR
public import proofs.«01_k».proof.Proof.InRope
public import Idealize.ShloMosaic.Lib.Tactic.CleanTypes

@[expose] public section

set_option maxRecDepth 16384

noncomputable section

namespace Cert.Proof.InKeysAt

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

/-- A key's lane taken in a table of 128. -/
theorem keyLane (l : Fin 512) : l.val % 128 % 32 = l.val % 32 ∧ l.val % 128 % 64 = l.val % 64 := by omega

/-- A partner's lane among the 64 of the indexer's keys. -/
theorem upLane (l : Fin 128) (h : l.val % 64 < 32) : (l.val + 32) % 64 = l.val % 64 + 32 := by omega

/-- The same half a head back. -/
theorem downLane (l : Fin 128) (h : ¬ l.val % 64 < 32) : (l.val - 32) % 64 = l.val % 64 - 32 := by omega

/-- The indexer's keys' columns are among the weights'. -/
theorem kiLt (n : ℕ) : 4096 + n % 64 < 4168 := by omega

/-- Half a head is a lane's number reduced twice. -/
theorem idem (l : Fin 128) : l.val % 32 = l.val % 64 % 32 ∧ l.val % 64 = l.val % 64 % 64 := by omega

/-- The first half's condition over the reduced lane. -/
theorem idemIf {α : Type} (l : Fin 128) (a : l.val % 64 % 64 < 32 → α) (b : ¬ l.val % 64 % 64 < 32 → α) :
    (if h : l.val % 64 < 32 then a ((idem l).2 ▸ h) else b (fun h' => h ((idem l).2.symm ▸ h'))) = if h : l.val % 64 % 64 < 32 then a h else b h := by
  by_cases h : l.val % 64 < 32
  · rw [dif_pos h, dif_pos ((idem l).2 ▸ h)]
  · rw [dif_neg h, dif_neg (fun h' => h ((idem l).2.symm ▸ h'))]

/-- The keys' block at a point. -/
theorem valueK (c : Dev nD) (t : Fin cfg0.N) (r : Fin 256) (l : Fin 512) :
    ((outsAt0 m c t.val t.isLt).2.1 : S1x256x512.Idx → EReal) (ix3 0 r l) = InSpec.k (h m c) (w m c) (seq t) (pos t r) l := by
  refine (InKeys.block_k m c t r l).trans ?_
  unfold InSpec.k
  refine InRope.row _ _ _ l _ (l.val % 128) (keyLane l).1 (keyLane l).2 _ _ _ _ (rowK m c t r l _ _) ?_ (InEntryR.arrCos m c t r _) (InEntryR.arrSin m c t r _)
  exact dite_congr rfl (fun hl => rowK m c t r ⟨l.val + 32, InRope.up l hl⟩ _ _) fun _ => rowK m c t r ⟨l.val - 32, InRope.down l⟩ _ _

/-- The indexer's keys' block at a point. -/
theorem valueKi (c : Dev nD) (t : Fin cfg0.N) (r : Fin 256) (l : Fin 128) :
    ((outsAt0 m c t.val t.isLt).2.2.1 : S1x256x128.Idx → EReal) (ix3 0 r l) = InSpec.ki (h m c) (w m c) (seq t) (pos t r) l := by
  refine (InKeys.block_ki m c t r l).trans ?_
  unfold InSpec.ki
  refine InRope.row _ _ _ ⟨l.val % 64, _⟩ _ l.val (idem l).1 (idem l).2 _ _ _ _ (rowI m c t r l _ _) ?_ (InEntryR.arrCos m c t r _) (InEntryR.arrSin m c t r _)
  refine Eq.trans ?_ (idemIf l _ _)
  refine dite_congr rfl (fun hl => (rowI m c t r ⟨l.val + 32, InRope.up128 l hl⟩ _ (kiLt _)).trans ?_)
    fun hl => (rowI m c t r ⟨l.val - 32, InRope.down128 l⟩ _ (kiLt _)).trans ?_
  · exact congrArg _ (Fin.ext (congrArg (4096 + ·) (upLane l hl)))
  · exact congrArg _ (Fin.ext (congrArg (4096 + ·) (downLane l hl)))

end Cert.Proof.InKeysAt

end
-- ==== Proof.InTaps.lean ====
/-
  The convolution branch of a block, from the 31 loads of its buffer of gated rows.
-/
module

public import proofs.«01_k».proof.Proof.InBlock
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InTaps

open Idealize.ShloMosaic Idealize.ShloMosaic.TcCoe Idealize.SL.Sem
open Cert.KernelIdeal Cert.KernelIdeal.Gen

open InBlock

variable (m : (ℓ : Loc nD τ sig) → Buf (Elt Ideal) ℓ)

/-- A load of 256 rows out of the first 280, just written, reads what was written. -/
theorem readTap {κ : Kind} {sp : Space} (v : View sig κ sp S288x512 .f32)
    (w : (Rect.unit (s := S288x512) ![0, 0] ![280, 512] inb_S288x512_S280x512_0_0).shape.Idx → Elt Ideal .f32)
    (L : List (View.Piece (Elt Ideal) S288x512 .f32)) (o : ℕ) (inb : _) (ho : o ≤ 24) :
    v.readCov (⟨Rect.unit (s := S288x512) ![0, 0] ![280, 512] inb_S288x512_S280x512_0_0, w⟩ :: L) (Rect.unit (s := S288x512) ![o, 0] ![256, 512] inb).toLoadRect
      = fun j => w (ix2 ⟨o + (j 0).val, by have := (j 0).isLt; simp at this; omega⟩ (j 1)) := by
  rw [View.readCov_eq_canon']
  funext j
  have e : (Rect.unit (s := S288x512) ![o, 0] ![256, 512] inb).toLoadRect.idx j
      = (Rect.unit (s := S288x512) ![0, 0] ![280, 512] inb_S288x512_S280x512_0_0).emb (ix2 ⟨o + (j 0).val, by have := (j 0).isLt; simp at this; omega⟩ (j 1)) := by
    funext a
    apply Fin.ext
    fin_cases a <;> simp [LoadRect.idx, Rect.toLoadRect, Rect.emb, Rect.unit]
  rw [e, View.canon_cons_emb]

/-- A load of the buffer of gated rows reads what the buffer holds. -/
theorem readBuf (L : List (View.Piece (Elt Ideal) S288x512 .f32)) (r : Rect S288x512) :
    (View.whole cc0_scratch0).readCov L r.toLoadRect = View.ld (View.canon L) r :=
  View.readCov_eq_canon' _ _ _

/-- The convolution's sum: each tap's weight times its load, in the taps' order, and the bias. -/
def sumTaps (x4 : Vec Ideal S1x512 .f32) (W0 W1 W2 W3 W4 W5 W6 W7 W8 W9 W10 W11 W12 W13 W14 W15 W16 W17 W18 W19 W20 W21 W22 W23 W24 W25 W26 W27 W28 W29 W30 : Vec Ideal S1x512 .f32)
    (T0 T1 T2 T3 T4 T5 T6 T7 T8 T9 T10 T11 T12 T13 T14 T15 T16 T17 T18 T19 T20 T21 T22 T23 T24 T25 T26 T27 T28 T29 T30 : Vec Ideal S256x512 .f32) (r : Fin 256) (l : Fin 512) : EReal :=
  (W0 (ix2 0 l) * T0 (ix2 r l) + W1 (ix2 0 l) * T1 (ix2 r l) + W2 (ix2 0 l) * T2 (ix2 r l) + W3 (ix2 0 l) * T3 (ix2 r l) + W4 (ix2 0 l) * T4 (ix2 r l) + W5 (ix2 0 l) * T5 (ix2 r l) + W6 (ix2 0 l) * T6 (ix2 r l) + W7 (ix2 0 l) * T7 (ix2 r l) + W8 (ix2 0 l) * T8 (ix2 r l) + W9 (ix2 0 l) * T9 (ix2 r l) + W10 (ix2 0 l) * T10 (ix2 r l) + W11 (ix2 0 l) * T11 (ix2 r l) + W12 (ix2 0 l) * T12 (ix2 r l) + W13 (ix2 0 l) * T13 (ix2 r l) + W14 (ix2 0 l) * T14 (ix2 r l) + W15 (ix2 0 l) * T15 (ix2 r l) + W16 (ix2 0 l) * T16 (ix2 r l) + W17 (ix2 0 l) * T17 (ix2 r l) + W18 (ix2 0 l) * T18 (ix2 r l) + W19 (ix2 0 l) * T19 (ix2 r l) + W20 (ix2 0 l) * T20 (ix2 r l) + W21 (ix2 0 l) * T21 (ix2 r l) + W22 (ix2 0 l) * T22 (ix2 r l) + W23 (ix2 0 l) * T23 (ix2 r l) + W24 (ix2 0 l) * T24 (ix2 r l) + W25 (ix2 0 l) * T25 (ix2 r l) + W26 (ix2 0 l) * T26 (ix2 r l) + W27 (ix2 0 l) * T27 (ix2 r l) + W28 (ix2 0 l) * T28 (ix2 r l) + W29 (ix2 0 l) * T29 (ix2 r l) + W30 (ix2 0 l) * T30 (ix2 r l)) + x4 (ix2 0 l)

/-- The sum before the last four taps, in the body's order. -/
theorem convAt (x4 : Vec Ideal S1x512 .f32) (W0 W1 W2 W3 W4 W6 W7 W8 W9 W10 W11 W12 W14 W15 W16 W17 W18 W19 W20 W22 W23 W24 W25 W26 W27 W28 W30 : Vec Ideal S1x512 .f32)
    (T0 T1 T2 T3 T4 T6 T7 T8 T9 T10 T11 T12 T14 T15 T16 T17 T18 T19 T20 T22 T23 T24 T25 T26 T27 T28 T30 : Vec Ideal S256x512 .f32) (r : Fin 256) (l : Fin 512) :
    (k0_pay20 (k0_pay17 (k0_pay15 (k0_pay12 (k0_pay9 (k0_pay7 x4 W6 T6) W14 T14 W22 T22 W30 T30 W7 T7 W15 T15) (k0_pay10 W23 T23) W0 T0 W8 T8 W16 T16 W24 T24) W1 T1 W9 T9 W17 T17 W25 T25 W2 T2 W10 T10) W18 T18 W26 T26 W3 T3 W11 T11 W19 T19) (k0_pay18 W27 T27) W4 T4 W12 T12 W20 T20 W28 T28) (ix2 r l) = x4 (ix2 0 l) + W6 (ix2 0 l) * T6 (ix2 r l) + W14 (ix2 0 l) * T14 (ix2 r l) + W22 (ix2 0 l) * T22 (ix2 r l) + W30 (ix2 0 l) * T30 (ix2 r l) + W7 (ix2 0 l) * T7 (ix2 r l) + W15 (ix2 0 l) * T15 (ix2 r l) + W23 (ix2 0 l) * T23 (ix2 r l) + W0 (ix2 0 l) * T0 (ix2 r l) + W8 (ix2 0 l) * T8 (ix2 r l) + W16 (ix2 0 l) * T16 (ix2 r l) + W24 (ix2 0 l) * T24 (ix2 r l) + W1 (ix2 0 l) * T1 (ix2 r l) + W9 (ix2 0 l) * T9 (ix2 r l) + W17 (ix2 0 l) * T17 (ix2 r l) + W25 (ix2 0 l) * T25 (ix2 r l) + W2 (ix2 0 l) * T2 (ix2 r l) + W10 (ix2 0 l) * T10 (ix2 r l) + W18 (ix2 0 l) * T18 (ix2 r l) + W26 (ix2 0 l) * T26 (ix2 r l) + W3 (ix2 0 l) * T3 (ix2 r l) + W11 (ix2 0 l) * T11 (ix2 r l) + W19 (ix2 0 l) * T19 (ix2 r l) + W27 (ix2 0 l) * T27 (ix2 r l) + W4 (ix2 0 l) * T4 (ix2 r l) + W12 (ix2 0 l) * T12 (ix2 r l) + W20 (ix2 0 l) * T20 (ix2 r l) + W28 (ix2 0 l) * T28 (ix2 r l) := by
  pointwise [k0_pay7, k0_pay9, k0_pay10, k0_pay12, k0_pay15, k0_pay17, k0_pay18, k0_pay20]
  try abel

/-- The last four taps, and the mean taken off. -/
theorem centredAt (C : FVec Ideal S256x512 .f32) (W5 W13 W21 W29 : Vec Ideal S1x512 .f32)
    (T5 T13 T21 T29 : Vec Ideal S256x512 .f32) (v : Fin 512 → EReal) (r : Fin 256) (l : Fin 512)
    (hv : ∀ k, C (ix2 r k) + W5 (ix2 0 k) * T5 (ix2 r k) + W13 (ix2 0 k) * T13 (ix2 r k) + W21 (ix2 0 k) * T21 (ix2 r k) + W29 (ix2 0 k) * T29 (ix2 r k) = v k) :
    k0_pay26 C W5 T5 W13 T13 W21 T21 W29 T29 (ix2 r l) = v l - Ideal.div (∑ k, v k) (Ideal.ofBits .f32 0x44000000#32) := by
  simp only [← hv]
  pointwise [k0_pay26]

/-- The normalisation and the gates over a centred row. -/
theorem gatedAt (z : FVec Ideal S256x512 .f32) (x5 x6 : Vec Ideal S1x512 .f32) (D : FVec Ideal S256x512 .f32)
    (v : Fin 512 → EReal) (r : Fin 256) (l : Fin 512)
    (hD : ∀ k, D (ix2 r k) = v k - Ideal.div (∑ k, v k) (Ideal.ofBits .f32 0x44000000#32)) :
    k0_pay27 z (k0_pay24 x5) (k0_pay25 x6) D (ix3 0 r l) =
      InSpec.silu (InSpec.norm v (fun i => x5 (ix2 0 (i 0))) (fun i => x6 (ix2 0 (i 0))) l) * InSpec.silu (z (ix2 r l)) := by
  unfold InSpec.norm InSpec.silu
  simp only [← hD]
  pointwise [k0_pay27, k0_pay24, k0_pay25]

/-- The branch's payload over its loads. -/
theorem branchAt (z : FVec Ideal S256x512 .f32) (x4 x5 x6 : Vec Ideal S1x512 .f32) (W0 W1 W2 W3 W4 W5 W6 W7 W8 W9 W10 W11 W12 W13 W14 W15 W16 W17 W18 W19 W20 W21 W22 W23 W24 W25 W26 W27 W28 W29 W30 : Vec Ideal S1x512 .f32)
    (T0 T1 T2 T3 T4 T5 T6 T7 T8 T9 T10 T11 T12 T13 T14 T15 T16 T17 T18 T19 T20 T21 T22 T23 T24 T25 T26 T27 T28 T29 T30 : Vec Ideal S256x512 .f32) (r : Fin 256) (l : Fin 512) :
    k0_pay27 z (k0_pay24 x5) (k0_pay25 x6) (k0_pay26 (k0_pay20 (k0_pay17 (k0_pay15 (k0_pay12 (k0_pay9 (k0_pay7 x4 W6 T6) W14 T14 W22 T22 W30 T30 W7 T7 W15 T15) (k0_pay10 W23 T23) W0 T0 W8 T8 W16 T16 W24 T24) W1 T1 W9 T9 W17 T17 W25 T25 W2 T2 W10 T10) W18 T18 W26 T26 W3 T3 W11 T11 W19 T19) (k0_pay18 W27 T27) W4 T4 W12 T12 W20 T20 W28 T28) W5 T5 W13 T13 W21 T21 W29 T29) (ix3 0 r l) =
      InSpec.silu (InSpec.norm (fun k => sumTaps x4 W0 W1 W2 W3 W4 W5 W6 W7 W8 W9 W10 W11 W12 W13 W14 W15 W16 W17 W18 W19 W20 W21 W22 W23 W24 W25 W26 W27 W28 W29 W30 T0 T1 T2 T3 T4 T5 T6 T7 T8 T9 T10 T11 T12 T13 T14 T15 T16 T17 T18 T19 T20 T21 T22 T23 T24 T25 T26 T27 T28 T29 T30 r k)
        (fun i => x5 (ix2 0 (i 0))) (fun i => x6 (ix2 0 (i 0))) l) * InSpec.silu (z (ix2 r l)) := by
  refine gatedAt _ _ _ _ _ _ _ fun k => ?_
  refine centredAt _ _ _ _ _ _ _ _ _ _ _ _ fun j => ?_
  rw [convAt]
  unfold sumTaps
  generalize x4 (ix2 0 j) = b
  generalize W0 (ix2 0 j) * T0 (ix2 r j) = p0
  generalize W1 (ix2 0 j) * T1 (ix2 r j) = p1
  generalize W2 (ix2 0 j) * T2 (ix2 r j) = p2
  generalize W3 (ix2 0 j) * T3 (ix2 r j) = p3
  generalize W4 (ix2 0 j) * T4 (ix2 r j) = p4
  generalize W5 (ix2 0 j) * T5 (ix2 r j) = p5
  generalize W6 (ix2 0 j) * T6 (ix2 r j) = p6
  generalize W7 (ix2 0 j) * T7 (ix2 r j) = p7
  generalize W8 (ix2 0 j) * T8 (ix2 r j) = p8
  generalize W9 (ix2 0 j) * T9 (ix2 r j) = p9
  generalize W10 (ix2 0 j) * T10 (ix2 r j) = p10
  generalize W11 (ix2 0 j) * T11 (ix2 r j) = p11
  generalize W12 (ix2 0 j) * T12 (ix2 r j) = p12
  generalize W13 (ix2 0 j) * T13 (ix2 r j) = p13
  generalize W14 (ix2 0 j) * T14 (ix2 r j) = p14
  generalize W15 (ix2 0 j) * T15 (ix2 r j) = p15
  generalize W16 (ix2 0 j) * T16 (ix2 r j) = p16
  generalize W17 (ix2 0 j) * T17 (ix2 r j) = p17
  generalize W18 (ix2 0 j) * T18 (ix2 r j) = p18
  generalize W19 (ix2 0 j) * T19 (ix2 r j) = p19
  generalize W20 (ix2 0 j) * T20 (ix2 r j) = p20
  generalize W21 (ix2 0 j) * T21 (ix2 r j) = p21
  generalize W22 (ix2 0 j) * T22 (ix2 r j) = p22
  generalize W23 (ix2 0 j) * T23 (ix2 r j) = p23
  generalize W24 (ix2 0 j) * T24 (ix2 r j) = p24
  generalize W25 (ix2 0 j) * T25 (ix2 r j) = p25
  generalize W26 (ix2 0 j) * T26 (ix2 r j) = p26
  generalize W27 (ix2 0 j) * T27 (ix2 r j) = p27
  generalize W28 (ix2 0 j) * T28 (ix2 r j) = p28
  generalize W29 (ix2 0 j) * T29 (ix2 r j) = p29
  generalize W30 (ix2 0 j) * T30 (ix2 r j) = p30
  ac_rfl

end Cert.Proof.InTaps

end
-- ==== Proof.InBuffer.lean ====
/-
  The convolution branch of a block, from its buffer of gated rows.
-/
module

public import proofs.«01_k».proof.Proof.InTaps
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InBuffer

open Idealize.ShloMosaic Idealize.ShloMosaic.TcCoe Idealize.SL.Sem
open Cert.KernelIdeal Cert.KernelIdeal.Gen

open InBlock InTaps

/-- Row 0 further on is still one of the 280. -/
theorem lt0 (j : S256x512.Idx) : 0 + (j 0).val < 280 := by
  have : (j 0).val < 256 := (j 0).isLt
  omega

/-- Row 8 further on is still one of the 280. -/
theorem lt8 (j : S256x512.Idx) : 8 + (j 0).val < 280 := by
  have : (j 0).val < 256 := (j 0).isLt
  omega

/-- Row 16 further on is still one of the 280. -/
theorem lt16 (j : S256x512.Idx) : 16 + (j 0).val < 280 := by
  have : (j 0).val < 256 := (j 0).isLt
  omega

/-- Row 24 further on is still one of the 280. -/
theorem lt24 (j : S256x512.Idx) : 24 + (j 0).val < 280 := by
  have : (j 0).val < 256 := (j 0).isLt
  omega

/-- A tap's product agrees with another at the same row. -/
theorem swap (U : Vec Ideal S288x512 .f32) (x : EReal) {a b : ℕ} {ha : a < 288} {hb : b < 288} {k : Fin 512} (h : a = b) :
    U (ix2 ⟨a, ha⟩ k) * x = U (ix2 ⟨b, hb⟩ k) * x := by
  subst h
  rfl

/-- The same over the buffer the loads read and the taps' weights: row `r` takes rows `2 + r` to `32 + r`. -/
theorem bufferAt (z : FVec Ideal S256x512 .f32) (U : Vec Ideal S288x512 .f32) (x3 : Vec Ideal S31x512 .f32)
    (x4 x5 x6 : Vec Ideal S1x512 .f32) (r : Fin 256) (l : Fin 512) :
    k0_pay27 z (k0_pay24 x5) (k0_pay25 x6) (k0_pay26 (k0_pay20 (k0_pay17 (k0_pay15 (k0_pay12 (k0_pay9 (k0_pay7 x4 (View.ld x3 (Rect.unit ![6, 0] ![1, 512] inb_S31x512_S1x512_6_0)) (View.ld (Val := Elt Ideal) (S := S288x512) (e' := .f32) (k0_pay6 U) (Rect.unit ![8, 0] ![256, 512] inb_S288x512_S256x512_8_0))) (View.ld x3 (Rect.unit ![14, 0] ![1, 512] inb_S31x512_S1x512_14_0)) (View.ld (Val := Elt Ideal) (S := S288x512) (e' := .f32) (k0_pay6 U) (Rect.unit ![16, 0] ![256, 512] inb_S288x512_S256x512_16_0)) (View.ld x3 (Rect.unit ![22, 0] ![1, 512] inb_S31x512_S1x512_22_0)) (View.ld (Val := Elt Ideal) (S := S288x512) (e' := .f32) (k0_pay6 U) (Rect.unit ![24, 0] ![256, 512] inb_S288x512_S256x512_24_0)) (View.ld x3 (Rect.unit ![30, 0] ![1, 512] inb_S31x512_S1x512_30_0)) (View.ld (Val := Elt Ideal) (S := S288x512) (e' := .f32) (k0_pay6 U) (Rect.unit ![32, 0] ![256, 512] inb_S288x512_S256x512_32_0)) (View.ld x3 (Rect.unit ![7, 0] ![1, 512] inb_S31x512_S1x512_7_0)) (fun (j : S256x512.Idx) => k0_pay8 (View.ld (Val := Elt Ideal) (S := S288x512) (e' := .f32) U (Rect.unit ![1, 0] ![280, 512] inb_S288x512_S280x512_1_0)) (ix2 ⟨8 + (j 0).val, lt8 j⟩ (j 1))) (View.ld x3 (Rect.unit ![15, 0] ![1, 512] inb_S31x512_S1x512_15_0)) fun (j : S256x512.Idx) => k0_pay8 (View.ld (Val := Elt Ideal) (S := S288x512) (e' := .f32) U (Rect.unit ![1, 0] ![280, 512] inb_S288x512_S280x512_1_0)) (ix2 ⟨16 + (j 0).val, lt16 j⟩ (j 1))) (k0_pay10 (View.ld x3 (Rect.unit ![23, 0] ![1, 512] inb_S31x512_S1x512_23_0)) fun (j : S256x512.Idx) => k0_pay8 (View.ld (Val := Elt Ideal) (S := S288x512) (e' := .f32) U (Rect.unit ![1, 0] ![280, 512] inb_S288x512_S280x512_1_0)) (ix2 ⟨24 + (j 0).val, lt24 j⟩ (j 1))) (View.ld x3 (Rect.unit ![0, 0] ![1, 512] inb_S31x512_S1x512_0_0)) (fun (j : S256x512.Idx) => k0_pay11 (View.ld (Val := Elt Ideal) (S := S288x512) (e' := .f32) U (Rect.unit ![2, 0] ![280, 512] inb_S288x512_S280x512_2_0)) (ix2 ⟨0 + (j 0).val, lt0 j⟩ (j 1))) (View.ld x3 (Rect.unit ![8, 0] ![1, 512] inb_S31x512_S1x512_8_0)) (fun (j : S256x512.Idx) => k0_pay11 (View.ld (Val := Elt Ideal) (S := S288x512) (e' := .f32) U (Rect.unit ![2, 0] ![280, 512] inb_S288x512_S280x512_2_0)) (ix2 ⟨8 + (j 0).val, lt8 j⟩ (j 1))) (View.ld x3 (Rect.unit ![16, 0] ![1, 512] inb_S31x512_S1x512_16_0)) (fun (j : S256x512.Idx) => k0_pay11 (View.ld (Val := Elt Ideal) (S := S288x512) (e' := .f32) U (Rect.unit ![2, 0] ![280, 512] inb_S288x512_S280x512_2_0)) (ix2 ⟨16 + (j 0).val, lt16 j⟩ (j 1))) (View.ld x3 (Rect.unit ![24, 0] ![1, 512] inb_S31x512_S1x512_24_0)) fun (j : S256x512.Idx) => k0_pay11 (View.ld (Val := Elt Ideal) (S := S288x512) (e' := .f32) U (Rect.unit ![2, 0] ![280, 512] inb_S288x512_S280x512_2_0)) (ix2 ⟨24 + (j 0).val, lt24 j⟩ (j 1))) (View.ld x3 (Rect.unit ![1, 0] ![1, 512] inb_S31x512_S1x512_1_0)) (fun (j : S256x512.Idx) => k0_pay13 (View.ld (Val := Elt Ideal) (S := S288x512) (e' := .f32) U (Rect.unit ![3, 0] ![280, 512] inb_S288x512_S280x512_3_0)) (ix2 ⟨0 + (j 0).val, lt0 j⟩ (j 1))) (View.ld x3 (Rect.unit ![9, 0] ![1, 512] inb_S31x512_S1x512_9_0)) (fun (j : S256x512.Idx) => k0_pay13 (View.ld (Val := Elt Ideal) (S := S288x512) (e' := .f32) U (Rect.unit ![3, 0] ![280, 512] inb_S288x512_S280x512_3_0)) (ix2 ⟨8 + (j 0).val, lt8 j⟩ (j 1))) (View.ld x3 (Rect.unit ![17, 0] ![1, 512] inb_S31x512_S1x512_17_0)) (fun (j : S256x512.Idx) => k0_pay13 (View.ld (Val := Elt Ideal) (S := S288x512) (e' := .f32) U (Rect.unit ![3, 0] ![280, 512] inb_S288x512_S280x512_3_0)) (ix2 ⟨16 + (j 0).val, lt16 j⟩ (j 1))) (View.ld x3 (Rect.unit ![25, 0] ![1, 512] inb_S31x512_S1x512_25_0)) (fun (j : S256x512.Idx) => k0_pay13 (View.ld (Val := Elt Ideal) (S := S288x512) (e' := .f32) U (Rect.unit ![3, 0] ![280, 512] inb_S288x512_S280x512_3_0)) (ix2 ⟨24 + (j 0).val, lt24 j⟩ (j 1))) (View.ld x3 (Rect.unit ![2, 0] ![1, 512] inb_S31x512_S1x512_2_0)) (fun (j : S256x512.Idx) => k0_pay14 (View.ld (Val := Elt Ideal) (S := S288x512) (e' := .f32) U (Rect.unit ![4, 0] ![280, 512] inb_S288x512_S280x512_4_0)) (ix2 ⟨0 + (j 0).val, lt0 j⟩ (j 1))) (View.ld x3 (Rect.unit ![10, 0] ![1, 512] inb_S31x512_S1x512_10_0)) fun (j : S256x512.Idx) => k0_pay14 (View.ld (Val := Elt Ideal) (S := S288x512) (e' := .f32) U (Rect.unit ![4, 0] ![280, 512] inb_S288x512_S280x512_4_0)) (ix2 ⟨8 + (j 0).val, lt8 j⟩ (j 1))) (View.ld x3 (Rect.unit ![18, 0] ![1, 512] inb_S31x512_S1x512_18_0)) (fun (j : S256x512.Idx) => k0_pay14 (View.ld (Val := Elt Ideal) (S := S288x512) (e' := .f32) U (Rect.unit ![4, 0] ![280, 512] inb_S288x512_S280x512_4_0)) (ix2 ⟨16 + (j 0).val, lt16 j⟩ (j 1))) (View.ld x3 (Rect.unit ![26, 0] ![1, 512] inb_S31x512_S1x512_26_0)) (fun (j : S256x512.Idx) => k0_pay14 (View.ld (Val := Elt Ideal) (S := S288x512) (e' := .f32) U (Rect.unit ![4, 0] ![280, 512] inb_S288x512_S280x512_4_0)) (ix2 ⟨24 + (j 0).val, lt24 j⟩ (j 1))) (View.ld x3 (Rect.unit ![3, 0] ![1, 512] inb_S31x512_S1x512_3_0)) (fun (j : S256x512.Idx) => k0_pay16 (View.ld (Val := Elt Ideal) (S := S288x512) (e' := .f32) U (Rect.unit ![5, 0] ![280, 512] inb_S288x512_S280x512_5_0)) (ix2 ⟨0 + (j 0).val, lt0 j⟩ (j 1))) (View.ld x3 (Rect.unit ![11, 0] ![1, 512] inb_S31x512_S1x512_11_0)) (fun (j : S256x512.Idx) => k0_pay16 (View.ld (Val := Elt Ideal) (S := S288x512) (e' := .f32) U (Rect.unit ![5, 0] ![280, 512] inb_S288x512_S280x512_5_0)) (ix2 ⟨8 + (j 0).val, lt8 j⟩ (j 1))) (View.ld x3 (Rect.unit ![19, 0] ![1, 512] inb_S31x512_S1x512_19_0)) fun (j : S256x512.Idx) => k0_pay16 (View.ld (Val := Elt Ideal) (S := S288x512) (e' := .f32) U (Rect.unit ![5, 0] ![280, 512] inb_S288x512_S280x512_5_0)) (ix2 ⟨16 + (j 0).val, lt16 j⟩ (j 1))) (k0_pay18 (View.ld x3 (Rect.unit ![27, 0] ![1, 512] inb_S31x512_S1x512_27_0)) fun (j : S256x512.Idx) => k0_pay16 (View.ld (Val := Elt Ideal) (S := S288x512) (e' := .f32) U (Rect.unit ![5, 0] ![280, 512] inb_S288x512_S280x512_5_0)) (ix2 ⟨24 + (j 0).val, lt24 j⟩ (j 1))) (View.ld x3 (Rect.unit ![4, 0] ![1, 512] inb_S31x512_S1x512_4_0)) (fun (j : S256x512.Idx) => k0_pay19 (View.ld (Val := Elt Ideal) (S := S288x512) (e' := .f32) U (Rect.unit ![6, 0] ![280, 512] inb_S288x512_S280x512_6_0)) (ix2 ⟨0 + (j 0).val, lt0 j⟩ (j 1))) (View.ld x3 (Rect.unit ![12, 0] ![1, 512] inb_S31x512_S1x512_12_0)) (fun (j : S256x512.Idx) => k0_pay19 (View.ld (Val := Elt Ideal) (S := S288x512) (e' := .f32) U (Rect.unit ![6, 0] ![280, 512] inb_S288x512_S280x512_6_0)) (ix2 ⟨8 + (j 0).val, lt8 j⟩ (j 1))) (View.ld x3 (Rect.unit ![20, 0] ![1, 512] inb_S31x512_S1x512_20_0)) (fun (j : S256x512.Idx) => k0_pay19 (View.ld (Val := Elt Ideal) (S := S288x512) (e' := .f32) U (Rect.unit ![6, 0] ![280, 512] inb_S288x512_S280x512_6_0)) (ix2 ⟨16 + (j 0).val, lt16 j⟩ (j 1))) (View.ld x3 (Rect.unit ![28, 0] ![1, 512] inb_S31x512_S1x512_28_0)) fun (j : S256x512.Idx) => k0_pay19 (View.ld (Val := Elt Ideal) (S := S288x512) (e' := .f32) U (Rect.unit ![6, 0] ![280, 512] inb_S288x512_S280x512_6_0)) (ix2 ⟨24 + (j 0).val, lt24 j⟩ (j 1))) (View.ld x3 (Rect.unit ![5, 0] ![1, 512] inb_S31x512_S1x512_5_0)) (fun (j : S256x512.Idx) => k0_pay21 (View.ld (Val := Elt Ideal) (S := S288x512) (e' := .f32) U (Rect.unit ![7, 0] ![280, 512] inb_S288x512_S280x512_7_0)) (ix2 ⟨0 + (j 0).val, lt0 j⟩ (j 1))) (View.ld x3 (Rect.unit ![13, 0] ![1, 512] inb_S31x512_S1x512_13_0)) (fun (j : S256x512.Idx) => k0_pay21 (View.ld (Val := Elt Ideal) (S := S288x512) (e' := .f32) U (Rect.unit ![7, 0] ![280, 512] inb_S288x512_S280x512_7_0)) (ix2 ⟨8 + (j 0).val, lt8 j⟩ (j 1))) (View.ld x3 (Rect.unit ![21, 0] ![1, 512] inb_S31x512_S1x512_21_0)) (fun (j : S256x512.Idx) => k0_pay21 (View.ld (Val := Elt Ideal) (S := S288x512) (e' := .f32) U (Rect.unit ![7, 0] ![280, 512] inb_S288x512_S280x512_7_0)) (ix2 ⟨16 + (j 0).val, lt16 j⟩ (j 1))) (View.ld x3 (Rect.unit ![29, 0] ![1, 512] inb_S31x512_S1x512_29_0)) fun (j : S256x512.Idx) => k0_pay21 (View.ld (Val := Elt Ideal) (S := S288x512) (e' := .f32) U (Rect.unit ![7, 0] ![280, 512] inb_S288x512_S280x512_7_0)) (ix2 ⟨24 + (j 0).val, lt24 j⟩ (j 1)))  (ix3 0 r l) =
      InSpec.silu (InSpec.norm (fun k => (∑ j : Fin 31, U (ix2 ⟨r.val + 2 + j.val, by omega⟩ k) * x3 (ix2 j k)) + x4 (ix2 0 k))
        (fun i => x5 (ix2 0 (i 0))) (fun i => x6 (ix2 0 (i 0))) l) * InSpec.silu (z (ix2 r l)) := by
  refine (branchAt _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  refine congrArg (fun v => InSpec.silu (InSpec.norm v _ _ l) * InSpec.silu (z (ix2 r l))) (funext fun k => ?_)
  rw [InSpec.sum31]
  unfold sumTaps
  pointwise [k0_pay6, k0_pay8, k0_pay11, k0_pay13, k0_pay14, k0_pay16, k0_pay19, k0_pay21]
  simp only [mul_comm (x3 _)]
  refine congrArg (· + x4 (ix2 0 k)) ?_
  iterate 30 refine congrArg₂ (· + ·) ?_ (swap U _ (by omega))
  exact swap U _ (by omega)

end Cert.Proof.InBuffer

end
-- ==== Proof.InConv.lean ====
/-
  The convolution branch, block by block.
-/
module

public import proofs.«01_k».proof.Proof.InBlock
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InConv

open Idealize.ShloMosaic Idealize.ShloMosaic.TcCoe Idealize.SL.Sem
open Cert.KernelIdeal Cert.KernelIdeal.Gen

open InBlock

variable (m : (ℓ : Loc nD τ sig) → Buf (Elt Ideal) ℓ)

/-- What a point leaves for the next one: the last 32 rows of its gated input. -/
theorem halo (c : Dev nD) (t : Fin cfg0.N) (r : Fin 288) (hr : r.val < 32) (l : Fin 512) :
    ((outsAt0 m c t.val t.isLt).2.2.2.2.2.2.2.2 : S288x512.Idx → EReal) (ix2 r l) =
      row m c t ⟨224 + r.val, by omega⟩ ⟨l.val, by omega⟩ * Ideal.logistic (row m c t ⟨224 + r.val, by omega⟩ ⟨512 + l.val, by omega⟩) := by
  have e : (ix2 r l : S288x512.Idx) = (Rect.unit ![0, 0] ![32, 512] inb_S288x512_S32x512_0_0).emb (ix2 ⟨r.val, hr⟩ l) := by
    blk_ext
  by_cases h0 : t.val % 17 = 0
  all_goals first | rw [outsAt0_A m c t h0] | rw [outsAt0_B m c t h0]
  all_goals dsimp only
  all_goals frame_out
  all_goals rw [e]
  all_goals refine (View.canon_cons_emb _ _ _ _).trans ?_
  all_goals unfold row rowOf
  all_goals unfold_payloads
  all_goals pointwise

end Cert.Proof.InConv

end
-- ==== Proof.InConvB.lean ====
/-
  The convolution branch, block by block: its buffer holds the block's gated rows under the last 32 of the block before.
-/
module

public import proofs.«01_k».proof.Proof.InBuffer
public import proofs.«01_k».proof.Proof.InConv
public import Idealize.ShloMosaic.Lib.WritesUnit

@[expose] public section

set_option maxRecDepth 16384

noncomputable section

namespace Cert.Proof.InConvB

open Idealize.ShloMosaic Idealize.ShloMosaic.TcCoe Idealize.SL.Sem
open Cert.KernelIdeal Cert.KernelIdeal.Gen

open InBlock InTaps InBuffer

/-- A tap's row among the block's own. -/
theorem tapOwn (r : Fin 256) (j : Fin 31) : r.val + 2 + j.val - 32 < 256 := by omega

/-- A tap's row among the last of the block before. -/
theorem tapPrev (r : Fin 256) (j : Fin 31) (h : ¬ 32 ≤ r.val + 2 + j.val) : 224 + (r.val + 2 + j.val) < 256 := by omega

/-- A gated row of a block. -/
def gatedOf (x0 : Vec Ideal S1x256x1024 .f32) (x1 : Vec Ideal S1024x2688 .bf16) (r : Fin 256) (l : Fin 512) : EReal :=
  rowOf x0 x1 r ⟨l.val, by omega⟩ * Ideal.logistic (rowOf x0 x1 r ⟨512 + l.val, by omega⟩)

/-- The gated rows the body puts in its buffer. -/
theorem gatedPay (x0 : Vec Ideal S1x256x1024 .f32) (x1 : Vec Ideal S1024x2688 .bf16) (r : Fin 256) (l : Fin 512) :
    k0_pay5 x0 (View.ld x1 (Rect.unit ![0, 0] ![1024, 512] inb_S1024x2688_S1024x512_0_0))
      (View.ld x1 (Rect.unit ![0, 512] ![1024, 512] inb_S1024x2688_S1024x512_0_512)) (ix2 r l) = gatedOf x0 x1 r l := by
  unfold gatedOf rowOf
  unfold_payloads
  pointwise

/-- The other gate's input. -/
theorem zPay (x0 : Vec Ideal S1x256x1024 .f32) (x1 : Vec Ideal S1024x2688 .bf16) (r : Fin 256) (l : Fin 512) :
    k0_pay23 (k0_pay2 x0) (View.ld x1 (Rect.unit ![0, 1024] ![1024, 512] inb_S1024x2688_S1024x512_0_1024)) (ix2 r l)
      = rowOf x0 x1 r ⟨1024 + l.val, by omega⟩ := by
  unfold rowOf
  unfold_payloads
  pointwise

/-- The first block's buffer: zeros above its gated rows. -/
theorem bufA (P : FVec Ideal S256x512 .f32) (q : Fin 288) (k : Fin 512) :
    (View.canon (Val := Elt Ideal) (s := S288x512) (e := .f32)
      [⟨Rect.unit ![32, 0] ![256, 512] inb_S288x512_S256x512_32_0, P⟩,
        ⟨Rect.unit ![0, 0] ![32, 512] inb_S288x512_S32x512_0_0, k0_pay4 (F := Ideal)⟩] : S288x512.Idx → EReal) (ix2 q k)
      = if h : 32 ≤ q.val then P (ix2 ⟨q.val - 32, by omega⟩ k) else 0 := by
  split
  case isTrue h =>
    have e : (ix2 q k : S288x512.Idx) = (Rect.unit ![32, 0] ![256, 512] inb_S288x512_S256x512_32_0).emb (ix2 ⟨q.val - 32, by omega⟩ k) := by
      blk_ext
      all_goals omega
    rw [e]
    exact View.canon_cons_emb _ _ _ _
  case isFalse h =>
    have e : (ix2 q k : S288x512.Idx) = (Rect.unit ![0, 0] ![32, 512] inb_S288x512_S32x512_0_0).emb (ix2 ⟨q.val, by omega⟩ k) := by
      blk_ext
    refine (View.canon_cons_of_not_mem _ _ ?_).trans ?_
    · rw [Rect.mem_set_unit]
      intro hall
      have := (hall 0).1
      exact h this
    · rw [e]
      refine (View.canon_cons_emb _ _ _ _).trans ?_
      pointwise [k0_pay4]

/-- A row above a write of the buffer's last 256 rows reads as before. -/
theorem above {κ : Kind} {sp : Space} (v : View sig κ sp S288x512 .f32) (f : v.ty.Contents (Elt Ideal)) (P : FVec Ideal S256x512 .f32)
    (q : Fin 288) (k : Fin 512) (h : q.val < 32) :
    (v.read (Elt Ideal) (v.writes (Elt Ideal) f [⟨Rect.unit ![32, 0] ![256, 512] inb_S288x512_S256x512_32_0, P⟩]) : S288x512.Idx → EReal) (ix2 q k)
      = (v.read (Elt Ideal) f : S288x512.Idx → EReal) (ix2 q k) := by
  rw [View.writes_cons]
  refine View.read_slice_write_of_not_mem _ _ _ _ ?_
  rw [Rect.map_emb_univ, Rect.mem_set_unit]
  intro hall
  exact absurd (hall 0).1 (Nat.not_le.mpr h)

/-- A row of a write of the buffer's last 256 rows reads what was written. -/
theorem below {κ : Kind} {sp : Space} (v : View sig κ sp S288x512 .f32) (f : v.ty.Contents (Elt Ideal)) (P : FVec Ideal S256x512 .f32)
    (q : Fin 288) (k : Fin 512) (h : 32 ≤ q.val) :
    (v.read (Elt Ideal) (v.writes (Elt Ideal) f [⟨Rect.unit ![32, 0] ![256, 512] inb_S288x512_S256x512_32_0, P⟩]) : S288x512.Idx → EReal) (ix2 q k)
      = P (ix2 ⟨q.val - 32, by omega⟩ k) := by
  have e : (ix2 q k : S288x512.Idx) = (Rect.unit ![32, 0] ![256, 512] inb_S288x512_S256x512_32_0).emb (ix2 ⟨q.val - 32, by omega⟩ k) := by
    blk_ext
    all_goals omega
  rw [e]
  exact View.read_writes_cons_emb _ _ _ _ _ _

/-- A later block's buffer: what the point before left above its gated rows. -/
theorem bufB (X : S288x512.Idx → EReal) (h : (Memref.whole cc0_scratch0).IsWhole) (P : FVec Ideal S256x512 .f32) (q : Fin 288) (k : Fin 512) :
    (View.read (Elt Ideal) (View.whole cc0_scratch0) ((View.whole cc0_scratch0).writes (Elt Ideal) (h.unread X)
      [⟨Rect.unit ![32, 0] ![256, 512] inb_S288x512_S256x512_32_0, P⟩]) : S288x512.Idx → EReal) (ix2 q k)
      = if h' : 32 ≤ q.val then P (ix2 ⟨q.val - 32, by omega⟩ k) else X (ix2 q k) := by
  split
  case isTrue h' => exact below _ _ P q k h'
  case isFalse h' => exact (above _ _ P q k (Nat.lt_of_not_le h')).trans (congrFun (read_unread_whole (Val := Elt Ideal) cc0_scratch0 h X) (ix2 q k))

variable (m : (ℓ : Loc nD τ sig) → Buf (Elt Ideal) ℓ)

/-- A gated row of point `t`'s block. -/
def gated (c : Dev nD) (t : Fin cfg0.N) (r : Fin 256) (l : Fin 512) : EReal :=
  row m c t r ⟨l.val, by omega⟩ * Ideal.logistic (row m c t r ⟨512 + l.val, by omega⟩)

/-- One row of the branch from its 31 rows of the buffer. -/
def branch (c : Dev nD) (t : Fin cfg0.N) (U : Fin 31 → Fin 512 → EReal) (r : Fin 256) (l : Fin 512) : EReal :=
  InSpec.silu (InSpec.norm (fun k => (∑ j : Fin 31, U j k * (iblk m c 3 t : S31x512.Idx → EReal) (ix2 j k)) + (iblk m c 4 t : S1x512.Idx → EReal) (ix2 0 k))
    (fun i => (iblk m c 5 t : S1x512.Idx → EReal) (ix2 0 (i 0))) (fun i => (iblk m c 6 t : S1x512.Idx → EReal) (ix2 0 (i 0))) l)
    * InSpec.silu (row m c t r ⟨1024 + l.val, by omega⟩)

/-- The branch with equal rows of the buffer and an equal gate. -/
theorem branch_congr {U U' : Fin 31 → Fin 512 → EReal} (hU : U = U') (T : Fin 31 → Fin 512 → EReal) (B : Fin 512 → EReal) (G S : InSpec.Lanes)
    {z z' : EReal} (hz : z = z') (l : Fin 512) :
    InSpec.silu (InSpec.norm (fun k => (∑ j : Fin 31, U j k * T j k) + B k) G S l) * InSpec.silu z
      = InSpec.silu (InSpec.norm (fun k => (∑ j : Fin 31, U' j k * T j k) + B k) G S l) * InSpec.silu z' := by
  rw [hU, hz]

set_option maxHeartbeats 4000000 in
/-- The first block of a sequence: rows before the first position are zeros. -/
theorem block_ycA (c : Dev nD) (t : Fin cfg0.N) (h0 : t.val % 17 = 0) (r : Fin 256) (l : Fin 512) :
    ((outsAt0 m c t.val t.isLt).1 : S1x256x512.Idx → EReal) (ix3 0 r l) =
      branch m c t (fun j k => if h : 32 ≤ r.val + 2 + j.val then gated m c t ⟨r.val + 2 + j.val - 32, tapOwn r j⟩ k else 0) r l := by
  rw [outsAt0_A m c t h0]
  dsimp only
  frame_open
  simp (disch := decide) only [↓ View.readCov_skip, ↓ View.readCov_cons_toLoadRect, ↓ View.readCov_fill, ↓ readTap, readBuf]
  frame_out
  refine (bufferAt _ _ _ _ _ _ r l).trans ?_
  refine branch_congr (funext fun j => funext fun k => ?_) _ _ _ _ ?_ l
  · refine (bufA _ _ _).trans ?_
    exact dite_congr rfl (fun h => gatedPay _ _ _ _) fun _ => rfl
  · exact zPay _ _ _ _

set_option maxHeartbeats 4000000 in
/-- A later block: the rows before its own are the last of the point before. -/
theorem block_ycB (c : Dev nD) (t : Fin cfg0.N) (h0 : ¬ t.val % 17 = 0) (r : Fin 256) (l : Fin 512) :
    ((outsAt0 m c t.val t.isLt).1 : S1x256x512.Idx → EReal) (ix3 0 r l) =
      branch m c t (fun j k => if h : 32 ≤ r.val + 2 + j.val then gated m c t ⟨r.val + 2 + j.val - 32, tapOwn r j⟩ k
        else gated m c ⟨t.val - 1, lt_of_le_of_lt (Nat.sub_le _ _) t.isLt⟩ ⟨224 + (r.val + 2 + j.val), tapPrev r j h⟩ k) r l := by
  rw [outsAt0_B m c t h0]
  dsimp only
  frame_open
  simp (disch := decide) only [↓ View.readCov_skip, ↓ View.readCov_cons_toLoadRect, ↓ View.readCov_fill, ↓ readTap, readBuf]
  frame_out
  refine (bufferAt _ _ _ _ _ _ r l).trans ?_
  refine branch_congr (funext fun j => funext fun k => ?_) _ _ _ _ ?_ l
  · refine (bufB _ _ _ _ _).trans ?_
    refine dite_congr rfl (fun h => gatedPay _ _ _ _) fun h => ?_
    exact InConv.halo m c ⟨t.val - 1, lt_of_le_of_lt (Nat.sub_le _ _) t.isLt⟩ ⟨r.val + 2 + j.val, _⟩ (Nat.lt_of_not_le h) k
  · exact zPay _ _ _ _

end Cert.Proof.InConvB

end
-- ==== Proof.InPadded.lean ====
/-
  The convolution's padded rows at a point: the block's own gated rows, the last of the block before, or zeros.
-/
module

public import proofs.«01_k».proof.Proof.InConvB
public import proofs.«01_k».proof.Proof.InRows

@[expose] public section

set_option maxRecDepth 16384

noncomputable section

namespace Cert.Proof.InPadded

open Idealize.ShloMosaic Idealize.ShloMosaic.TcCoe Idealize.SL.Sem
open Cert.KernelIdeal Cert.KernelIdeal.Gen
open InPoints InBlock InRows

/-- A tap within the block. -/
theorem own (h : InSpec.Rows) (w : InSpec.Weights) (b : Fin 8) (n : ℕ) (r : Fin 256) (j : Fin 31) (k : Fin 512) (hq : 32 ≤ r.val + 2 + j.val)
    (hp : n % 17 * 256 + (r.val + 2 + j.val - 32) < 4352) :
    InSpec.padded h w b (n % 17 * 256 + r.val + j.val) k = InSpec.u h w b ⟨n % 17 * 256 + (r.val + 2 + j.val - 32), hp⟩ k := by
  unfold InSpec.padded
  rw [dif_pos ⟨by omega, by omega⟩]
  exact congrArg (fun p => InSpec.u h w b p k) (Fin.ext (by show n % 17 * 256 + r.val + j.val - 30 = n % 17 * 256 + (r.val + 2 + j.val - 32); omega))

/-- A tap in the block before. -/
theorem prev (h : InSpec.Rows) (w : InSpec.Weights) (b : Fin 8) (n : ℕ) (hn : ¬ n % 17 = 0) (r : Fin 256) (j : Fin 31) (k : Fin 512)
    (hq : ¬ 32 ≤ r.val + 2 + j.val) (hp : (n - 1) % 17 * 256 + (224 + (r.val + 2 + j.val)) < 4352) :
    InSpec.padded h w b (n % 17 * 256 + r.val + j.val) k = InSpec.u h w b ⟨(n - 1) % 17 * 256 + (224 + (r.val + 2 + j.val)), hp⟩ k := by
  unfold InSpec.padded
  have e : (n - 1) % 17 = n % 17 - 1 := by omega
  rw [dif_pos ⟨by omega, by omega⟩]
  refine congrArg (fun p => InSpec.u h w b p k) (Fin.ext ?_)
  show n % 17 * 256 + r.val + j.val - 30 = (n - 1) % 17 * 256 + (224 + (r.val + 2 + j.val))
  rw [e]
  omega

/-- A tap before the first position. -/
theorem zero (h : InSpec.Rows) (w : InSpec.Weights) (b : Fin 8) (n : ℕ) (hn : n % 17 = 0) (r : Fin 256) (j : Fin 31) (k : Fin 512)
    (hq : ¬ 32 ≤ r.val + 2 + j.val) :
    InSpec.padded h w b (n % 17 * 256 + r.val + j.val) k = 0 := by
  unfold InSpec.padded
  rw [dif_neg (by omega)]

/-- The point before, within a sequence, takes the same sequence. -/
theorem seqPrev (n : ℕ) (hn : ¬ n % 17 = 0) : (n - 1) / 17 = n / 17 := by omega

end Cert.Proof.InPadded

end
-- ==== Proof.InYc.lean ====
/-
  The convolution branch at a point, in terms of the arguments.
-/
module

public import proofs.«01_k».proof.Proof.InPadded

@[expose] public section

set_option maxRecDepth 16384

noncomputable section

namespace Cert.Proof.InYc

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

open InConvB

/-- The branch's columns are among the first 1536. -/
theorem gateLt (l : Fin 512) : l.val < 1536 ∧ 512 + l.val < 1536 ∧ 1024 + l.val < 1536 := by omega

/-- Two normalisations agree when their rows, scales and shifts do. -/
theorem norm_congr {v v' : Fin 512 → EReal} {g g' b b' : InSpec.Lanes} (hv : v = v') (hg : g = g') (hb : b = b') (l : Fin 512) :
    InSpec.norm v g b l = InSpec.norm v' g' b' l := by
  rw [hv, hg, hb]

/-- A gated row of a point's block. -/
theorem gatedAt (c : Dev nD) (t : Fin cfg0.N) (r : Fin 256) (l : Fin 512) :
    gated m c t r l = InSpec.u (h m c) (w m c) (seq t) (pos t r) l := by
  unfold gated InSpec.u
  exact congrArg₂ (fun a b : EReal => a * Ideal.logistic b) (rowA m c t r _ (gateLt l).1) (rowA m c t r _ (gateLt l).2.1)

/-- The branch from the padded rows. -/
theorem branchAt (c : Dev nD) (t : Fin cfg0.N) (U : Fin 31 → Fin 512 → EReal) (r : Fin 256) (l : Fin 512)
    (hU : ∀ j k, U j k = InSpec.padded (h m c) (w m c) (seq t) ((pos t r).val + j.val) k) :
    branch m c t U r l = InSpec.yc (h m c) (w m c) (cw m c) (cb m c) (lg m c) (lb m c) (seq t) (pos t r) l := by
  unfold branch InSpec.yc
  refine congrArg₂ (fun a b : EReal => InSpec.silu a * InSpec.silu b) ?_ (rowA m c t r _ (gateLt l).2.2)
  refine norm_congr (funext fun k => ?_) (funext fun i => ?_) (funext fun i => ?_) l
  · unfold InSpec.conv
    refine congrArg₂ (fun a b : EReal => a + b) (Finset.sum_congr rfl fun j _ => ?_) (InEntry.arr4 m c t k)
    exact congrArg₂ (fun a b : EReal => a * b) (hU j k) (InEntry.arrT m c t j k)
  · exact (InEntry.arr5 m c t (i 0)).trans (congrArg _ (eq_ix1 i).symm)
  · exact (InEntry.arr6 m c t (i 0)).trans (congrArg _ (eq_ix1 i).symm)

/-- The branch's block at a point. -/
theorem value (c : Dev nD) (t : Fin cfg0.N) (r : Fin 256) (l : Fin 512) :
    ((outsAt0 m c t.val t.isLt).1 : S1x256x512.Idx → EReal) (ix3 0 r l) =
      InSpec.yc (h m c) (w m c) (cw m c) (cb m c) (lg m c) (lb m c) (seq t) (pos t r) l := by
  by_cases h0 : t.val % 17 = 0
  · refine (block_ycA m c t h0 r l).trans (branchAt m c t _ r l fun j k => ?_)
    by_cases hq : 32 ≤ r.val + 2 + j.val
    · rw [dif_pos hq]
      exact (gatedAt m c t _ k).trans (InPadded.own _ _ _ t.val r j k hq _).symm
    · rw [dif_neg hq]
      exact (InPadded.zero _ _ _ t.val h0 r j k hq).symm
  · refine (block_ycB m c t h0 r l).trans (branchAt m c t _ r l fun j k => ?_)
    by_cases hq : 32 ≤ r.val + 2 + j.val
    · rw [dif_pos hq]
      exact (gatedAt m c t _ k).trans (InPadded.own _ _ _ t.val r j k hq _).symm
    · rw [dif_neg hq]
      refine (gatedAt m c _ _ k).trans ?_
      have e : seq ⟨t.val - 1, lt_of_le_of_lt (Nat.sub_le _ _) t.isLt⟩ = seq t := Fin.ext (InPadded.seqPrev t.val h0)
      rw [e]
      exact (InPadded.prev _ _ _ t.val h0 r j k hq _).symm

end Cert.Proof.InYc

end
-- ==== Proof.InFinalA.lean ====
/-
  The branch's and the keys' arrays after the run.
-/
module

public import proofs.«01_k».proof.Proof.InKeysAt
public import proofs.«01_k».proof.Proof.InYc
public import Idealize.ShloMosaic.Lib.Tactic.CleanTypes

@[expose] public section

set_option maxRecDepth 16384

noncomputable section

namespace Cert.Proof.InFinalA

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

set_option maxHeartbeats 2000000 in
/-- The convolution branch's array after the run. -/
theorem yc (c : Dev nD) : (dats m 0 c).arrAt 11 cfg0.N = fun i : S8x4352x512.Idx =>
    InSpec.yc (h m c) (w m c) (cw m c) (cb m c) (lg m c) (lb m c) (i 0) (i 1) (i 2) := by
  refine (dats m 0 c).arrAt_eq_of_covers 11 _ (by decide +kernel) fun t hf y => ?_
  have e := (idxOut t).1
  idx_vars y
  obtain rfl : y0 = 0 := Subsingleton.elim (α := Fin 1) _ _
  blk_simp
  rw [after0_11]
  have p : (win0_11.blk t).view.emb (ix3 0 y1 y2) = (ix3 (seq t) (pos t y1) y2 : S8x4352x512.Idx) := by
    blk_ext [e]
    all_goals rfl
  rw [p]
  exact InYc.value m c t y1 y2

set_option maxHeartbeats 2000000 in
/-- The keys' array after the run. -/
theorem k (c : Dev nD) : (dats m 0 c).arrAt 12 cfg0.N = fun i : S8x4352x512.Idx =>
    InSpec.k (h m c) (w m c) (i 0) (i 1) (i 2) := by
  refine (dats m 0 c).arrAt_eq_of_covers 12 _ (by decide +kernel) fun t hf y => ?_
  have e := (idxOut t).2.1
  idx_vars y
  obtain rfl : y0 = 0 := Subsingleton.elim (α := Fin 1) _ _
  blk_simp
  rw [after0_12]
  have p : (win0_12.blk t).view.emb (ix3 0 y1 y2) = (ix3 (seq t) (pos t y1) y2 : S8x4352x512.Idx) := by
    blk_ext [e]
    all_goals rfl
  rw [p]
  exact InKeysAt.valueK m c t y1 y2

end Cert.Proof.InFinalA

end
-- ==== Proof.InVals.lean ====
/-
  The gate, the values and the indexer's head weights, block by block.
-/
module

public import proofs.«01_k».proof.Proof.InBlock
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InVals

open Idealize.ShloMosaic Idealize.ShloMosaic.TcCoe Idealize.SL.Sem
open Cert.KernelIdeal Cert.KernelIdeal.Gen

open InBlock

variable (m : (ℓ : Loc nD τ sig) → Buf (Elt Ideal) ℓ)

/-- The gate's block. -/
theorem block_ga (c : Dev nD) (t : Fin cfg0.N) (r : Fin 256) (l : Fin 512) :
    ((outsAt0 m c t.val t.isLt).2.2.2.1 : S1x256x512.Idx → EReal) (ix3 0 r l) =
      InSpec.silu (row m c t r ⟨2048 + l.val, by omega⟩) := by
  by_cases h0 : t.val % 17 = 0
  all_goals first | rw [outsAt0_A m c t h0] | rw [outsAt0_B m c t h0]
  all_goals dsimp only
  all_goals frame_out
  all_goals unfold row rowOf InSpec.silu
  all_goals pointwise [k0_pay36, k0_pay35, k0_pay2]

/-- A row of the input's block. -/
theorem k2At (x0 : Vec Ideal S1x256x1024 .f32) (r : Fin 256) (x : Fin 1024) : k0_pay2 x0 (ix2 r x) = x0 (ix3 0 r x) := by
  pointwise [k0_pay2]

set_option maxHeartbeats 2000000 in
/-- The block's pieces: 64 rows of values and 16 rows of ones to each head. -/
theorem tiles (v2 : FVec Ideal S256x1024 .bf16) (w : Vec Ideal S512x1024 .bf16) (g : Fin 8) (r : Fin 80) (l : Fin 256) :
    (View.canon (Val := Elt Ideal) (s := S1x1x8x80x256) (e := .bf16) [⟨Rect.unit ![0, 0, 7, 64, 0] ![1, 1, 1, 16, 256] inb_S1x1x8x80x256_S1x1x1x16x256_0_0_7_64_0, k0_pay133 (F := Ideal)⟩,
        ⟨Rect.unit ![0, 0, 7, 0, 0] ![1, 1, 1, 64, 256] inb_S1x1x8x80x256_S1x1x1x64x256_0_0_7_0_0, k0_pay132 (k0_pay114 v2 w)⟩,
        ⟨Rect.unit ![0, 0, 6, 64, 0] ![1, 1, 1, 16, 256] inb_S1x1x8x80x256_S1x1x1x16x256_0_0_6_64_0, k0_pay131 (F := Ideal)⟩,
        ⟨Rect.unit ![0, 0, 6, 0, 0] ![1, 1, 1, 64, 256] inb_S1x1x8x80x256_S1x1x1x64x256_0_0_6_0_0, k0_pay130 (k0_pay114 v2 w)⟩,
        ⟨Rect.unit ![0, 0, 5, 64, 0] ![1, 1, 1, 16, 256] inb_S1x1x8x80x256_S1x1x1x16x256_0_0_5_64_0, k0_pay129 (F := Ideal) k0_pay128⟩,
        ⟨Rect.unit ![0, 0, 5, 0, 0] ![1, 1, 1, 64, 256] inb_S1x1x8x80x256_S1x1x1x64x256_0_0_5_0_0, k0_pay127 (k0_pay114 v2 w)⟩,
        ⟨Rect.unit ![0, 0, 4, 64, 0] ![1, 1, 1, 16, 256] inb_S1x1x8x80x256_S1x1x1x16x256_0_0_4_64_0, k0_pay126 (F := Ideal)⟩,
        ⟨Rect.unit ![0, 0, 4, 0, 0] ![1, 1, 1, 64, 256] inb_S1x1x8x80x256_S1x1x1x64x256_0_0_4_0_0, k0_pay125 (k0_pay114 v2 w)⟩,
        ⟨Rect.unit ![0, 0, 3, 64, 0] ![1, 1, 1, 16, 256] inb_S1x1x8x80x256_S1x1x1x16x256_0_0_3_64_0, k0_pay124 (F := Ideal)⟩,
        ⟨Rect.unit ![0, 0, 3, 0, 0] ![1, 1, 1, 64, 256] inb_S1x1x8x80x256_S1x1x1x64x256_0_0_3_0_0, k0_pay123 (k0_pay114 v2 w)⟩,
        ⟨Rect.unit ![0, 0, 2, 64, 0] ![1, 1, 1, 16, 256] inb_S1x1x8x80x256_S1x1x1x16x256_0_0_2_64_0, k0_pay122 (F := Ideal) k0_pay121⟩,
        ⟨Rect.unit ![0, 0, 2, 0, 0] ![1, 1, 1, 64, 256] inb_S1x1x8x80x256_S1x1x1x64x256_0_0_2_0_0, k0_pay120 (k0_pay114 v2 w)⟩,
        ⟨Rect.unit ![0, 0, 1, 64, 0] ![1, 1, 1, 16, 256] inb_S1x1x8x80x256_S1x1x1x16x256_0_0_1_64_0, k0_pay119 (F := Ideal)⟩,
        ⟨Rect.unit ![0, 0, 1, 0, 0] ![1, 1, 1, 64, 256] inb_S1x1x8x80x256_S1x1x1x64x256_0_0_1_0_0, k0_pay118 (k0_pay114 v2 w)⟩,
        ⟨Rect.unit ![0, 0, 0, 64, 0] ![1, 1, 1, 16, 256] inb_S1x1x8x80x256_S1x1x1x16x256_0_0_0_64_0, k0_pay117 (F := Ideal)⟩,
        ⟨Rect.unit ![0, 0, 0, 0, 0] ![1, 1, 1, 64, 256] inb_S1x1x8x80x256_S1x1x1x64x256_0_0_0_0_0, k0_pay116 (k0_pay115 v2 w)⟩] : S1x1x8x80x256.Idx → EReal) (ix5 0 0 g r l) =
      if hr : r.val < 64 then ∑ x, w (ix2 ⟨g.val * 64 + r.val, by omega⟩ x) * v2 (ix2 l x) else 1 := by
  canon_tiles x h using View.cover_of_tiledBy (s := S1x1x8x80x256) _ ![1, 1, 1, 16, 256] (by sl_kernel_rfl) _
  all_goals idx_vars x
  all_goals pointwise [k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133]
  all_goals split
  all_goals first
    | (exfalso; omega)
    | rfl
    | (have e4 : x4 = l := Fin.ext (by omega)
       subst e4
       exact congrArg (fun e => ∑ x, w (ix2 e x) * v2 (ix2 x4 x)) (Fin.ext (by dsimp only; omega)))

/-- The values' block: 64 rows of values and 16 rows of ones to each head. -/
theorem block_vt (c : Dev nD) (t : Fin cfg0.N) (g : Fin 8) (r : Fin 80) (l : Fin 256) :
    ((outsAt0 m c t.val t.isLt).2.2.2.2.2.2.1 : S1x1x8x80x256.Idx → EReal) (ix5 0 0 g r l) =
      if hr : r.val < 64 then col m c t ⟨1024 + (g.val * 64 + r.val), by omega⟩ l else 1 := by
  by_cases h0 : t.val % 17 = 0
  all_goals first | rw [outsAt0_A m c t h0] | rw [outsAt0_B m c t h0]
  all_goals dsimp only
  all_goals frame_out
  all_goals refine (tiles _ _ g r l).trans ?_
  all_goals unfold col colOf
  all_goals pointwise [k2At]

/-- The head weights' block. -/
theorem block_wt (c : Dev nD) (t : Fin cfg0.N) (g : Fin 8) (l : Fin 256) :
    ((outsAt0 m c t.val t.isLt).2.2.2.2.2.2.2.1 : S1x8x256.Idx → EReal) (ix3 0 g l) =
      col m c t ⟨1536 + g.val, by omega⟩ l * Ideal.ofBits .f32 0x3D3504F3#32 := by
  by_cases h0 : t.val % 17 = 0
  all_goals first | rw [outsAt0_A m c t h0] | rw [outsAt0_B m c t h0]
  all_goals dsimp only
  all_goals frame_out
  all_goals unfold_payloads
  all_goals unfold col colOf
  all_goals pointwise

end Cert.Proof.InVals

end
-- ==== Proof.InValsAt.lean ====
/-
  The gate, the values and the head weights at a point, in terms of the arguments.
-/
module

public import proofs.«01_k».proof.Proof.InVals
public import proofs.«01_k».proof.Proof.InRows
public import Idealize.ShloMosaic.Lib.Tactic.CleanTypes

@[expose] public section

set_option maxRecDepth 16384

noncomputable section

namespace Cert.Proof.InValsAt

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

/-- A value's row among the 512. -/
theorem valueLt (g : Fin 8) (r : Fin 80) (hr : r.val < 64) : g.val * 64 + r.val < 512 := by omega

/-- The gate's block at a point. -/
theorem valueG (c : Dev nD) (t : Fin cfg0.N) (r : Fin 256) (l : Fin 512) :
    ((outsAt0 m c t.val t.isLt).2.2.2.1 : S1x256x512.Idx → EReal) (ix3 0 r l) = InSpec.ga (h m c) (w m c) (seq t) (pos t r) l := by
  refine (InVals.block_ga m c t r l).trans ?_
  unfold InSpec.ga
  exact congrArg InSpec.silu (rowZ m c t r l _ _)

/-- The values' block at a point. -/
theorem valueV (c : Dev nD) (t : Fin cfg0.N) (g : Fin 8) (r : Fin 80) (s : Fin 256) :
    ((outsAt0 m c t.val t.isLt).2.2.2.2.2.2.1 : S1x1x8x80x256.Idx → EReal) (ix5 0 0 g r s)
      = InSpec.vt (h m c) (w m c) (seq t) ⟨t.val % 17, Nat.mod_lt _ (by decide)⟩ g r s := by
  refine (InVals.block_vt m c t g r s).trans ?_
  unfold InSpec.vt
  exact dite_congr rfl (fun hr => colV m c t s ⟨g.val * 64 + r.val, valueLt g r hr⟩ _ _) fun _ => rfl

/-- The head weights' block at a point. -/
theorem valueW (c : Dev nD) (t : Fin cfg0.N) (g : Fin 8) (r : Fin 256) :
    ((outsAt0 m c t.val t.isLt).2.2.2.2.2.2.2.1 : S1x8x256.Idx → EReal) (ix3 0 g r) = InSpec.wt (h m c) (w m c) (seq t) g (pos t r) := by
  refine (InVals.block_wt m c t g r).trans ?_
  unfold InSpec.wt
  exact congrArg (fun a : EReal => a * Ideal.ofBits .f32 0x3D3504F3#32) (colW m c t r g _ _)

end Cert.Proof.InValsAt

end
-- ==== Proof.InFinalB.lean ====
/-
  The indexer's keys' and the gate's arrays after the run.
-/
module

public import proofs.«01_k».proof.Proof.InKeysAt
public import proofs.«01_k».proof.Proof.InValsAt
public import Idealize.ShloMosaic.Lib.Tactic.CleanTypes

@[expose] public section

set_option maxRecDepth 16384

noncomputable section

namespace Cert.Proof.InFinalB

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

set_option maxHeartbeats 2000000 in
/-- The indexer's keys' array after the run. -/
theorem ki (c : Dev nD) : (dats m 0 c).arrAt 13 cfg0.N = fun i : S8x4352x128.Idx =>
    InSpec.ki (h m c) (w m c) (i 0) (i 1) (i 2) := by
  refine (dats m 0 c).arrAt_eq_of_covers 13 _ (by decide +kernel) fun t hf y => ?_
  have e := (idxOut t).2.2.1
  idx_vars y
  obtain rfl : y0 = 0 := Subsingleton.elim (α := Fin 1) _ _
  blk_simp
  rw [after0_13]
  have p : (win0_13.blk t).view.emb (ix3 0 y1 y2) = (ix3 (seq t) (pos t y1) y2 : S8x4352x128.Idx) := by
    blk_ext [e]
    all_goals rfl
  rw [p]
  exact InKeysAt.valueKi m c t y1 y2

set_option maxHeartbeats 2000000 in
/-- The gate's array after the run. -/
theorem ga (c : Dev nD) : (dats m 0 c).arrAt 14 cfg0.N = fun i : S8x4352x512.Idx =>
    InSpec.ga (h m c) (w m c) (i 0) (i 1) (i 2) := by
  refine (dats m 0 c).arrAt_eq_of_covers 14 _ (by decide +kernel) fun t hf y => ?_
  have e := (idxOut t).2.2.2.1
  idx_vars y
  obtain rfl : y0 = 0 := Subsingleton.elim (α := Fin 1) _ _
  blk_simp
  rw [after0_14]
  have p : (win0_14.blk t).view.emb (ix3 0 y1 y2) = (ix3 (seq t) (pos t y1) y2 : S8x4352x512.Idx) := by
    blk_ext [e]
    all_goals rfl
  rw [p]
  exact InValsAt.valueG m c t y1 y2

end Cert.Proof.InFinalB

end
-- ==== Proof.InLanes.lean ====
/-
  Rotated and scaled lanes are equal when their indices are.
-/
module

public import proofs.«01_k».proof.Proof.InBlock
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InLanes

open Idealize.ShloMosaic Idealize.ShloMosaic.TcCoe Idealize.SL.Sem
open Cert.KernelIdeal Cert.KernelIdeal.Gen

open InBlock

variable (m : (ℓ : Loc nD τ sig) → Buf (Elt Ideal) ℓ)

/-- A first half of a rotated head, scaled: equal when the lanes are. -/
theorem qLo {n k : ℕ} (X : Fin n → EReal) (C S : Fin k → EReal) (z : EReal) {a a' b b' : Fin n} {d d' e e' : Fin k}
    (ha : a.val = a'.val) (hb : b.val = b'.val) (hd : d.val = d'.val) (he : e.val = e'.val) :
    (X a * C d - X b * S e) * z = (X a' * C d' - X b' * S e') * z := by
  rw [Fin.ext ha, Fin.ext hb, Fin.ext hd, Fin.ext he]

/-- A second half of a rotated head, scaled: equal when the lanes are. -/
theorem qHi {n k : ℕ} (X : Fin n → EReal) (C S : Fin k → EReal) (z : EReal) {a a' b b' : Fin n} {d d' e e' : Fin k}
    (ha : a.val = a'.val) (hb : b.val = b'.val) (hd : d.val = d'.val) (he : e.val = e'.val) :
    (X a * C d + X b * S e) * z = (X a' * C d' + X b' * S e') * z := by
  rw [Fin.ext ha, Fin.ext hb, Fin.ext hd, Fin.ext he]

/-- A first half of a rotated head: equal when the lanes are. -/
theorem lo {n k : ℕ} (X : Fin n → EReal) (C S : Fin k → EReal) {a a' b b' : Fin n} {d d' e e' : Fin k}
    (ha : a.val = a'.val) (hb : b.val = b'.val) (hd : d.val = d'.val) (he : e.val = e'.val) :
    X a * C d - X b * S e = X a' * C d' - X b' * S e' := by
  rw [Fin.ext ha, Fin.ext hb, Fin.ext hd, Fin.ext he]

/-- A second half of a rotated head: equal when the lanes are. -/
theorem hi {n k : ℕ} (X : Fin n → EReal) (C S : Fin k → EReal) {a a' b b' : Fin n} {d d' e e' : Fin k}
    (ha : a.val = a'.val) (hb : b.val = b'.val) (hd : d.val = d'.val) (he : e.val = e'.val) :
    X a * C d + X b * S e = X a' * C d' + X b' * S e' := by
  rw [Fin.ext ha, Fin.ext hb, Fin.ext hd, Fin.ext he]

end Cert.Proof.InLanes

end
-- ==== Proof.InQueries.lean ====
/-
  The rotated queries, positions along the lanes, block by block.
-/
module

public import proofs.«01_k».proof.Proof.InLanes
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InQueries

open Idealize.ShloMosaic Idealize.ShloMosaic.TcCoe Idealize.SL.Sem
open Cert.KernelIdeal Cert.KernelIdeal.Gen

open InBlock InLanes

variable (m : (ℓ : Loc nD τ sig) → Buf (Elt Ideal) ℓ)

/-- A row of the input's block. -/
theorem k2At (x0 : Vec Ideal S1x256x1024 .f32) (r : Fin 256) (x : Fin 1024) : k0_pay2 x0 (ix2 r x) = x0 (ix3 0 r x) := by
  pointwise [k0_pay2]

set_option maxHeartbeats 2000000 in
/-- The block's tiles, one half of a head each. -/
theorem tiles (v2 : FVec Ideal S256x1024 .bf16) (w : Vec Ideal S512x1024 .bf16) (C S : Vec Ideal S32x256 .f32)
    (r : Fin 512) (l : Fin 256) :
    (View.canon (Val := Elt Ideal) (s := S1x512x256) (e := .bf16) [⟨Rect.unit ![0, 480, 0] ![1, 32, 256] inb_S1x512x256_S1x32x256_0_480_0, k0_pay76 (k0_pay38 C) (k0_pay39 S) (k0_pay40 v2 w)⟩,
        ⟨Rect.unit ![0, 448, 0] ![1, 32, 256] inb_S1x512x256_S1x32x256_0_448_0, k0_pay75 (k0_pay38 C) (k0_pay39 S) (k0_pay40 v2 w)⟩,
        ⟨Rect.unit ![0, 416, 0] ![1, 32, 256] inb_S1x512x256_S1x32x256_0_416_0, k0_pay72 (k0_pay38 C) (k0_pay39 S) (k0_pay68 (k0_pay40 v2 w)) (k0_pay69 (k0_pay40 v2 w))⟩,
        ⟨Rect.unit ![0, 384, 0] ![1, 32, 256] inb_S1x512x256_S1x32x256_0_384_0, k0_pay71 (k0_pay70 (k0_pay38 C) (k0_pay39 S) (k0_pay40 v2 w))⟩,
        ⟨Rect.unit ![0, 352, 0] ![1, 32, 256] inb_S1x512x256_S1x32x256_0_352_0, k0_pay67 (k0_pay38 C) (k0_pay39 S) (k0_pay40 v2 w)⟩,
        ⟨Rect.unit ![0, 320, 0] ![1, 32, 256] inb_S1x512x256_S1x32x256_0_320_0, k0_pay66 (k0_pay38 C) (k0_pay39 S) (k0_pay40 v2 w)⟩,
        ⟨Rect.unit ![0, 288, 0] ![1, 32, 256] inb_S1x512x256_S1x32x256_0_288_0, k0_pay63 (k0_pay38 C) (k0_pay39 S) (k0_pay59 (k0_pay40 v2 w)) (k0_pay60 (k0_pay40 v2 w))⟩,
        ⟨Rect.unit ![0, 256, 0] ![1, 32, 256] inb_S1x512x256_S1x32x256_0_256_0, k0_pay62 (k0_pay61 (k0_pay38 C) (k0_pay39 S) (k0_pay40 v2 w))⟩,
        ⟨Rect.unit ![0, 224, 0] ![1, 32, 256] inb_S1x512x256_S1x32x256_0_224_0, k0_pay58 (k0_pay38 C) (k0_pay39 S) (k0_pay40 v2 w)⟩,
        ⟨Rect.unit ![0, 192, 0] ![1, 32, 256] inb_S1x512x256_S1x32x256_0_192_0, k0_pay57 (k0_pay38 C) (k0_pay39 S) (k0_pay40 v2 w)⟩,
        ⟨Rect.unit ![0, 160, 0] ![1, 32, 256] inb_S1x512x256_S1x32x256_0_160_0, k0_pay54 (k0_pay38 C) (k0_pay39 S) (k0_pay50 (k0_pay40 v2 w)) (k0_pay51 (k0_pay40 v2 w))⟩,
        ⟨Rect.unit ![0, 128, 0] ![1, 32, 256] inb_S1x512x256_S1x32x256_0_128_0, k0_pay53 (k0_pay52 (k0_pay38 C) (k0_pay39 S) (k0_pay40 v2 w))⟩,
        ⟨Rect.unit ![0, 96, 0] ![1, 32, 256] inb_S1x512x256_S1x32x256_0_96_0, k0_pay49 (k0_pay38 C) (k0_pay39 S) (k0_pay40 v2 w)⟩,
        ⟨Rect.unit ![0, 64, 0] ![1, 32, 256] inb_S1x512x256_S1x32x256_0_64_0, k0_pay48 (k0_pay38 C) (k0_pay39 S) (k0_pay40 v2 w)⟩,
        ⟨Rect.unit ![0, 32, 0] ![1, 32, 256] inb_S1x512x256_S1x32x256_0_32_0, k0_pay45 (k0_pay38 C) (k0_pay39 S) (k0_pay41 v2 w) (k0_pay42 v2 w)⟩,
        ⟨Rect.unit ![0, 0, 0] ![1, 32, 256] inb_S1x512x256_S1x32x256_0_0_0, k0_pay44 (k0_pay43 v2 C S w)⟩]  : S1x512x256.Idx → EReal) (ix3 0 r l) =
      (if h : r.val % 64 < 32 then
        (∑ x, w (ix2 r x) * v2 (ix2 l x)) * C (ix2 ⟨r.val % 64, h⟩ l)
          - (∑ x, w (ix2 ⟨r.val + 32, by omega⟩ x) * v2 (ix2 l x)) * S (ix2 ⟨r.val % 64, h⟩ l)
      else
        (∑ x, w (ix2 r x) * v2 (ix2 l x)) * C (ix2 ⟨r.val % 64 - 32, by omega⟩ l)
          + (∑ x, w (ix2 ⟨r.val - 32, by omega⟩ x) * v2 (ix2 l x)) * S (ix2 ⟨r.val % 64 - 32, by omega⟩ l)) * Ideal.ofBits .f32 0x3E38AA3B#32 := by
  canon_tiles x h
  all_goals idx_vars x
  all_goals pointwise [k0_pay40, k0_pay38, k0_pay39, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  all_goals (have e2 : x2 = l := Fin.ext (by omega))
  all_goals subst e2
  all_goals split
  all_goals first
    | (exfalso; omega)
    | (refine qLo (fun e => ∑ x, w (ix2 e x) * v2 (ix2 x2 x)) (fun d => C (ix2 d x2)) (fun d => S (ix2 d x2)) _ ?_ ?_ ?_ ?_ <;> dsimp only <;> omega)
    | (refine qHi (fun e => ∑ x, w (ix2 e x) * v2 (ix2 x2 x)) (fun d => C (ix2 d x2)) (fun d => S (ix2 d x2)) _ ?_ ?_ ?_ ?_ <;> dsimp only <;> omega)

/-- The queries' block. -/
theorem block_qt (c : Dev nD) (t : Fin cfg0.N) (r : Fin 512) (l : Fin 256) :
    ((outsAt0 m c t.val t.isLt).2.2.2.2.1 : S1x512x256.Idx → EReal) (ix3 0 r l) =
      (if h : r.val % 64 < 32 then
        col m c t ⟨0 + r.val, by omega⟩ l * (iblk m c 9 t : S32x256.Idx → EReal) (ix2 ⟨r.val % 64, h⟩ l)
          - col m c t ⟨0 + (r.val + 32), by omega⟩ l * (iblk m c 10 t : S32x256.Idx → EReal) (ix2 ⟨r.val % 64, h⟩ l)
      else
        col m c t ⟨0 + r.val, by omega⟩ l * (iblk m c 9 t : S32x256.Idx → EReal) (ix2 ⟨r.val % 64 - 32, by omega⟩ l)
          + col m c t ⟨0 + (r.val - 32), by omega⟩ l * (iblk m c 10 t : S32x256.Idx → EReal) (ix2 ⟨r.val % 64 - 32, by omega⟩ l))
        * Ideal.ofBits .f32 0x3E38AA3B#32 := by
  by_cases h0 : t.val % 17 = 0
  all_goals first | rw [outsAt0_A m c t h0] | rw [outsAt0_B m c t h0]
  all_goals dsimp only
  all_goals frame_out
  all_goals refine (tiles _ _ _ _ r l).trans ?_
  all_goals unfold col colOf
  all_goals pointwise [k2At]

end Cert.Proof.InQueries

end
-- ==== Proof.InQueriesB.lean ====
/-
  The indexer's rotated queries, positions along the lanes, block by block.
-/
module

public import proofs.«01_k».proof.Proof.InLanes
public import proofs.«01_k».proof.Proof.Gen.KernelIdeal.Frame
public import Idealize.ShloMosaic.Lib.Pipeline.ValueKit
public import Idealize.ShloMosaic.Lib.Pipeline.ReadBack
public import Idealize.ShloMosaic.Lib.Claim
public import Idealize.ShloMosaic.Lib.Pointwise
public import Idealize.ShloMosaic.Lib.Tactic.CleanTypes

@[expose] public section

set_option maxRecDepth 16384

noncomputable section

namespace Cert.Proof.InQueriesB

open Idealize.ShloMosaic Idealize.ShloMosaic.TcCoe Idealize.SL.Sem
open Cert.KernelIdeal Cert.KernelIdeal.Gen

open InBlock InLanes

variable (m : (ℓ : Loc nD τ sig) → Buf (Elt Ideal) ℓ)

/-- A row of the input's block. -/
theorem k2At (x0 : Vec Ideal S1x256x1024 .f32) (r : Fin 256) (x : Fin 1024) : k0_pay2 x0 (ix2 r x) = x0 (ix3 0 r x) := by
  pointwise [k0_pay2]

set_option maxHeartbeats 2000000 in
/-- The block's tiles, one half of a head each. -/
theorem tiles (v2 : FVec Ideal S256x1024 .bf16) (w : Vec Ideal S512x1024 .bf16) (C S : Vec Ideal S32x256 .f32)
    (r : Fin 512) (l : Fin 256) :
    (View.canon (Val := Elt Ideal) (s := S1x512x256) (e := .bf16) [⟨Rect.unit ![0, 480, 0] ![1, 32, 256] inb_S1x512x256_S1x32x256_0_480_0, k0_pay113 (k0_pay38 C) (k0_pay39 S) (k0_pay77 v2 w)⟩,
        ⟨Rect.unit ![0, 448, 0] ![1, 32, 256] inb_S1x512x256_S1x32x256_0_448_0, k0_pay112 (k0_pay38 C) (k0_pay39 S) (k0_pay77 v2 w)⟩,
        ⟨Rect.unit ![0, 416, 0] ![1, 32, 256] inb_S1x512x256_S1x32x256_0_416_0, k0_pay109 (k0_pay38 C) (k0_pay39 S) (k0_pay105 (k0_pay77 v2 w)) (k0_pay106 (k0_pay77 v2 w))⟩,
        ⟨Rect.unit ![0, 384, 0] ![1, 32, 256] inb_S1x512x256_S1x32x256_0_384_0, k0_pay108 (k0_pay107 (k0_pay38 C) (k0_pay39 S) (k0_pay77 v2 w))⟩,
        ⟨Rect.unit ![0, 352, 0] ![1, 32, 256] inb_S1x512x256_S1x32x256_0_352_0, k0_pay104 (k0_pay38 C) (k0_pay39 S) (k0_pay77 v2 w)⟩,
        ⟨Rect.unit ![0, 320, 0] ![1, 32, 256] inb_S1x512x256_S1x32x256_0_320_0, k0_pay103 (k0_pay38 C) (k0_pay39 S) (k0_pay77 v2 w)⟩,
        ⟨Rect.unit ![0, 288, 0] ![1, 32, 256] inb_S1x512x256_S1x32x256_0_288_0, k0_pay100 (k0_pay38 C) (k0_pay39 S) (k0_pay96 (k0_pay77 v2 w)) (k0_pay97 (k0_pay77 v2 w))⟩,
        ⟨Rect.unit ![0, 256, 0] ![1, 32, 256] inb_S1x512x256_S1x32x256_0_256_0, k0_pay99 (k0_pay98 (k0_pay38 C) (k0_pay39 S) (k0_pay77 v2 w))⟩,
        ⟨Rect.unit ![0, 224, 0] ![1, 32, 256] inb_S1x512x256_S1x32x256_0_224_0, k0_pay95 (k0_pay38 C) (k0_pay39 S) (k0_pay77 v2 w)⟩,
        ⟨Rect.unit ![0, 192, 0] ![1, 32, 256] inb_S1x512x256_S1x32x256_0_192_0, k0_pay94 (k0_pay38 C) (k0_pay39 S) (k0_pay77 v2 w)⟩,
        ⟨Rect.unit ![0, 160, 0] ![1, 32, 256] inb_S1x512x256_S1x32x256_0_160_0, k0_pay91 (k0_pay38 C) (k0_pay39 S) (k0_pay87 (k0_pay77 v2 w)) (k0_pay88 (k0_pay77 v2 w))⟩,
        ⟨Rect.unit ![0, 128, 0] ![1, 32, 256] inb_S1x512x256_S1x32x256_0_128_0, k0_pay90 (k0_pay89 (k0_pay38 C) (k0_pay39 S) (k0_pay77 v2 w))⟩,
        ⟨Rect.unit ![0, 96, 0] ![1, 32, 256] inb_S1x512x256_S1x32x256_0_96_0, k0_pay86 (k0_pay38 C) (k0_pay39 S) (k0_pay77 v2 w)⟩,
        ⟨Rect.unit ![0, 64, 0] ![1, 32, 256] inb_S1x512x256_S1x32x256_0_64_0, k0_pay85 (k0_pay38 C) (k0_pay39 S) (k0_pay77 v2 w)⟩,
        ⟨Rect.unit ![0, 32, 0] ![1, 32, 256] inb_S1x512x256_S1x32x256_0_32_0, k0_pay82 (k0_pay38 C) (k0_pay39 S) (k0_pay78 v2 w) (k0_pay79 v2 w)⟩,
        ⟨Rect.unit ![0, 0, 0] ![1, 32, 256] inb_S1x512x256_S1x32x256_0_0_0, k0_pay81 (k0_pay80 v2 (k0_pay38 C) (k0_pay39 S) w)⟩]  : S1x512x256.Idx → EReal) (ix3 0 r l) =
      (if h : r.val % 64 < 32 then
        (∑ x, w (ix2 r x) * v2 (ix2 l x)) * C (ix2 ⟨r.val % 64, h⟩ l)
          - (∑ x, w (ix2 ⟨r.val + 32, by omega⟩ x) * v2 (ix2 l x)) * S (ix2 ⟨r.val % 64, h⟩ l)
      else
        (∑ x, w (ix2 r x) * v2 (ix2 l x)) * C (ix2 ⟨r.val % 64 - 32, by omega⟩ l)
          + (∑ x, w (ix2 ⟨r.val - 32, by omega⟩ x) * v2 (ix2 l x)) * S (ix2 ⟨r.val % 64 - 32, by omega⟩ l)) := by
  canon_tiles x h
  all_goals idx_vars x
  all_goals pointwise [k0_pay77, k0_pay38, k0_pay39, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  all_goals (have e2 : x2 = l := Fin.ext (by omega))
  all_goals subst e2
  all_goals split
  all_goals first
    | (exfalso; omega)
    | (refine lo (fun e => ∑ x, w (ix2 e x) * v2 (ix2 x2 x)) (fun d => C (ix2 d x2)) (fun d => S (ix2 d x2)) ?_ ?_ ?_ ?_ <;> dsimp only <;> omega)
    | (refine hi (fun e => ∑ x, w (ix2 e x) * v2 (ix2 x2 x)) (fun d => C (ix2 d x2)) (fun d => S (ix2 d x2)) ?_ ?_ ?_ ?_ <;> dsimp only <;> omega)

/-- The indexer's queries' block. -/
theorem block_qit (c : Dev nD) (t : Fin cfg0.N) (r : Fin 512) (l : Fin 256) :
    ((outsAt0 m c t.val t.isLt).2.2.2.2.2.1 : S1x512x256.Idx → EReal) (ix3 0 r l) =
      (if h : r.val % 64 < 32 then
        col m c t ⟨512 + r.val, by omega⟩ l * (iblk m c 9 t : S32x256.Idx → EReal) (ix2 ⟨r.val % 64, h⟩ l)
          - col m c t ⟨512 + (r.val + 32), by omega⟩ l * (iblk m c 10 t : S32x256.Idx → EReal) (ix2 ⟨r.val % 64, h⟩ l)
      else
        col m c t ⟨512 + r.val, by omega⟩ l * (iblk m c 9 t : S32x256.Idx → EReal) (ix2 ⟨r.val % 64 - 32, by omega⟩ l)
          + col m c t ⟨512 + (r.val - 32), by omega⟩ l * (iblk m c 10 t : S32x256.Idx → EReal) (ix2 ⟨r.val % 64 - 32, by omega⟩ l)) := by
  by_cases h0 : t.val % 17 = 0
  all_goals first | rw [outsAt0_A m c t h0] | rw [outsAt0_B m c t h0]
  all_goals dsimp only
  all_goals frame_out
  all_goals refine (tiles _ _ _ _ r l).trans ?_
  all_goals unfold col colOf
  all_goals pointwise [k2At]

end Cert.Proof.InQueriesB

end
-- ==== Proof.InQueriesAt.lean ====
/-
  The rotated queries at a point, in terms of the arguments.
-/
module

public import proofs.«01_k».proof.Proof.InQueries
public import proofs.«01_k».proof.Proof.InQueriesB
public import proofs.«01_k».proof.Proof.InRows
public import proofs.«01_k».proof.Proof.InEntryR
public import proofs.«01_k».proof.Proof.InRope
public import Idealize.ShloMosaic.Lib.Tactic.CleanTypes

@[expose] public section

set_option maxRecDepth 16384

noncomputable section

namespace Cert.Proof.InQueriesAt

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

/-- The queries' block at a point. -/
theorem valueQ (c : Dev nD) (t : Fin cfg0.N) (l : Fin 512) (r : Fin 256) :
    ((outsAt0 m c t.val t.isLt).2.2.2.2.1 : S1x512x256.Idx → EReal) (ix3 0 l r) = InSpec.qt (h m c) (w m c) (seq t) l (pos t r) := by
  refine (InQueries.block_qt m c t l r).trans ?_
  unfold InSpec.qt InSpec.rope InSpec.ropeLo InSpec.ropeHi
  refine congrArg (fun a : EReal => a * Ideal.ofBits .f32 0x3E38AA3B#32) ?_
  refine dite_congr rfl (fun hl => ?_) fun _ => ?_
  · exact congrArg₂ (fun a b : EReal => a - b)
      (congrArg₂ (fun a b : EReal => a * b) (colQ m c t r l _ _) (InEntryR.arrCosT m c t _ r))
      (congrArg₂ (fun a b : EReal => a * b) (colQ m c t r ⟨l.val + 32, InRope.up l hl⟩ _ _) (InEntryR.arrSinT m c t _ r))
  · exact congrArg₂ (fun a b : EReal => a + b)
      (congrArg₂ (fun a b : EReal => a * b) (colQ m c t r l _ _) (InEntryR.arrCosT m c t _ r))
      (congrArg₂ (fun a b : EReal => a * b) (colQ m c t r ⟨l.val - 32, InRope.down l⟩ _ _) (InEntryR.arrSinT m c t _ r))

/-- The indexer's queries' block at a point. -/
theorem valueQi (c : Dev nD) (t : Fin cfg0.N) (l : Fin 512) (r : Fin 256) :
    ((outsAt0 m c t.val t.isLt).2.2.2.2.2.1 : S1x512x256.Idx → EReal) (ix3 0 l r) = InSpec.qit (h m c) (w m c) (seq t) l (pos t r) := by
  refine (InQueriesB.block_qit m c t l r).trans ?_
  unfold InSpec.qit InSpec.rope InSpec.ropeLo InSpec.ropeHi
  refine dite_congr rfl (fun hl => ?_) fun _ => ?_
  · exact congrArg₂ (fun a b : EReal => a - b)
      (congrArg₂ (fun a b : EReal => a * b) (colI m c t r l _ _) (InEntryR.arrCosT m c t _ r))
      (congrArg₂ (fun a b : EReal => a * b) (colI m c t r ⟨l.val + 32, InRope.up l hl⟩ _ _) (InEntryR.arrSinT m c t _ r))
  · exact congrArg₂ (fun a b : EReal => a + b)
      (congrArg₂ (fun a b : EReal => a * b) (colI m c t r l _ _) (InEntryR.arrCosT m c t _ r))
      (congrArg₂ (fun a b : EReal => a * b) (colI m c t r ⟨l.val - 32, InRope.down l⟩ _ _) (InEntryR.arrSinT m c t _ r))

end Cert.Proof.InQueriesAt

end
-- ==== Proof.InFinalC.lean ====
/-
  The queries' arrays after the run.
-/
module

public import proofs.«01_k».proof.Proof.InQueriesAt
public import Idealize.ShloMosaic.Lib.Tactic.CleanTypes

@[expose] public section

set_option maxRecDepth 16384

noncomputable section

namespace Cert.Proof.InFinalC

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

set_option maxHeartbeats 2000000 in
/-- The queries' array after the run. -/
theorem qt (c : Dev nD) : (dats m 0 c).arrAt 15 cfg0.N = fun i : S8x512x4352.Idx =>
    InSpec.qt (h m c) (w m c) (i 0) (i 1) (i 2) := by
  refine (dats m 0 c).arrAt_eq_of_covers 15 _ (by decide +kernel) fun t hf y => ?_
  have e := (idxOut t).2.2.2.2.1
  idx_vars y
  obtain rfl : y0 = 0 := Subsingleton.elim (α := Fin 1) _ _
  blk_simp
  rw [after0_15]
  have p : (win0_15.blk t).view.emb (ix3 0 y1 y2) = (ix3 (seq t) y1 (pos t y2) : S8x512x4352.Idx) := by
    blk_ext [e]
    all_goals rfl
  rw [p]
  exact InQueriesAt.valueQ m c t y1 y2

set_option maxHeartbeats 2000000 in
/-- The indexer's queries' array after the run. -/
theorem qit (c : Dev nD) : (dats m 0 c).arrAt 16 cfg0.N = fun i : S8x512x4352.Idx =>
    InSpec.qit (h m c) (w m c) (i 0) (i 1) (i 2) := by
  refine (dats m 0 c).arrAt_eq_of_covers 16 _ (by decide +kernel) fun t hf y => ?_
  have e := (idxOut t).2.2.2.2.2.1
  idx_vars y
  obtain rfl : y0 = 0 := Subsingleton.elim (α := Fin 1) _ _
  blk_simp
  rw [after0_16]
  have p : (win0_16.blk t).view.emb (ix3 0 y1 y2) = (ix3 (seq t) y1 (pos t y2) : S8x512x4352.Idx) := by
    blk_ext [e]
    all_goals rfl
  rw [p]
  exact InQueriesAt.valueQi m c t y1 y2

end Cert.Proof.InFinalC

end
-- ==== Proof.InFinalD.lean ====
/-
  The values' and the head weights' arrays after the run.
-/
module

public import proofs.«01_k».proof.Proof.InValsAt
public import Idealize.ShloMosaic.Lib.Tactic.CleanTypes

@[expose] public section

set_option maxRecDepth 16384

noncomputable section

namespace Cert.Proof.InFinalD

open Idealize.ShloMosaic Idealize.ShloMosaic.TcCoe Idealize.SL.Sem
open Cert.KernelIdeal Cert.KernelIdeal.Gen
open InPoints InBlock InRows

variable (m : (ℓ : Loc nD τ sig) → Buf (Elt Ideal) ℓ)

set_option maxHeartbeats 2000000 in
/-- The values' array after the run. -/
theorem vt (c : Dev nD) : (dats m 0 c).arrAt 17 cfg0.N = fun i : S8x17x8x80x256.Idx =>
    InSpec.vt (h m c) (w m c) (i 0) (i 1) (i 2) (i 3) (i 4) := by
  refine (dats m 0 c).arrAt_eq_of_covers 17 _ (by decide +kernel) fun t hf y => ?_
  have e := (idxOut t).2.2.2.2.2.2.1
  idx_vars y
  obtain rfl : y0 = 0 := Subsingleton.elim (α := Fin 1) _ _
  obtain rfl : y1 = 0 := Subsingleton.elim (α := Fin 1) _ _
  blk_simp
  rw [after0_17]
  have p : (win0_17.blk t).view.emb (ix5 0 0 y2 y3 y4) = (ix5 (seq t) ⟨t.val % 17, Nat.mod_lt _ (by decide)⟩ y2 y3 y4 : S8x17x8x80x256.Idx) := by
    blk_ext [e]
    all_goals rfl
  rw [p]
  exact InValsAt.valueV m c t y2 y3 y4

set_option maxHeartbeats 2000000 in
/-- The head weights' array after the run. -/
theorem wt (c : Dev nD) : (dats m 0 c).arrAt 18 cfg0.N = fun i : S8x8x4352.Idx =>
    InSpec.wt (h m c) (w m c) (i 0) (i 1) (i 2) := by
  refine (dats m 0 c).arrAt_eq_of_covers 18 _ (by decide +kernel) fun t hf y => ?_
  have e := (idxOut t).2.2.2.2.2.2.2
  idx_vars y
  obtain rfl : y0 = 0 := Subsingleton.elim (α := Fin 1) _ _
  blk_simp
  rw [after0_18]
  have p : (win0_18.blk t).view.emb (ix3 0 y1 y2) = (ix3 (seq t) y1 (pos t y2) : S8x8x4352.Idx) := by
    blk_ext [e]
    all_goals rfl
  rw [p]
  exact InValsAt.valueW m c t y1 y2

end Cert.Proof.InFinalD

end
-- ==== Proof.InReference.lean ====
/-
  The input projection's reference at the ideal instance: its eight results, read at an index, are `InSpec`'s functions
  of the arguments.
-/
module

public import proofs.«01_k».proof.Proof.InSpec
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.InReference

open Idealize.ShloMosaic Idealize.ShloMosaic.TcCoe Idealize.SL.Sem
open Cert.ReferenceIdeal Cert.ReferenceIdeal.Gen Cert.ReferenceIdeal.Value

variable (V : Valuation τ sig (Elt Ideal))

/-- The input's rows among the buffers. -/
abbrev h : InSpec.Rows := V (Proc.devRef .tc main_arg0)
/-- The projection's weights among the buffers. -/
abbrev w : InSpec.Weights := V (Proc.devRef .tc main_arg1)
/-- The convolution's weights among the buffers. -/
abbrev cw : InSpec.Taps := V (Proc.devRef .tc main_arg2)
/-- The convolution's bias among the buffers. -/
abbrev cb : InSpec.Lanes := V (Proc.devRef .tc main_arg3)
/-- The normalisation's scale among the buffers. -/
abbrev lg : InSpec.Lanes := V (Proc.devRef .tc main_arg4)
/-- The normalisation's shift among the buffers. -/
abbrev lb : InSpec.Lanes := V (Proc.devRef .tc main_arg5)

/-- The table of cosines. -/
theorem cosAt (p : Fin 4352) (d : Fin 32) :
    (res_main_v16 V : (⟨2, ![4352, 32]⟩ : Shape).Idx → EReal) (ix2 p d) = Ideal.cos (InSpec.angle p d) := by
  unfold res_main_v16 res_main_v15
  clean_types
  pointwise [InSpec.angle]

/-- The table of sines. -/
theorem sinAt (p : Fin 4352) (d : Fin 32) :
    (res_main_v17 V : (⟨2, ![4352, 32]⟩ : Shape).Idx → EReal) (ix2 p d) = Ideal.sin (InSpec.angle p d) := by
  unfold res_main_v17 res_main_v15
  clean_types
  pointwise [InSpec.angle]

/-- The table of cosines under a unit axis for the heads. -/
theorem cosHead (p : Fin 4352) (d : Fin 32) :
    (res_main_v18 V : (⟨3, ![4352, 1, 32]⟩ : Shape).Idx → EReal) (ix3 p 0 d) = Ideal.cos (InSpec.angle p d) := by
  refine Eq.trans ?_ (cosAt V p d)
  unfold res_main_v18
  clean_types
  pointwise

/-- The table of sines under a unit axis for the heads. -/
theorem sinHead (p : Fin 4352) (d : Fin 32) :
    (res_main_v19 V : (⟨3, ![4352, 1, 32]⟩ : Shape).Idx → EReal) (ix3 p 0 d) = Ideal.sin (InSpec.angle p d) := by
  refine Eq.trans ?_ (sinAt V p d)
  unfold res_main_v19
  clean_types
  pointwise

/-- The whole projection. -/
theorem projAt (b : Fin 8) (p : Fin 4352) (e : Fin 4168) :
    (res_main_v20 V : (⟨3, ![8, 4352, 4168]⟩ : Shape).Idx → EReal) (ix3 b p e) = InSpec.proj (h V) (w V) b p e := by
  unfold res_main_v20
  clean_types
  pointwise [InSpec.proj]

/-- A row of heads laid side by side. -/
theorem heads (x : FVec Ideal S8x4352x8x64 .f32) (hc : S8x4352x8x64.ShapeCasts S8x4352x512)
    (hb : FTy.bf16.bits < FTy.f32.bits) (b : Fin 8) (p : Fin 4352) (l : Fin 512) :
    truncf .bf16 (shapeCast S8x4352x512 x hc) hb (ix3 b p l)
      = x (ix4 b p ⟨l.val / 64, by omega⟩ ⟨l.val % 64, by omega⟩) := by
  pointwise

/-- The same with the positions along the lanes. -/
theorem headsT (x : FVec Ideal S8x4352x8x64 .f32) (hc : S8x4352x8x64.ShapeCasts S8x4352x512)
    (ht : S8x4352x512.Transposes [0, 2, 1] S8x512x4352)
    (hb : FTy.bf16.bits < FTy.f32.bits) (b : Fin 8) (l : Fin 512) (p : Fin 4352) :
    truncf .bf16 (transpose S8x512x4352 [0, 2, 1] (shapeCast S8x4352x512 x hc) ht) hb (ix3 b l p)
      = x (ix4 b p ⟨l.val / 64, by omega⟩ ⟨l.val % 64, by omega⟩) := by
  pointwise

/-- The rotated keys, head by head. -/
theorem kHead (b : Fin 8) (p : Fin 4352) (g : Fin 8) (e : Fin 64) :
    ((concatenate S8x4352x8x64 3 [⟨S8x4352x8x32, (subf (mulf (res_main_v318 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v319 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩, ⟨S8x4352x8x32, (addf (mulf (res_main_v319 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v318 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩] concatenates_S8x4352x8x32_S8x4352x8x32_S8x4352x8x64_d3) : (⟨4, ![8, 4352, 8, 64]⟩ : Shape).Idx → EReal) (ix4 b p g e)
      = InSpec.k (h V) (w V) b p ⟨g.val * 64 + e.val, by omega⟩ := by
  unfold res_main_v318 res_main_v319 res_main_v317
  clean_types
  pointwise [cosHead, sinHead, projAt, InSpec.k, InSpec.rope, InSpec.ropeLo, InSpec.ropeHi]
  split <;> split <;> first
    | (exfalso; omega)
    | (refine InSpec.ropeLo_congr _ p ?_ ?_ ?_ <;> dsimp only <;> omega)
    | (refine InSpec.ropeHi_congr _ p ?_ ?_ ?_ <;> dsimp only <;> omega)

/-- The indexer's rotated queries, head by head. -/
theorem qitHead (b : Fin 8) (p : Fin 4352) (g : Fin 8) (e : Fin 64) :
    ((concatenate S8x4352x8x64 3 [⟨S8x4352x8x32, (subf (mulf (res_main_v336 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v337 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩, ⟨S8x4352x8x32, (addf (mulf (res_main_v337 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v336 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩] concatenates_S8x4352x8x32_S8x4352x8x32_S8x4352x8x64_d3) : (⟨4, ![8, 4352, 8, 64]⟩ : Shape).Idx → EReal) (ix4 b p g e)
      = InSpec.qit (h V) (w V) b ⟨g.val * 64 + e.val, by omega⟩ p := by
  unfold res_main_v336 res_main_v337 res_main_v335
  clean_types
  pointwise [cosHead, sinHead, projAt, InSpec.qit, InSpec.rope, InSpec.ropeLo, InSpec.ropeHi]
  split <;> split <;> first
    | (exfalso; omega)
    | (refine InSpec.ropeLo_congr _ p ?_ ?_ ?_ <;> dsimp only <;> omega)
    | (refine InSpec.ropeHi_congr _ p ?_ ?_ ?_ <;> dsimp only <;> omega)

/-- The rotated keys. -/
theorem k (b : Fin 8) (p : Fin 4352) (l : Fin 512) :
    (truncf .bf16 (shapeCast S8x4352x512 (concatenate S8x4352x8x64 3 [⟨S8x4352x8x32, (subf (mulf (res_main_v318 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v319 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩, ⟨S8x4352x8x32, (addf (mulf (res_main_v319 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v318 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩] concatenates_S8x4352x8x32_S8x4352x8x32_S8x4352x8x64_d3) shapeCasts_S8x4352x8x64_S8x4352x512) bitsLt_bf16_f32 : (⟨3, ![8, 4352, 512]⟩ : Shape).Idx → EReal) (ix3 b p l)
      = InSpec.k (h V) (w V) b p l := by
  refine (heads _ _ _ b p l).trans ((kHead V b p _ _).trans ?_)
  exact congrArg (InSpec.k (h V) (w V) b p) (Fin.ext (by dsimp only; omega))

/-- The indexer's rotated queries. -/
theorem qit (b : Fin 8) (l : Fin 512) (p : Fin 4352) :
    (truncf .bf16 (transpose S8x512x4352 [0, 2, 1] (shapeCast S8x4352x512 (concatenate S8x4352x8x64 3 [⟨S8x4352x8x32, (subf (mulf (res_main_v336 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v337 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩, ⟨S8x4352x8x32, (addf (mulf (res_main_v337 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v336 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩] concatenates_S8x4352x8x32_S8x4352x8x32_S8x4352x8x64_d3) shapeCasts_S8x4352x8x64_S8x4352x512) transposes_S8x4352x512_S8x512x4352_0_2_1) bitsLt_bf16_f32 : (⟨3, ![8, 512, 4352]⟩ : Shape).Idx → EReal) (ix3 b l p)
      = InSpec.qit (h V) (w V) b l p := by
  refine (headsT _ _ _ _ b l p).trans ((qitHead V b p _ _).trans ?_)
  exact congrArg (fun l => InSpec.qit (h V) (w V) b l p) (Fin.ext (by dsimp only; omega))

/-- The rotated and scaled queries. -/
theorem qt (b : Fin 8) (l : Fin 512) (p : Fin 4352) :
    (truncf .bf16 (transpose S8x512x4352 [0, 2, 1] (shapeCast S8x4352x512 (mulf (concatenate S8x4352x8x64 3 [⟨S8x4352x8x32, (subf (mulf (res_main_v300 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v301 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩, ⟨S8x4352x8x32, (addf (mulf (res_main_v301 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v18 V)))) (mulf (res_main_v300 V) (broadcastInDim S8x4352x8x32 ![0, 1, 2, 3] bcast_S1x4352x1x32_S8x4352x8x32_0_1_2_3 (broadcastInDim S1x4352x1x32 ![1, 2, 3] bcast_S4352x1x32_S1x4352x1x32_1_2_3 (res_main_v19 V)))))⟩] concatenates_S8x4352x8x32_S8x4352x8x32_S8x4352x8x64_d3) (broadcastInDim S8x4352x8x64 ![] bcast_S_S8x4352x8x64 (constant S_ .f32 0x3E38AA3B#32))) shapeCasts_S8x4352x8x64_S8x4352x512) transposes_S8x4352x512_S8x512x4352_0_2_1) bitsLt_bf16_f32 : (⟨3, ![8, 512, 4352]⟩ : Shape).Idx → EReal) (ix3 b l p)
      = InSpec.qt (h V) (w V) b l p := by
  unfold res_main_v300 res_main_v301 res_main_v299
  clean_types
  pointwise [cosHead, sinHead, projAt, InSpec.qt, InSpec.rope, InSpec.ropeLo, InSpec.ropeHi]
  congr 1
  split <;> first
    | (exfalso; omega)
    | (refine InSpec.ropeLo_congr _ p ?_ ?_ ?_ <;> dsimp only <;> omega)
    | (refine InSpec.ropeHi_congr _ p ?_ ?_ ?_ <;> dsimp only <;> omega)

/-- The indexer's rotated keys. -/
theorem ki (b : Fin 8) (p : Fin 4352) (l : Fin 128) :
    (truncf .bf16 (concatenate S8x4352x128 2 [⟨S8x4352x64, (res_main_v369 V)⟩, ⟨S8x4352x64, (res_main_v369 V)⟩] concatenates_S8x4352x64_S8x4352x64_S8x4352x128_d2) bitsLt_bf16_f32 : (⟨3, ![8, 4352, 128]⟩ : Shape).Idx → EReal) (ix3 b p l)
      = InSpec.ki (h V) (w V) b p l := by
  unfold res_main_v369 res_main_v353 res_main_v354 res_main_v29
  clean_types
  pointwise [cosAt, sinAt, projAt, InSpec.ki, InSpec.rope, InSpec.ropeLo, InSpec.ropeHi]
  split <;> split <;> split <;> first
    | (exfalso; omega)
    | (refine InSpec.ropeLo_congr _ p ?_ ?_ ?_ <;> dsimp only <;> omega)
    | (refine InSpec.ropeHi_congr _ p ?_ ?_ ?_ <;> dsimp only <;> omega)

/-- The attention's gate. -/
theorem ga (b : Fin 8) (p : Fin 4352) (l : Fin 512) :
    (mulf (res_main_v27 V) (Host.divf (broadcastInDim S8x4352x512 ![] bcast_S_S8x4352x512 (constant S_ .f32 0x3F800000#32)) (addf (broadcastInDim S8x4352x512 ![] bcast_S_S8x4352x512 (constant S_ .f32 0x3F800000#32)) (Host.exp (Host.negf (res_main_v27 V))))) : (⟨3, ![8, 4352, 512]⟩ : Shape).Idx → EReal) (ix3 b p l)
      = InSpec.ga (h V) (w V) b p l := by
  unfold res_main_v27
  clean_types
  pointwise [projAt, InSpec.ga, InSpec.silu, Ideal.logistic]

/-- The values. -/
theorem vt (b : Fin 8) (t : Fin 17) (g : Fin 8) (r : Fin 80) (s : Fin 256) :
    (truncf .bf16 (concatenate S8x17x8x80x256 3 [⟨S8x17x8x64x256, (transpose S8x17x8x64x256 [0, 1, 3, 4, 2] (shapeCast _ (extractStridedSlice S8x4352x512 ![0, 0, 2560] (res_main_v20 V) slices_S8x4352x4168_S8x4352x512_0_0_2560) shapeCasts_S8x4352x512_S8x17x256x8x64) transposes_S8x17x256x8x64_S8x17x8x64x256_0_1_3_4_2)⟩, ⟨S8x17x8x16x256, (broadcastInDim S8x17x8x16x256 ![] bcast_S_S8x17x8x16x256 (constant S_ .f32 0x3F800000#32))⟩] concatenates_S8x17x8x64x256_S8x17x8x16x256_S8x17x8x80x256_d3) bitsLt_bf16_f32 : (⟨5, ![8, 17, 8, 80, 256]⟩ : Shape).Idx → EReal) (ix5 b t g r s)
      = InSpec.vt (h V) (w V) b t g r s := by
  clean_types
  pointwise [projAt, InSpec.vt]

/-- The indexer's head weights. -/
theorem wt (b : Fin 8) (g : Fin 8) (p : Fin 4352) :
    (transpose S8x8x4352 [0, 2, 1] (mulf (extractStridedSlice S8x4352x8 ![0, 0, 4160] (res_main_v20 V) slices_S8x4352x4168_S8x4352x8_0_0_4160) (broadcastInDim S8x4352x8 ![] bcast_S_S8x4352x8 (constant S_ .f32 0x3D3504F3#32))) transposes_S8x4352x8_S8x8x4352_0_2_1 : (⟨3, ![8, 8, 4352]⟩ : Shape).Idx → EReal) (ix3 b g p)
      = InSpec.wt (h V) (w V) b g p := by
  clean_types
  pointwise [projAt, InSpec.wt]

/-- The gated convolution input behind 30 rows of zeros. -/
theorem paddedAt (b : Fin 8) (q : Fin 4382) (l : Fin 512) :
    (res_main_v38 V : (⟨3, ![8, 4382, 512]⟩ : Shape).Idx → EReal) (ix3 b q l) = InSpec.padded (h V) (w V) b q.val l := by
  unfold res_main_v38
  clean_types
  pointwise [projAt, InSpec.padded, InSpec.u, Ideal.logistic]
  have e : FloatOps.sitofp (F := Ideal) .f32 0#32 = (0 : EReal) := by
    simp [Ideal.scalar_sitofp_def, FloatOps.sitofp]
  rw [e]

/-- The taps' products summed, before the bias. -/
theorem taps (b : Fin 8) (p : Fin 4352) (l : Fin 512) :
    (res_main_v259 V : (⟨3, ![8, 4352, 512]⟩ : Shape).Idx → EReal) (ix3 b p l)
      = InSpec.conv (h V) (w V) (cw V) (cb V) b p l := by
  unfold res_main_v259 res_main_v193 res_main_v116
  clean_types
  pointwise [paddedAt]
  rw [InSpec.conv, InSpec.sum31]
  simp only [Nat.add_comm _ p.val]
  rfl

/-- A row's mean under a unit axis. -/
theorem mean (b : Fin 8) (p : Fin 4352) :
    (res_main_v263 V : (⟨3, ![8, 4352, 1]⟩ : Shape).Idx → EReal) (ix3 b p 0)
      = Ideal.div (∑ l, InSpec.conv (h V) (w V) (cw V) (cb V) b p l) (Ideal.ofBits .f32 0x44000000#32) := by
  unfold res_main_v263
  clean_types
  pointwise [taps]

/-- The normalised rows. -/
theorem normed (b : Fin 8) (p : Fin 4352) (l : Fin 512) :
    (res_main_v283 V : (⟨3, ![8, 4352, 512]⟩ : Shape).Idx → EReal) (ix3 b p l)
      = InSpec.norm (InSpec.conv (h V) (w V) (cw V) (cb V) b p) (lg V) (lb V) l := by
  unfold res_main_v283 res_main_v265
  clean_types
  pointwise [taps, mean, InSpec.norm]

/-- The convolution branch's result. -/
theorem yc (b : Fin 8) (p : Fin 4352) (l : Fin 512) :
    (truncf .bf16 (mulf (mulf (res_main_v283 V) (Host.divf (broadcastInDim S8x4352x512 ![] bcast_S_S8x4352x512 (constant S_ .f32 0x3F800000#32)) (addf (broadcastInDim S8x4352x512 ![] bcast_S_S8x4352x512 (constant S_ .f32 0x3F800000#32)) (Host.exp (Host.negf (res_main_v283 V)))))) (mulf (res_main_v23 V) (Host.divf (broadcastInDim S8x4352x512 ![] bcast_S_S8x4352x512 (constant S_ .f32 0x3F800000#32)) (addf (broadcastInDim S8x4352x512 ![] bcast_S_S8x4352x512 (constant S_ .f32 0x3F800000#32)) (Host.exp (Host.negf (res_main_v23 V))))))) bitsLt_bf16_f32 : (⟨3, ![8, 4352, 512]⟩ : Shape).Idx → EReal) (ix3 b p l)
      = InSpec.yc (h V) (w V) (cw V) (cb V) (lg V) (lb V) b p l := by
  unfold res_main_v23
  clean_types
  pointwise [projAt, normed, InSpec.yc, InSpec.silu, Ideal.logistic]

end Cert.Proof.InReference

end
-- ==== Proof.InClaims.lean ====
/-
  The input projection's claims: what its kernel and its reference run to.
-/
module

public import proofs.«01_k».proof.Defs
public import proofs.«01_k».proof.Proof.InFinalA
public import proofs.«01_k».proof.Proof.InFinalB
public import proofs.«01_k».proof.Proof.InFinalC
public import proofs.«01_k».proof.Proof.InFinalD
public import proofs.«01_k».proof.Proof.InReference
public import proofs.«01_k».proof.Proof.Gen.Kernel.Frame
public import Idealize.ShloMosaic.Lib.Quiescent

@[expose] public section

set_option maxRecDepth 16384

noncomputable section

namespace Cert.Proof.InClaims

open Idealize.ShloMosaic Idealize.ShloMosaic.TcCoe Idealize.SL.Sem
open InRows

/-- Every execution of the kernel ends, leaving its arguments as they were. -/
theorem frame_kernel : Cert.quiescent_Kernel := fun m ρ _ => Cert.Kernel.Gen.frame m ρ

/-- The same of its reading over the extended reals. -/
theorem frame_kernel_ideal : Cert.quiescent_KernelIdeal := fun m ρ _ => Cert.KernelIdeal.Gen.frame m ρ

/-- The same of the reference, which has no semaphore. -/
theorem frame_reference : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- Nothing was rewritten between the kernel and its reading over the extended reals. -/
theorem preserves : Cert.preserves_Kernel_KernelIdeal := trivial

set_option maxHeartbeats 4000000 in
/-- The kernel's eight result arrays and the reference's are the same functions of the arguments. -/
theorem algebraic : Cert.algebraic_KernelIdeal_ReferenceIdeal := by
  intro m ρ m' ρ' _ hagree
  refine ⟨fun c => fun i : Cert.KernelIdeal.S8x4352x512.Idx => InSpec.yc (h m c) (w m c) (cw m c) (cb m c) (lg m c) (lb m c) (i 0) (i 1) (i 2),
    fun c => fun i : Cert.KernelIdeal.S8x4352x512.Idx => InSpec.k (h m c) (w m c) (i 0) (i 1) (i 2),
    fun c => fun i : Cert.KernelIdeal.S8x4352x128.Idx => InSpec.ki (h m c) (w m c) (i 0) (i 1) (i 2),
    fun c => fun i : Cert.KernelIdeal.S8x4352x512.Idx => InSpec.ga (h m c) (w m c) (i 0) (i 1) (i 2),
    fun c => fun i : Cert.KernelIdeal.S8x512x4352.Idx => InSpec.qt (h m c) (w m c) (i 0) (i 1) (i 2),
    fun c => fun i : Cert.KernelIdeal.S8x512x4352.Idx => InSpec.qit (h m c) (w m c) (i 0) (i 1) (i 2),
    fun c => fun i : Cert.KernelIdeal.S8x17x8x80x256.Idx => InSpec.vt (h m c) (w m c) (i 0) (i 1) (i 2) (i 3) (i 4),
    fun c => fun i : Cert.KernelIdeal.S8x8x4352.Idx => InSpec.wt (h m c) (w m c) (i 0) (i 1) (i 2), ?_, ?_⟩
  · exact (θ_run Cert.KernelIdeal.defs _ _).mono (fun _ h c => ⟨(h c).1.trans (InFinalA.yc m c),
        (h c).2.1.trans (InFinalA.k m c),
        (h c).2.2.1.trans (InFinalB.ki m c),
        (h c).2.2.2.1.trans (InFinalB.ga m c),
        (h c).2.2.2.2.1.trans (InFinalC.qt m c),
        (h c).2.2.2.2.2.1.trans (InFinalC.qit m c),
        (h c).2.2.2.2.2.2.1.trans (InFinalD.vt m c),
        (h c).2.2.2.2.2.2.2.1.trans (InFinalD.wt m c),
        (h c).2.2.2.2.2.2.2.2⟩)
      (Cert.KernelIdeal.Value.run_blocks (F := Ideal) m ρ)
  · refine (θ_run Cert.ReferenceIdeal.defs _ _).mono (fun _ h c => ?_) (Cert.ReferenceIdeal.Value.run (F := Ideal) m' ρ')
    obtain ⟨e0, e1, e2, e3, e4, e5⟩ := hagree c
    have a0 : InReference.h (StableHlo.launchContents m' c) = InRows.h m c := e0
    have a1 : InReference.w (StableHlo.launchContents m' c) = InRows.w m c := e1
    have a2 : InReference.cw (StableHlo.launchContents m' c) = InRows.cw m c := e2
    have a3 : InReference.cb (StableHlo.launchContents m' c) = InRows.cb m c := e3
    have a4 : InReference.lg (StableHlo.launchContents m' c) = InRows.lg m c := e4
    have a5 : InReference.lb (StableHlo.launchContents m' c) = InRows.lb m c := e5
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
    · funext i
      obtain ⟨x0, x1, x2, rfl⟩ : ∃ (x0 : Fin 8) (x1 : Fin 4352) (x2 : Fin 512), i = ix3 x0 x1 x2 := ⟨i 0, i 1, i 2, eq_ix3 i⟩
      refine (InReference.yc (StableHlo.launchContents m' c) x0 x1 x2).trans ?_
      rw [a0, a1, a2, a3, a4, a5]
      rfl
    · funext i
      obtain ⟨x0, x1, x2, rfl⟩ : ∃ (x0 : Fin 8) (x1 : Fin 4352) (x2 : Fin 512), i = ix3 x0 x1 x2 := ⟨i 0, i 1, i 2, eq_ix3 i⟩
      refine (InReference.k (StableHlo.launchContents m' c) x0 x1 x2).trans ?_
      rw [a0, a1]
      rfl
    · funext i
      obtain ⟨x0, x1, x2, rfl⟩ : ∃ (x0 : Fin 8) (x1 : Fin 4352) (x2 : Fin 128), i = ix3 x0 x1 x2 := ⟨i 0, i 1, i 2, eq_ix3 i⟩
      refine (InReference.ki (StableHlo.launchContents m' c) x0 x1 x2).trans ?_
      rw [a0, a1]
      rfl
    · funext i
      obtain ⟨x0, x1, x2, rfl⟩ : ∃ (x0 : Fin 8) (x1 : Fin 4352) (x2 : Fin 512), i = ix3 x0 x1 x2 := ⟨i 0, i 1, i 2, eq_ix3 i⟩
      refine (InReference.ga (StableHlo.launchContents m' c) x0 x1 x2).trans ?_
      rw [a0, a1]
      rfl
    · funext i
      obtain ⟨x0, x1, x2, rfl⟩ : ∃ (x0 : Fin 8) (x1 : Fin 512) (x2 : Fin 4352), i = ix3 x0 x1 x2 := ⟨i 0, i 1, i 2, eq_ix3 i⟩
      refine (InReference.qt (StableHlo.launchContents m' c) x0 x1 x2).trans ?_
      rw [a0, a1]
      rfl
    · funext i
      obtain ⟨x0, x1, x2, rfl⟩ : ∃ (x0 : Fin 8) (x1 : Fin 512) (x2 : Fin 4352), i = ix3 x0 x1 x2 := ⟨i 0, i 1, i 2, eq_ix3 i⟩
      refine (InReference.qit (StableHlo.launchContents m' c) x0 x1 x2).trans ?_
      rw [a0, a1]
      rfl
    · funext i
      obtain ⟨x0, x1, x2, x3, x4, rfl⟩ : ∃ (x0 : Fin 8) (x1 : Fin 17) (x2 : Fin 8) (x3 : Fin 80) (x4 : Fin 256), i = ix5 x0 x1 x2 x3 x4 := ⟨i 0, i 1, i 2, i 3, i 4, eq_ix5 i⟩
      refine (InReference.vt (StableHlo.launchContents m' c) x0 x1 x2 x3 x4).trans ?_
      rw [a0, a1]
      rfl
    · funext i
      obtain ⟨x0, x1, x2, rfl⟩ : ∃ (x0 : Fin 8) (x1 : Fin 8) (x2 : Fin 4352), i = ix3 x0 x1 x2 := ⟨i 0, i 1, i 2, eq_ix3 i⟩
      refine (InReference.wt (StableHlo.launchContents m' c) x0 x1 x2).trans ?_
      rw [a0, a1]
      rfl

end Cert.Proof.InClaims

end
-- ==== Proof.OutSpec.lean ====
/-
  What the output projection computes, in plain terms: the two mixers' rows times the two halves of the weight matrix,
  the scaled residual added, and a layer normalisation of each row.
-/
module

public import Idealize.ShloMosaic.Lib.Pointwise

@[expose] public section

noncomputable section

namespace Cert.Proof.OutSpec

open Idealize.ShloMosaic

/-- One row's layer normalisation at lane `k`: mean removed, times the reciprocal square root of the variance plus a
    small constant, scaled and shifted. -/
def norm (v g b : Fin 1024 → EReal) (k : Fin 1024) : EReal :=
  (v k - Ideal.div (∑ l, v l) (Ideal.ofBits .f32 0x44800000#32))
    * Ideal.rsqrt (Ideal.div (∑ l, (v l - Ideal.div (∑ l, v l) (Ideal.ofBits .f32 0x44800000#32))
          * (v l - Ideal.div (∑ l, v l) (Ideal.ofBits .f32 0x44800000#32))) (Ideal.ofBits .f32 0x44800000#32)
        + Ideal.ofBits .f32 0x3727C5AC#32) * g k + b k

/-- One row before the normalisation: the scaled residual plus the two products. -/
def mix (yc ya : Fin 512 → EReal) (h : Fin 1024 → EReal) (w : Fin 1024 → Fin 1024 → EReal) (k : Fin 1024) : EReal :=
  Ideal.ofBits .f32 0x3FD744FD#32 * h k
    + ((∑ j : Fin 512, yc j * w ⟨j.val, by omega⟩ k) + ∑ j : Fin 512, ya j * w ⟨512 + j.val, by omega⟩ k)

/-- Row `r`, lane `k` of the result, from the six arrays: row `r` of the flattened array is position `r % 4352` of
    sequence `r / 4352`. -/
def val (yc ya : (⟨3, ![8, 4352, 512]⟩ : Shape).Idx → EReal) (h : (⟨3, ![8, 4352, 1024]⟩ : Shape).Idx → EReal)
    (w : (⟨2, ![1024, 1024]⟩ : Shape).Idx → EReal) (g b : (⟨1, ![1024]⟩ : Shape).Idx → EReal)
    (r : Fin 34816) (k : Fin 1024) : EReal :=
  norm (mix (fun j => yc (ix3 ⟨r.val / 4352, by omega⟩ ⟨r.val % 4352, by omega⟩ j))
      (fun j => ya (ix3 ⟨r.val / 4352, by omega⟩ ⟨r.val % 4352, by omega⟩ j))
      (fun j => h (ix3 ⟨r.val / 4352, by omega⟩ ⟨r.val % 4352, by omega⟩ j)) (fun j l => w (ix2 j l)))
    (fun j => g (ix1 j)) (fun j => b (ix1 j)) k

end Cert.Proof.OutSpec

end
-- ==== Proof.OutKernel.lean ====
/-
  The output projection's kernel at the ideal instance: its result array holds `OutSpec.val` of the arguments.
-/
module

public import proofs.«01_k».proof.Proof.OutSpec
public import proofs.«01_k».proof.Proof.Gen.OutProjIdeal.Value
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Proof.OutKernel

open Idealize.ShloMosaic Idealize.ShloMosaic.TcCoe Idealize.SL.Sem
open Cert.OutProjIdeal Cert.OutProjIdeal.Gen

/-- One block: from a block of each mixer's rows, the weights, the residual's block and the normalisation's scale and
    shift, the body leaves row `r`, lane `l` of the normalised sum. -/
theorem block (x0 x1 : Vec Ideal S1024x512 .bf16) (x2 : Vec Ideal S1024x1024 .f32) (x3 : Vec Ideal S1024x1024 .bf16)
    (x4 x5 : Vec Ideal S1x1024 .f32) (r l : Fin 1024) :
    out0_6 x0 x1 x2 x3 x4 x5 (ix2 r l)
      = OutSpec.norm (OutSpec.mix (fun j => x0 (ix2 r j)) (fun j => x1 (ix2 r j)) (fun j => x2 (ix2 r j))
          (fun j k => x3 (ix2 j k))) (fun j => x4 (ix2 0 j)) (fun j => x5 (ix2 0 j)) l := by
  frame_out
  pointwise [k0_pay1, k0_pay2, k0_pay3, k0_pay4, OutSpec.norm, OutSpec.mix]

variable (m : (ℓ : Loc nD τ sig) → Buf (Elt Ideal) ℓ)

/-- Which block each window takes at point `t`. -/
theorem idx : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![t.val, 0] :=
  (by decide +kernel : ∀ t : Fin grid0.N, _)

/-- A flattened row's element is the element of its sequence and position. -/
theorem rows512 (x : FVec Ideal S8x4352x512 .bf16) (h : S8x4352x512.ShapeCasts S34816x512) (r : Fin 34816) (j : Fin 512) :
    shapeCast S34816x512 x h (ix2 r j) = x (ix3 ⟨r.val / 4352, by omega⟩ ⟨r.val % 4352, by omega⟩ j) := by
  pointwise

/-- The same for the residual's rows. -/
theorem rows1024 (x : FVec Ideal S8x4352x1024 .f32) (h : S8x4352x1024.ShapeCasts S34816x1024) (r : Fin 34816) (j : Fin 1024) :
    shapeCast S34816x1024 x h (ix2 r j) = x (ix3 ⟨r.val / 4352, by omega⟩ ⟨r.val % 4352, by omega⟩ j) := by
  pointwise

/-- A vector under a leading unit axis. -/
theorem lane1024 (x : FVec Ideal S1024 .f32) (h : S1024.BroadcastsInDim S1x1024 (![1] : Fin 1 → Fin S1x1024.rank)) (j : Fin 1024) :
    broadcastInDim S1x1024 ![1] h x (ix2 0 j) = x (ix1 j) := by
  pointwise

set_option maxHeartbeats 1000000 in
/-- The result array after the run. -/
theorem final (c : Dev nD) : (dats m 0 c).arrAt 6 cfg0.N = fun i : S34816x1024.Idx =>
    OutSpec.val (m (c.tc.loc main_arg0)) (m (c.tc.loc main_arg1)) (m (c.tc.loc main_arg2)) (m (c.tc.loc main_arg3))
      (m (c.tc.loc main_arg4)) (m (c.tc.loc main_arg5)) (i 0) (i 1) := by
  refine (dats m 0 c).arrAt_eq_of_covers 6 _ (by decide +kernel) fun t hf y => ?_
  obtain ⟨e0, e1, e2, e3, e4, e5, e6⟩ := idx t
  idx_vars y
  blk_simp
  rw [after0_6]
  refine (block _ _ _ _ _ _ _ _).trans ?_
  unfold OutSpec.val
  simp only [iblk]
  blk_simp [e0, e1, e2, e3, e4, e5, e6]
  have h1 : (win0_6.blk t).view.emb (ix2 y0 y1) 1 = y1 := by
    apply Fin.ext
    blk_simp [e6]
  rw [h1]
  have hr (y : Fin 1024) : t.val * 1024 + y.val < 34816 := by
    have hN : cfg0.N = 34 := N_0
    have ht : t.val < cfg0.N := t.isLt
    omega
  refine congr (congr (congr (congrArg _ (congr (congr (congr (congrArg _ ?_) ?_) ?_) ?_)) ?_) ?_) rfl
  · funext j
    have p : ((View.whole main_v0).slice (win0_0.rect t)).emb (ix2 y0 j) = (ix2 ⟨t.val * 1024 + y0.val, hr y0⟩ j : S34816x512.Idx) := by
      blk_ext [e0]
    entry_read
    rw [p]
    exact rows512 _ _ _ _
  · funext j
    have p : ((View.whole main_v1).slice (win0_1.rect t)).emb (ix2 y0 j) = (ix2 ⟨t.val * 1024 + y0.val, hr y0⟩ j : S34816x512.Idx) := by
      blk_ext [e1]
    entry_read
    rw [p]
    exact rows512 _ _ _ _
  · funext j
    have p : ((View.whole main_v2).slice (win0_2.rect t)).emb (ix2 y0 j) = (ix2 ⟨t.val * 1024 + y0.val, hr y0⟩ j : S34816x1024.Idx) := by
      blk_ext [e2]
    entry_read
    rw [p]
    exact rows1024 _ _ _ _
  · funext j k
    have p : ((View.whole main_v3).slice (win0_3.rect t)).emb (ix2 j k) = (ix2 j k : S1024x1024.Idx) := by
      blk_ext [e3]
    entry_read
    rw [p]
    rfl
  · funext j
    have p : ((View.whole main_v4).slice (win0_4.rect t)).emb (ix2 0 j) = (ix2 0 j : S1x1024.Idx) := by
      blk_ext [e4]
    entry_read
    rw [p]
    exact lane1024 _ _ _
  · funext j
    have p : ((View.whole main_v5).slice (win0_5.rect t)).emb (ix2 0 j) = (ix2 0 j : S1x1024.Idx) := by
      blk_ext [e5]
    entry_read
    rw [p]
    exact lane1024 _ _ _

end Cert.Proof.OutKernel

end
-- ==== Proof.OutReference.lean ====
/-
  The output projection's reference at the ideal instance: its result, read at an index, is `OutSpec.val` of the arguments.
-/
module

public import proofs.«01_k».proof.Proof.OutSpec
public import proofs.«01_k».proof.Proof.Gen.OutReferenceIdeal.Run
public import Idealize.ShloMosaic.Lib.Pointwise
public import Idealize.ShloMosaic.Lib.Tactic.CleanTypes

@[expose] public section

set_option maxRecDepth 16384

noncomputable section

namespace Cert.Proof.OutReference

open Idealize.ShloMosaic Idealize.ShloMosaic.TcCoe Idealize.SL.Sem
open Cert.OutReferenceIdeal Cert.OutReferenceIdeal.Gen

variable (m : (ℓ : Loc nD τ sig) → Buf (Elt Ideal) ℓ)

/-- The concatenated rows' product with the weights is the sum of the two halves' products; the rest is the reference's
    own arithmetic, row by row. -/
theorem result (c : Dev nD) (r : Fin 34816) (k : Fin 1024) :
    Cert.OutReferenceIdeal.Value.res_out0 m c (ix2 r k)
      = OutSpec.val (m (c.tc.loc main_arg0)) (m (c.tc.loc main_arg1)) (m (c.tc.loc main_arg2)) (m (c.tc.loc main_arg3))
          (m (c.tc.loc main_arg4)) (m (c.tc.loc main_arg5)) r k := by
  unfold Value.res_out0 Value.res_main_v30
  clean_types
  pointwise [OutSpec.val, OutSpec.norm, OutSpec.mix]

end Cert.Proof.OutReference

end
-- ==== Proof.OutClaims.lean ====
/-
  The output projection's claims: what its kernel and its reference run to.
-/
module

public import proofs.«01_k».proof.Defs
public import proofs.«01_k».proof.Proof.OutKernel
public import proofs.«01_k».proof.Proof.OutReference
public import proofs.«01_k».proof.Proof.Gen.OutProj.Frame
public import Idealize.ShloMosaic.Lib.Quiescent

@[expose] public section

set_option maxRecDepth 16384

noncomputable section

namespace Cert.Proof.OutClaims

open Idealize.ShloMosaic Idealize.ShloMosaic.TcCoe Idealize.SL.Sem

/-- Every execution of the kernel ends, leaving its arguments as they were. -/
theorem frame_kernel : Cert.quiescent_OutProj := fun m ρ _ => Cert.OutProj.Gen.frame m ρ

/-- The same of its reading over the extended reals. -/
theorem frame_kernel_ideal : Cert.quiescent_OutProjIdeal := fun m ρ _ => Cert.OutProjIdeal.Gen.frame m ρ

/-- The same of the reference, which has no semaphore. -/
theorem frame_reference : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

/-- Nothing was rewritten between the kernel and its reading over the extended reals. -/
theorem preserves : Cert.preserves_OutProj_OutProjIdeal := trivial

/-- The kernel's result array and the reference's are the same function of the arguments. -/
theorem algebraic : Cert.algebraic_OutProjIdeal_OutReferenceIdeal := by
  intro m ρ m' ρ' _ hagree
  refine ⟨fun c => Cert.OutReferenceIdeal.Value.res_out0 m' c, ?_, ?_⟩
  · refine (θ_run Cert.OutProjIdeal.defs _ _).mono (fun _ h c => ⟨(h c).1.trans ?_, (h c).2⟩)
      (Cert.OutProjIdeal.Value.run_blocks (F := Ideal) m ρ)
    rw [OutKernel.final m c]
    funext i
    obtain ⟨r, k, rfl⟩ : ∃ (r : Fin 34816) (k : Fin 1024), i = ix2 r k := ⟨i 0, i 1, eq_ix2 i⟩
    refine Eq.trans ?_ (OutReference.result m' c r k).symm
    obtain ⟨e0, e1, e2, e3, e4, e5⟩ := hagree c
    rw [e0, e1, e2, e3, e4, e5]
    rfl
  · exact Cert.OutReferenceIdeal.Value.run (F := Ideal) m' ρ'

end Cert.Proof.OutClaims

end
-- ==== Proof.Keeps.lean ====
/-
  Programs that keep a proposition about the memory: a small calculus for bodies whose effects are loads,
  stores, counted loops, branches and calls, where nothing is said of what the stores write. `J` is a
  separating proposition that owns every buffer the body touches, those it stores to at SOME contents; a
  program keeps `J` when it runs from `J` back to `J`, and its result meets a stated condition.
-/
module

public import Idealize.ShloMosaic.Lib.Pipeline.Kit
public import Idealize.ShloMosaic.Lib.Pipeline.FrameBody
public import Idealize.ShloMosaic.Lib.Scf
public import Idealize.ShloMosaic.Lib.Tactic

@[expose] public section

noncomputable section

namespace Cert.Keeps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

local notation "𝕄" => MT nD τ sig Unit Val ℕ (UR sig nD τ) ℕ

variable (defs : Defs nD τ sig Val Λ) (c : Dev nD) (bd : Option ℕ) (J : sProp (MT nD τ sig Unit Val ℕ (UR sig nD τ) ℕ))

/-- From `J` the program `p` runs to its end with `J` held again, and `Q` true of its result. -/
structure Keeps {α : Type} (p : Prog (TpuEff nD τ sig Val Λ .tc) α) (Q : α → Prop) : Prop where
  /-- The triple. -/
  out : J ⊢ wp frame (wpE (Ix := Unit) (Name := ℕ) (U := UR sig nD τ) (Lvl := ℕ) defs Variants.nat (c : Thread nD τ) bd) Set.univ p (fun a => iprop(⌜Q a⌝ ∗ J))

/-- `J` lends the elements of the memref `m` for reading: it gives them up whole and takes them back unchanged. -/
structure Lends {sp : Space} {s : Shape} {e : EltTy} (m : Memref sig .tc sp s e) : Prop where
  /-- The elements, and what takes them back. -/
  out : J ⊢ iprop(∃ f : Buf Val (m.view.loc (c : Thread nD τ)), (m.view.loc (c : Thread nD τ) ↦[m.view.set]{fullShare} f)
    ∗ ((m.view.loc (c : Thread nD τ) ↦[m.view.set]{fullShare} f) -∗ J))

/-- `J` owns the elements of the memref `m` at some contents: it takes them back at any other. -/
structure Owns {sp : Space} {s : Shape} {e : EltTy} (m : Memref sig .tc sp s e) : Prop where
  /-- The elements, and what takes them back. -/
  out : J ⊢ iprop(∃ f : Buf Val (m.view.loc (c : Thread nD τ)), (m.view.loc (c : Thread nD τ) ↦[m.view.set]{fullShare} f)
    ∗ (∀ g : Buf Val (m.view.loc (c : Thread nD τ)), (m.view.loc (c : Thread nD τ) ↦[m.view.set]{fullShare} g) -∗ J))

variable {defs c bd J}

/-- What is owned at some contents can be lent for reading. -/
theorem Owns.lends {sp : Space} {s : Shape} {e : EltTy} {m : Memref sig .tc sp s e} (h : Owns c J m) : Lends c J m := by
  refine ⟨h.out.trans ?_⟩
  iintro ⟨%f, H, K⟩
  iexists f
  isplitl [H]; · iexact H
  iapply K

/-- A weaker condition on the result. -/
theorem Keeps.mono {α : Type} {p : Prog (TpuEff nD τ sig Val Λ .tc) α} {Q Q' : α → Prop} (h : Keeps defs c bd J p Q)
    (hQ : ∀ a, Q a → Q' a) : Keeps defs c bd J p Q' := by
  constructor
  refine BIBase.Entails.trans h.out (wp_mono _ _ _ fun a => ?_)
  exact sep_mono_left (Laws.pure_mono (hQ a))

/-- A program that only returns. -/
theorem Keeps.pure {α : Type} {a : α} {Q : α → Prop} (h : Q a) :
    Keeps defs c bd J (Pure.pure a : Prog (TpuEff nD τ sig Val Λ .tc) α) Q := by
  constructor
  refine BIBase.Entails.trans ?_ (le_wp_ret _ _ _ a _)
  iintro H
  isplitr
  · ipureintro; exact h
  iexact H

/-- One program after another, the second from whatever result the first may have. -/
theorem Keeps.bind {α β : Type} {p : Prog (TpuEff nD τ sig Val Λ .tc) α} {k : α → Prog (TpuEff nD τ sig Val Λ .tc) β}
    {P : α → Prop} {Q : β → Prop} (h : Keeps defs c bd J p P) (hk : ∀ a, P a → Keeps defs c bd J (k a) Q) :
    Keeps defs c bd J (p >>= k) Q := by
  constructor
  rw [wp_bind]
  refine BIBase.Entails.trans h.out (wp_mono _ _ _ fun a => ?_)
  iintro ⟨%hP, H⟩
  iapply (show J ⊢ _ from (hk a hP).out)
  iexact H

/-- The same where nothing is asked of the first result. -/
theorem Keeps.bind' {α β : Type} {p : Prog (TpuEff nD τ sig Val Λ .tc) α} {k : α → Prog (TpuEff nD τ sig Val Λ .tc) β}
    {Q : β → Prop} (h : Keeps defs c bd J p fun _ => True) (hk : ∀ a, Keeps defs c bd J (k a) Q) :
    Keeps defs c bd J (p >>= k) Q := h.bind fun a _ => hk a

/-- A load from a memref that `J` lends. -/
theorem Keeps.load {cs : CoreSpace} {s : Shape} {e : EltTy} {m : Memref sig .tc cs s e} {r : LoadRect s} {hl : m.view.LoadsAt r}
    (h : Lends c J m) : Keeps defs c bd J (Prog.lift (.load m r hl)) fun _ => True := by
  constructor
  refine BIBase.Entails.trans h.out ?_
  iintro ⟨%f, H, K⟩
  iapply (wp_load Variants.nat (c : Thread nD τ) bd Set.univ (m := m) (r := r) (hl := hl) (k := .ret) (S := m.view.set) (View.setOn_subset_set _ _)) $$ H
  iintro H
  rw [wp_ret]
  imodintro
  isplitr
  · ipureintro; trivial
  iapply K; iexact H

/-- A store to a memref that `J` owns at some contents. -/
theorem Keeps.store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    (h : Owns c J m) : Keeps defs c bd J (Prog.lift (.store m r w Mk hx hm)) fun _ => True := by
  constructor
  refine BIBase.Entails.trans h.out ?_
  iintro ⟨%f, H, K⟩
  iapply (wp_store Variants.nat (c : Thread nD τ) bd Set.univ (m := m) (r := r) (hx := hx) (hm := hm) (k := .ret) (S := m.view.set)
    ((View.setOn_subset_set _ _).trans (View.set_slice_subset _ _))) $$ H
  iintro H
  rw [wp_ret]
  imodintro
  isplitr
  · ipureintro; trivial
  iapply K; iexact H

/-- A branch. -/
theorem Keeps.ite {α : Type} {b : Prop} {_ : Decidable b} {p q : Prog (TpuEff nD τ sig Val Λ .tc) α} {Q : α → Prop}
    (hp : b → Keeps defs c bd J p Q) (hq : ¬b → Keeps defs c bd J q Q) : Keeps defs c bd J (if b then p else q) Q := by
  by_cases h : b
  · rw [if_pos h]; exact hp h
  · rw [if_neg h]; exact hq h

/-- A branch whose arms read the condition. -/
theorem Keeps.dite {α : Type} {b : Prop} {_ : Decidable b} {p : b → Prog (TpuEff nD τ sig Val Λ .tc) α}
    {q : ¬b → Prog (TpuEff nD τ sig Val Λ .tc) α} {Q : α → Prop}
    (hp : ∀ h, Keeps defs c bd J (p h) Q) (hq : ∀ h, Keeps defs c bd J (q h) Q) : Keeps defs c bd J (dite b p q) Q := by
  by_cases h : b
  · rw [dif_pos h]; exact hp h
  · rw [dif_neg h]; exact hq h

/-- A counted loop whose trips each keep `J`. -/
theorem Keeps.loop {w : Nat} {σ : Type} {lb ub st : BitVec w} {hok : Scf.OK lb ub st} {init : σ}
    {body : Fin (Scf.trips lb ub st) → σ → Prog (TpuEff nD τ sig Val Λ .tc) σ}
    (h : ∀ k a, Keeps defs c bd J (body k a) fun _ => True) : Keeps defs c bd J (Scf.for lb ub st hok init body) fun _ => True := by
  constructor
  refine BIBase.Entails.trans ?_ (Scf.wp_for frame (wpE (Ix := Unit) (Name := ℕ) (U := UR sig nD τ) (Lvl := ℕ) defs Variants.nat (c : Thread nD τ) bd) Set.univ lb ub st hok init body (fun _ _ => (J : sProp 𝕄)) ?_)
  · iintro H
    isplitl [H]; · iexact H
    iintro %a H
    isplitr
    · ipureintro; trivial
    iexact H
  · intro k a
    refine BIBase.Entails.trans (show J ⊢ _ from (h k a).out) (wp_mono _ _ _ fun a => ?_)
    iintro ⟨-, H⟩
    iexact H

/-- A call of a label at a variant below the bound. -/
theorem Keeps.call {ℓ : Λ.Label} {a : Λ.Args ℓ} {Q : Λ.Result ℓ → Prop} (v : ℕ) (hv : ∀ u ∈ bd, v < u)
    (h : Keeps defs c (some v) J (defs .tc ℓ a) Q) : Keeps defs c bd J (Prog.lift (.call ℓ a)) Q := by
  constructor
  refine BIBase.Entails.trans ?_ (wp_call Variants.nat (c : Thread nD τ) bd Set.univ (ℓ := ℓ) (a := a) (k := .ret) v hv)
  refine BIBase.Entails.trans h.out (wp_mono _ _ _ fun a => ?_)
  show iprop(⌜Q a⌝ ∗ J) ⊢ _
  rw [wp_ret]
  iintro H
  imodintro
  iexact H

end Cert.Keeps

end
-- ==== Proof.AttnBand.lean ====
/-
What one run of the attention body works on, and the parts of the loop over the band: each part only reads the band, so
each keeps what the body holds.
-/
module

public import proofs.«01_k».proof.Proof.Keeps
public import proofs.«01_k».proof.Proof.Gen.Attention

@[expose] public section

namespace Cert.AttnBody

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attention Cert.Attention.Gen Cert.Keeps

variable {F : FTy → Type} [BitOps F]

variable (D : Defs nD τ sig (Elt F) (Λ₀ F)) (c : Dev nD) (J : sProp (MT nD τ sig Unit (Elt F) ℕ (UR sig nD τ) ℕ))

/-- `J` holds what one run of the body works on: it lends the seven input blocks, owns the output block and the ten
    scratch memrefs, and comes back from a call of the loop over the band. -/
structure Mem (a2 : Memref sig .tc .vmem S1x512x256 .bf16) (a3 : Memref sig .tc .vmem S1x512x256 .bf16) (a4 : Memref sig .tc .vmem S1x8x256 .f32) (a5 : Memref sig .tc .vmem S1x4352x512 .bf16) (a6 : Memref sig .tc .vmem S1x4352x128 .bf16) (a7 : Memref sig .tc .vmem S1x17x8x80x256 .bf16) (a8 : Memref sig .tc .vmem S1x256x512 .f32) (a9 : Memref sig .tc .vmem S1x256x512 .bf16) (a10 : Memref sig .tc .vmem S17x256x256 .f32) (a11 : Memref sig .tc .vmem S8x128x256 .bf16) (a12 : Memref sig .tc .vmem S8x128x256 .bf16) (a13 : Memref sig .tc .vmem S256x256 .f32) (a14 : Memref sig .tc .vmem S8x8x256 .f32) (a15 : Memref sig .tc .vmem S8x8x256 .f32) (a16 : Memref sig .tc .vmem S512x256 .f32) (a17 : Memref sig .tc .vmem S8x256 .f32) (a18 : Memref sig .tc .vmem S8x256x256 .f32) (a19 : Memref sig .tc .vmem S8x256x256 .f32) : Prop where
  /-- Input block 0. -/
  l2 : Lends c J a2
  /-- Input block 1. -/
  l3 : Lends c J a3
  /-- Input block 2. -/
  l4 : Lends c J a4
  /-- Input block 3. -/
  l5 : Lends c J a5
  /-- Input block 4. -/
  l6 : Lends c J a6
  /-- Input block 5. -/
  l7 : Lends c J a7
  /-- Input block 6. -/
  l8 : Lends c J a8
  /-- The output block. -/
  o9 : Owns c J a9
  /-- Scratch 0. -/
  o10 : Owns c J a10
  /-- Scratch 1. -/
  o11 : Owns c J a11
  /-- Scratch 2. -/
  o12 : Owns c J a12
  /-- Scratch 3. -/
  o13 : Owns c J a13
  /-- Scratch 4. -/
  o14 : Owns c J a14
  /-- Scratch 5. -/
  o15 : Owns c J a15
  /-- Scratch 6. -/
  o16 : Owns c J a16
  /-- Scratch 7. -/
  o17 : Owns c J a17
  /-- Scratch 8. -/
  o18 : Owns c J a18
  /-- Scratch 9. -/
  o19 : Owns c J a19
  /-- The loop over the band. -/
  call : ∀ i v h x0 x1 x2 x3 x4, Keeps D c none J (Prog.lift (.call (1 : (Λ₀ F).Label) ⟨i, v, a10, h, x0, x1, x2, x3, x4⟩)) fun _ => True

variable {D : Defs nD τ sig (Elt F) (Λ₀ F)} {c : Dev nD} {bd : Option ℕ} {J : sProp (MT nD τ sig Unit (Elt F) ℕ (UR sig nD τ) ℕ)}
variable {i : grid0.Coords}
variable {a2 : Memref sig .tc .vmem S1x512x256 .bf16} {h2 : a2.IsWhole}
variable {a3 : Memref sig .tc .vmem S1x512x256 .bf16} {h3 : a3.IsWhole}
variable {a4 : Memref sig .tc .vmem S1x8x256 .f32} {h4 : a4.IsWhole}
variable {a5 : Memref sig .tc .vmem S1x4352x512 .bf16} {h5 : a5.IsWhole}
variable {a6 : Memref sig .tc .vmem S1x4352x128 .bf16} {h6 : a6.IsWhole}
variable {a7 : Memref sig .tc .vmem S1x17x8x80x256 .bf16} {h7 : a7.IsWhole}
variable {a8 : Memref sig .tc .vmem S1x256x512 .f32} {h8 : a8.IsWhole}
variable {a9 : Memref sig .tc .vmem S1x256x512 .bf16} {h9 : a9.IsWhole}
variable {a10 : Memref sig .tc .vmem S17x256x256 .f32} {h10 : a10.IsWhole}
variable {a11 : Memref sig .tc .vmem S8x128x256 .bf16} {h11 : a11.IsWhole}
variable {a12 : Memref sig .tc .vmem S8x128x256 .bf16} {h12 : a12.IsWhole}
variable {a13 : Memref sig .tc .vmem S256x256 .f32} {h13 : a13.IsWhole}
variable {a14 : Memref sig .tc .vmem S8x8x256 .f32} {h14 : a14.IsWhole}
variable {a15 : Memref sig .tc .vmem S8x8x256 .f32} {h15 : a15.IsWhole}
variable {a16 : Memref sig .tc .vmem S512x256 .f32} {h16 : a16.IsWhole}
variable {a17 : Memref sig .tc .vmem S8x256 .f32} {h17 : a17.IsWhole}
variable {a18 : Memref sig .tc .vmem S8x256x256 .f32} {h18 : a18.IsWhole}
variable {a19 : Memref sig .tc .vmem S8x256x256 .f32} {h19 : a19.IsWhole}

/-- Reading what is owned. -/
theorem Mem.l9 (H : Mem D c J a2 a3 a4 a5 a6 a7 a8 a9 a10 a11 a12 a13 a14 a15 a16 a17 a18 a19) : Lends c J a9 := H.o9.lends

/-- Reading what is owned. -/
theorem Mem.l10 (H : Mem D c J a2 a3 a4 a5 a6 a7 a8 a9 a10 a11 a12 a13 a14 a15 a16 a17 a18 a19) : Lends c J a10 := H.o10.lends

/-- Reading what is owned. -/
theorem Mem.l11 (H : Mem D c J a2 a3 a4 a5 a6 a7 a8 a9 a10 a11 a12 a13 a14 a15 a16 a17 a18 a19) : Lends c J a11 := H.o11.lends

/-- Reading what is owned. -/
theorem Mem.l12 (H : Mem D c J a2 a3 a4 a5 a6 a7 a8 a9 a10 a11 a12 a13 a14 a15 a16 a17 a18 a19) : Lends c J a12 := H.o12.lends

/-- Reading what is owned. -/
theorem Mem.l13 (H : Mem D c J a2 a3 a4 a5 a6 a7 a8 a9 a10 a11 a12 a13 a14 a15 a16 a17 a18 a19) : Lends c J a13 := H.o13.lends

/-- Reading what is owned. -/
theorem Mem.l14 (H : Mem D c J a2 a3 a4 a5 a6 a7 a8 a9 a10 a11 a12 a13 a14 a15 a16 a17 a18 a19) : Lends c J a14 := H.o14.lends

/-- Reading what is owned. -/
theorem Mem.l15 (H : Mem D c J a2 a3 a4 a5 a6 a7 a8 a9 a10 a11 a12 a13 a14 a15 a16 a17 a18 a19) : Lends c J a15 := H.o15.lends

/-- Reading what is owned. -/
theorem Mem.l16 (H : Mem D c J a2 a3 a4 a5 a6 a7 a8 a9 a10 a11 a12 a13 a14 a15 a16 a17 a18 a19) : Lends c J a16 := H.o16.lends

/-- Reading what is owned. -/
theorem Mem.l17 (H : Mem D c J a2 a3 a4 a5 a6 a7 a8 a9 a10 a11 a12 a13 a14 a15 a16 a17 a18 a19) : Lends c J a17 := H.o17.lends

/-- Reading what is owned. -/
theorem Mem.l18 (H : Mem D c J a2 a3 a4 a5 a6 a7 a8 a9 a10 a11 a12 a13 a14 a15 a16 a17 a18 a19) : Lends c J a18 := H.o18.lends

/-- Reading what is owned. -/
theorem Mem.l19 (H : Mem D c J a2 a3 a4 a5 a6 a7 a8 a9 a10 a11 a12 a13 a14 a15 a16 a17 a18 a19) : Lends c J a19 := H.o19.lends

/-- Part 221 keeps what the body holds. -/
theorem keeps221 (H : Lends c J a10) {x1 x2 x3 x4 x5 x6 x7 x8 x9 x10 x11 x12 x13} :
    Keeps D c bd J (k0_part221 i x1 a10 h10 x2 x3 x4 x5 x6 x7 x8 x9 x10 x11 x12 x13) fun _ => True := by
  unfold k0_part221
  refine .bind' (.load H) fun _ => ?_
  exact .pure trivial

/-- Part 222 keeps what the body holds. -/
theorem keeps222 (H : Lends c J a10) {x1 x2 x3 x4 x5 x6 x7 x8 x9 x10 x11 x12} :
    Keeps D c bd J (k0_part222 i x1 a10 h10 x2 x3 x4 x5 x6 x7 x8 x9 x10 x11 x12) fun _ => True := by
  unfold k0_part222
  exact .pure trivial

/-- Part 223 keeps what the body holds. -/
theorem keeps223 (H : Lends c J a10) {x1 x2 x3 x4 x5 x6 x7 x8 x9 x10 x11 x12 x13 x14} :
    Keeps D c bd J (k0_part223 i x1 a10 h10 x2 x3 x4 x5 x6 x7 x8 x9 x10 x11 x12 x13 x14) fun _ => True := by
  unfold k0_part223
  exact .pure trivial

/-- Part 224 keeps what the body holds. -/
theorem keeps224 (H : Lends c J a10) {x1 x2 x3 x4 x5 x6 x7 x8 x9 x10 x11 x12 x13 x14} :
    Keeps D c bd J (k0_part224 i x1 a10 h10 x2 x3 x4 x5 x6 x7 x8 x9 x10 x11 x12 x13 x14) fun _ => True := by
  unfold k0_part224
  exact .pure trivial

/-- Part 225 keeps what the body holds. -/
theorem keeps225 (H : Lends c J a10) {x1 x2 x3 x4 x5 x6 x7 x8 x9 x10 x11 x12 x13 x14} :
    Keeps D c bd J (k0_part225 i x1 a10 h10 x2 x3 x4 x5 x6 x7 x8 x9 x10 x11 x12 x13 x14) fun _ => True := by
  unfold k0_part225
  exact .pure trivial

/-- Part 226 keeps what the body holds. -/
theorem keeps226 (H : Lends c J a10) {x1 x2 x3 x4 x5 x6 x7 x8 x9 x10 x11 x12 x13} :
    Keeps D c bd J (k0_part226 i x1 a10 h10 x2 x3 x4 x5 x6 x7 x8 x9 x10 x11 x12 x13) fun _ => True := by
  unfold k0_part226
  refine .bind' (keeps221 H) fun _ => ?_
  refine .bind' (keeps222 H) fun _ => ?_
  refine .bind' (keeps223 H) fun _ => ?_
  refine .bind' (keeps224 H) fun _ => ?_
  refine .bind' (keeps225 H) fun _ => ?_
  exact .pure trivial

/-- Part 227 keeps what the body holds. -/
theorem keeps227 (H : Lends c J a10) {x1 x2 x3 x4 x5 x6 x7 x8 x9 x10 x11 x12 x13} :
    Keeps D c bd J (k0_part227 i x1 a10 h10 x2 x3 x4 x5 x6 x7 x8 x9 x10 x11 x12 x13) fun _ => True := by
  unfold k0_part227
  refine .bind' (.load H) fun _ => ?_
  exact .pure trivial

/-- Part 228 keeps what the body holds. -/
theorem keeps228 (H : Lends c J a10) {x1 x2 x3 x4 x5 x6 x7 x8 x9 x10 x11 x12} :
    Keeps D c bd J (k0_part228 i x1 a10 h10 x2 x3 x4 x5 x6 x7 x8 x9 x10 x11 x12) fun _ => True := by
  unfold k0_part228
  exact .pure trivial

/-- Part 229 keeps what the body holds. -/
theorem keeps229 (H : Lends c J a10) {x1 x2 x3 x4 x5 x6 x7 x8 x9 x10 x11 x12 x13 x14} :
    Keeps D c bd J (k0_part229 i x1 a10 h10 x2 x3 x4 x5 x6 x7 x8 x9 x10 x11 x12 x13 x14) fun _ => True := by
  unfold k0_part229
  exact .pure trivial

/-- Part 230 keeps what the body holds. -/
theorem keeps230 (H : Lends c J a10) {x1 x2 x3 x4 x5 x6 x7 x8 x9 x10 x11 x12 x13 x14} :
    Keeps D c bd J (k0_part230 i x1 a10 h10 x2 x3 x4 x5 x6 x7 x8 x9 x10 x11 x12 x13 x14) fun _ => True := by
  unfold k0_part230
  exact .pure trivial

/-- Part 231 keeps what the body holds. -/
theorem keeps231 (H : Lends c J a10) {x1 x2 x3 x4 x5 x6 x7 x8 x9 x10 x11 x12 x13 x14} :
    Keeps D c bd J (k0_part231 i x1 a10 h10 x2 x3 x4 x5 x6 x7 x8 x9 x10 x11 x12 x13 x14) fun _ => True := by
  unfold k0_part231
  exact .pure trivial

/-- Part 232 keeps what the body holds. -/
theorem keeps232 (H : Lends c J a10) {x1 x2 x3 x4 x5 x6 x7 x8 x9 x10 x11 x12 x13} :
    Keeps D c bd J (k0_part232 i x1 a10 h10 x2 x3 x4 x5 x6 x7 x8 x9 x10 x11 x12 x13) fun _ => True := by
  unfold k0_part232
  refine .bind' (keeps227 H) fun _ => ?_
  refine .bind' (keeps228 H) fun _ => ?_
  refine .bind' (keeps229 H) fun _ => ?_
  refine .bind' (keeps230 H) fun _ => ?_
  refine .bind' (keeps231 H) fun _ => ?_
  exact .pure trivial

/-- Part 233 keeps what the body holds. -/
theorem keeps233 (H : Lends c J a10) {x1 x2 x3 x4 x5 x6 x7} :
    Keeps D c bd J (k0_part233 i x1 a10 h10 x2 x3 x4 x5 x6 x7) fun _ => True := by
  unfold k0_part233
  refine .bind' (.loop fun _ _ => ?_) fun _ => ?_
  · refine .bind' (keeps226 H) fun _ => ?_
    exact .pure trivial
  refine .bind' (.loop fun _ _ => ?_) fun _ => ?_
  · refine .bind' (keeps232 H) fun _ => ?_
    exact .pure trivial
  exact .pure trivial

/-- Part 236 keeps what the body holds. -/
theorem keeps236 (H : Lends c J a10) {x1 x2 x3 x4 x5 x6} :
    Keeps D c bd J (k0_part236 i x1 a10 h10 x2 x3 x4 x5 x6) fun _ => True := by
  unfold k0_part236
  exact .pure trivial

/-- Part 237 keeps what the body holds. -/
theorem keeps237 (H : Lends c J a10) {x1 x2 x3 x4 x5 x6 x7 x8 x9 x10 x11} :
    Keeps D c bd J (k0_part237 i x1 a10 h10 x2 x3 x4 x5 x6 x7 x8 x9 x10 x11) fun _ => True := by
  unfold k0_part237
  exact .pure trivial

/-- Part 234 keeps what the body holds. -/
theorem keeps234 (H : Lends c J a10) {x1 x2 x3 x4 x5 x6 x7 x8 x9 x10 x11} :
    Keeps D c bd J (k0_part234 i x1 a10 h10 x2 x3 x4 x5 x6 x7 x8 x9 x10 x11) fun _ => True := by
  unfold k0_part234
  refine .bind' (.load H) fun _ => ?_
  exact .pure trivial

/-- Part 235 keeps what the body holds. -/
theorem keeps235 (H : Lends c J a10) {x1 x2 x3 x4 x5 x6 x7 x8 x9 x10 x11} :
    Keeps D c bd J (k0_part235 i x1 a10 h10 x2 x3 x4 x5 x6 x7 x8 x9 x10 x11) fun _ => True := by
  unfold k0_part235
  refine .bind' (.load H) fun _ => ?_
  exact .pure trivial

/-- Part 238 keeps what the body holds. -/
theorem keeps238 (H : Lends c J a10) {x1 x2 x3 x4 x5 x6 x7 x8 x9 x10 x11 x12 x13} :
    Keeps D c bd J (k0_part238 i x1 a10 h10 x2 x3 x4 x5 x6 x7 x8 x9 x10 x11 x12 x13) fun _ => True := by
  unfold k0_part238
  refine .bind' (.load H) fun _ => ?_
  exact .pure trivial

/-- Part 239 keeps what the body holds. -/
theorem keeps239 (H : Lends c J a10) {x1 x2 x3 x4 x5 x6 x7 x8 x9 x10 x11 x12} :
    Keeps D c bd J (k0_part239 i x1 a10 h10 x2 x3 x4 x5 x6 x7 x8 x9 x10 x11 x12) fun _ => True := by
  unfold k0_part239
  exact .pure trivial

/-- Part 240 keeps what the body holds. -/
theorem keeps240 (H : Lends c J a10) {x1 x2 x3 x4 x5 x6 x7 x8 x9 x10 x11 x12 x13 x14} :
    Keeps D c bd J (k0_part240 i x1 a10 h10 x2 x3 x4 x5 x6 x7 x8 x9 x10 x11 x12 x13 x14) fun _ => True := by
  unfold k0_part240
  exact .pure trivial

/-- Part 241 keeps what the body holds. -/
theorem keeps241 (H : Lends c J a10) {x1 x2 x3 x4 x5 x6 x7 x8 x9 x10 x11 x12 x13 x14} :
    Keeps D c bd J (k0_part241 i x1 a10 h10 x2 x3 x4 x5 x6 x7 x8 x9 x10 x11 x12 x13 x14) fun _ => True := by
  unfold k0_part241
  exact .pure trivial

/-- Part 242 keeps what the body holds. -/
theorem keeps242 (H : Lends c J a10) {x1 x2 x3 x4 x5 x6 x7 x8 x9 x10 x11 x12 x13 x14} :
    Keeps D c bd J (k0_part242 i x1 a10 h10 x2 x3 x4 x5 x6 x7 x8 x9 x10 x11 x12 x13 x14) fun _ => True := by
  unfold k0_part242
  exact .pure trivial

/-- Part 243 keeps what the body holds. -/
theorem keeps243 (H : Lends c J a10) {x1 x2 x3 x4 x5 x6 x7 x8 x9 x10 x11 x12 x13} :
    Keeps D c bd J (k0_part243 i x1 a10 h10 x2 x3 x4 x5 x6 x7 x8 x9 x10 x11 x12 x13) fun _ => True := by
  unfold k0_part243
  refine .bind' (keeps238 H) fun _ => ?_
  refine .bind' (keeps239 H) fun _ => ?_
  refine .bind' (keeps240 H) fun _ => ?_
  refine .bind' (keeps241 H) fun _ => ?_
  refine .bind' (keeps242 H) fun _ => ?_
  exact .pure trivial

/-- Part 244 keeps what the body holds. -/
theorem keeps244 (H : Lends c J a10) {x1 x2 x3 x4 x5 x6 x7 x8 x9 x10 x11 x12 x13} :
    Keeps D c bd J (k0_part244 i x1 a10 h10 x2 x3 x4 x5 x6 x7 x8 x9 x10 x11 x12 x13) fun _ => True := by
  unfold k0_part244
  refine .bind' (.load H) fun _ => ?_
  exact .pure trivial

/-- Part 245 keeps what the body holds. -/
theorem keeps245 (H : Lends c J a10) {x1 x2 x3 x4 x5 x6 x7 x8 x9 x10 x11 x12} :
    Keeps D c bd J (k0_part245 i x1 a10 h10 x2 x3 x4 x5 x6 x7 x8 x9 x10 x11 x12) fun _ => True := by
  unfold k0_part245
  exact .pure trivial

/-- Part 246 keeps what the body holds. -/
theorem keeps246 (H : Lends c J a10) {x1 x2 x3 x4 x5 x6 x7 x8 x9 x10 x11 x12 x13 x14} :
    Keeps D c bd J (k0_part246 i x1 a10 h10 x2 x3 x4 x5 x6 x7 x8 x9 x10 x11 x12 x13 x14) fun _ => True := by
  unfold k0_part246
  exact .pure trivial

/-- Part 247 keeps what the body holds. -/
theorem keeps247 (H : Lends c J a10) {x1 x2 x3 x4 x5 x6 x7 x8 x9 x10 x11 x12 x13 x14} :
    Keeps D c bd J (k0_part247 i x1 a10 h10 x2 x3 x4 x5 x6 x7 x8 x9 x10 x11 x12 x13 x14) fun _ => True := by
  unfold k0_part247
  exact .pure trivial

/-- Part 248 keeps what the body holds. -/
theorem keeps248 (H : Lends c J a10) {x1 x2 x3 x4 x5 x6 x7 x8 x9 x10 x11 x12 x13 x14} :
    Keeps D c bd J (k0_part248 i x1 a10 h10 x2 x3 x4 x5 x6 x7 x8 x9 x10 x11 x12 x13 x14) fun _ => True := by
  unfold k0_part248
  exact .pure trivial

/-- Part 249 keeps what the body holds. -/
theorem keeps249 (H : Lends c J a10) {x1 x2 x3 x4 x5 x6 x7 x8 x9 x10 x11 x12 x13} :
    Keeps D c bd J (k0_part249 i x1 a10 h10 x2 x3 x4 x5 x6 x7 x8 x9 x10 x11 x12 x13) fun _ => True := by
  unfold k0_part249
  refine .bind' (keeps244 H) fun _ => ?_
  refine .bind' (keeps245 H) fun _ => ?_
  refine .bind' (keeps246 H) fun _ => ?_
  refine .bind' (keeps247 H) fun _ => ?_
  refine .bind' (keeps248 H) fun _ => ?_
  exact .pure trivial

/-- Part 250 keeps what the body holds. -/
theorem keeps250 (H : Lends c J a10) {x1 x2 x3 x4 x5 x6 x7 x8 x9} :
    Keeps D c bd J (k0_part250 i x1 a10 h10 x2 x3 x4 x5 x6 x7 x8 x9) fun _ => True := by
  unfold k0_part250
  refine .bind' (.loop fun _ _ => ?_) fun _ => ?_
  · refine .bind' (keeps243 H) fun _ => ?_
    exact .pure trivial
  refine .bind' (.loop fun _ _ => ?_) fun _ => ?_
  · refine .bind' (keeps249 H) fun _ => ?_
    exact .pure trivial
  exact .pure trivial

/-- Part 253 keeps what the body holds. -/
theorem keeps253 (H : Lends c J a10) {x1 x2 x3 x4 x5 x6 x7 x8} :
    Keeps D c bd J (k0_part253 i x1 a10 h10 x2 x3 x4 x5 x6 x7 x8) fun _ => True := by
  unfold k0_part253
  exact .pure trivial

/-- Part 254 keeps what the body holds. -/
theorem keeps254 (H : Lends c J a10) {x1 x2 x3 x4 x5 x6 x7 x8 x9 x10 x11 x12 x13 x14} :
    Keeps D c bd J (k0_part254 i x1 a10 h10 x2 x3 x4 x5 x6 x7 x8 x9 x10 x11 x12 x13 x14) fun _ => True := by
  unfold k0_part254
  exact .pure trivial

/-- Part 251 keeps what the body holds. -/
theorem keeps251 (H : Lends c J a10) {x1 x2 x3 x4 x5 x6 x7 x8 x9 x10 x11} :
    Keeps D c bd J (k0_part251 i x1 a10 h10 x2 x3 x4 x5 x6 x7 x8 x9 x10 x11) fun _ => True := by
  unfold k0_part251
  refine .bind' (.load H) fun _ => ?_
  exact .pure trivial

/-- Part 252 keeps what the body holds. -/
theorem keeps252 (H : Lends c J a10) {x1 x2 x3 x4 x5 x6 x7 x8 x9 x10 x11} :
    Keeps D c bd J (k0_part252 i x1 a10 h10 x2 x3 x4 x5 x6 x7 x8 x9 x10 x11) fun _ => True := by
  unfold k0_part252
  refine .bind' (.load H) fun _ => ?_
  exact .pure trivial

end Cert.AttnBody
-- ==== Proof.AttnPartsA.lean ====
/-
The parts of the attention body, first half: each keeps what the body holds.
-/
module

public import proofs.«01_k».proof.Proof.AttnBand

@[expose] public section

namespace Cert.AttnBody

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attention Cert.Attention.Gen Cert.Keeps

variable {F : FTy → Type} [BitOps F]

variable {D : Defs nD τ sig (Elt F) (Λ₀ F)} {c : Dev nD} {bd : Option ℕ} {J : sProp (MT nD τ sig Unit (Elt F) ℕ (UR sig nD τ) ℕ)}
variable {i : grid0.Coords}
variable {a2 : Memref sig .tc .vmem S1x512x256 .bf16} {h2 : a2.IsWhole}
variable {a3 : Memref sig .tc .vmem S1x512x256 .bf16} {h3 : a3.IsWhole}
variable {a4 : Memref sig .tc .vmem S1x8x256 .f32} {h4 : a4.IsWhole}
variable {a5 : Memref sig .tc .vmem S1x4352x512 .bf16} {h5 : a5.IsWhole}
variable {a6 : Memref sig .tc .vmem S1x4352x128 .bf16} {h6 : a6.IsWhole}
variable {a7 : Memref sig .tc .vmem S1x17x8x80x256 .bf16} {h7 : a7.IsWhole}
variable {a8 : Memref sig .tc .vmem S1x256x512 .f32} {h8 : a8.IsWhole}
variable {a9 : Memref sig .tc .vmem S1x256x512 .bf16} {h9 : a9.IsWhole}
variable {a10 : Memref sig .tc .vmem S17x256x256 .f32} {h10 : a10.IsWhole}
variable {a11 : Memref sig .tc .vmem S8x128x256 .bf16} {h11 : a11.IsWhole}
variable {a12 : Memref sig .tc .vmem S8x128x256 .bf16} {h12 : a12.IsWhole}
variable {a13 : Memref sig .tc .vmem S256x256 .f32} {h13 : a13.IsWhole}
variable {a14 : Memref sig .tc .vmem S8x8x256 .f32} {h14 : a14.IsWhole}
variable {a15 : Memref sig .tc .vmem S8x8x256 .f32} {h15 : a15.IsWhole}
variable {a16 : Memref sig .tc .vmem S512x256 .f32} {h16 : a16.IsWhole}
variable {a17 : Memref sig .tc .vmem S8x256 .f32} {h17 : a17.IsWhole}
variable {a18 : Memref sig .tc .vmem S8x256x256 .f32} {h18 : a18.IsWhole}
variable {a19 : Memref sig .tc .vmem S8x256x256 .f32} {h19 : a19.IsWhole}

/-- Part 203 keeps what the body holds. -/
theorem keeps203 (H : Mem D c J a2 a3 a4 a5 a6 a7 a8 a9 a10 a11 a12 a13 a14 a15 a16 a17 a18 a19) :
    Keeps D c none J (k0_part203 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part203
  refine .bind' (.load H.l2) fun _ => ?_
  refine .bind' (.load H.l11) fun _ => ?_
  refine .bind' (.store H.o11) fun _ => ?_
  refine .bind' (.load H.l3) fun _ => ?_
  refine .bind' (.load H.l12) fun _ => ?_
  refine .bind' (.store H.o12) fun _ => ?_
  refine .bind' (.load H.l2) fun _ => ?_
  exact .pure trivial

/-- Part 204 keeps what the body holds. -/
theorem keeps204 (H : Mem D c J a2 a3 a4 a5 a6 a7 a8 a9 a10 a11 a12 a13 a14 a15 a16 a17 a18 a19) {x1 x2 x3 x4} :
    Keeps D c none J (k0_part204 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part204
  refine .bind' (.load H.l11) fun _ => ?_
  refine .bind' (.store H.o11) fun _ => ?_
  refine .bind' (.load H.l3) fun _ => ?_
  refine .bind' (.load H.l12) fun _ => ?_
  refine .bind' (.store H.o12) fun _ => ?_
  refine .bind' (.load H.l2) fun _ => ?_
  refine .bind' (.load H.l11) fun _ => ?_
  refine .bind' (.store H.o11) fun _ => ?_
  refine .bind' (.load H.l3) fun _ => ?_
  exact .pure trivial

/-- Part 205 keeps what the body holds. -/
theorem keeps205 (H : Mem D c J a2 a3 a4 a5 a6 a7 a8 a9 a10 a11 a12 a13 a14 a15 a16 a17 a18 a19) {x1 x2} :
    Keeps D c none J (k0_part205 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part205
  refine .bind' (.load H.l12) fun _ => ?_
  refine .bind' (.store H.o12) fun _ => ?_
  refine .bind' (.load H.l2) fun _ => ?_
  refine .bind' (.load H.l11) fun _ => ?_
  refine .bind' (.store H.o11) fun _ => ?_
  refine .bind' (.load H.l3) fun _ => ?_
  refine .bind' (.load H.l12) fun _ => ?_
  refine .bind' (.store H.o12) fun _ => ?_
  refine .bind' (.load H.l2) fun _ => ?_
  exact .pure trivial

/-- Part 206 keeps what the body holds. -/
theorem keeps206 (H : Mem D c J a2 a3 a4 a5 a6 a7 a8 a9 a10 a11 a12 a13 a14 a15 a16 a17 a18 a19) {x1 x2 x3} :
    Keeps D c none J (k0_part206 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part206
  refine .bind' (.load H.l11) fun _ => ?_
  refine .bind' (.store H.o11) fun _ => ?_
  refine .bind' (.load H.l3) fun _ => ?_
  refine .bind' (.load H.l12) fun _ => ?_
  refine .bind' (.store H.o12) fun _ => ?_
  refine .bind' (.load H.l2) fun _ => ?_
  refine .bind' (.load H.l11) fun _ => ?_
  refine .bind' (.store H.o11) fun _ => ?_
  refine .bind' (.load H.l3) fun _ => ?_
  exact .pure trivial

/-- Part 207 keeps what the body holds. -/
theorem keeps207 (H : Mem D c J a2 a3 a4 a5 a6 a7 a8 a9 a10 a11 a12 a13 a14 a15 a16 a17 a18 a19) {x1 x2 x3} :
    Keeps D c none J (k0_part207 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part207
  refine .bind' (.load H.l12) fun _ => ?_
  refine .bind' (.store H.o12) fun _ => ?_
  refine .bind' (.load H.l2) fun _ => ?_
  refine .bind' (.load H.l11) fun _ => ?_
  refine .bind' (.store H.o11) fun _ => ?_
  refine .bind' (.load H.l3) fun _ => ?_
  refine .bind' (.load H.l12) fun _ => ?_
  refine .bind' (.store H.o12) fun _ => ?_
  exact .pure trivial

/-- Part 208 keeps what the body holds. -/
theorem keeps208 (H : Mem D c J a2 a3 a4 a5 a6 a7 a8 a9 a10 a11 a12 a13 a14 a15 a16 a17 a18 a19) {x1 x2} :
    Keeps D c none J (k0_part208 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part208
  refine .bind' (.load H.l2) fun _ => ?_
  refine .bind' (.load H.l11) fun _ => ?_
  refine .bind' (.store H.o11) fun _ => ?_
  refine .bind' (.load H.l3) fun _ => ?_
  refine .bind' (.load H.l12) fun _ => ?_
  refine .bind' (.store H.o12) fun _ => ?_
  exact .pure trivial

/-- Part 209 keeps what the body holds. -/
theorem keeps209 (H : Mem D c J a2 a3 a4 a5 a6 a7 a8 a9 a10 a11 a12 a13 a14 a15 a16 a17 a18 a19) {x1 x2 x3 x4} :
    Keeps D c none J (k0_part209 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part209
  refine .bind' (.load H.l6) fun _ => ?_
  refine .bind' (.load H.l12) fun _ => ?_
  refine .bind' (.load H.l18) fun _ => ?_
  refine .bind' (.store H.o18) fun _ => ?_
  refine .bind' (.load H.l6) fun _ => ?_
  refine .bind' (.load H.l12) fun _ => ?_
  refine .bind' (.load H.l18) fun _ => ?_
  exact .pure trivial

/-- Part 210 keeps what the body holds. -/
theorem keeps210 (H : Mem D c J a2 a3 a4 a5 a6 a7 a8 a9 a10 a11 a12 a13 a14 a15 a16 a17 a18 a19) {x1} :
    Keeps D c none J (k0_part210 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part210
  refine .bind' (.store H.o18) fun _ => ?_
  refine .bind' (.load H.l6) fun _ => ?_
  refine .bind' (.load H.l12) fun _ => ?_
  refine .bind' (.load H.l18) fun _ => ?_
  refine .bind' (.store H.o18) fun _ => ?_
  refine .bind' (.load H.l6) fun _ => ?_
  refine .bind' (.load H.l12) fun _ => ?_
  refine .bind' (.load H.l18) fun _ => ?_
  refine .bind' (.store H.o18) fun _ => ?_
  refine .bind' (.load H.l6) fun _ => ?_
  refine .bind' (.load H.l12) fun _ => ?_
  exact .pure trivial

/-- Part 211 keeps what the body holds. -/
theorem keeps211 (H : Mem D c J a2 a3 a4 a5 a6 a7 a8 a9 a10 a11 a12 a13 a14 a15 a16 a17 a18 a19) {x1} :
    Keeps D c none J (k0_part211 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part211
  refine .bind' (.load H.l18) fun _ => ?_
  refine .bind' (.store H.o18) fun _ => ?_
  refine .bind' (.load H.l6) fun _ => ?_
  refine .bind' (.load H.l12) fun _ => ?_
  refine .bind' (.load H.l18) fun _ => ?_
  refine .bind' (.store H.o18) fun _ => ?_
  refine .bind' (.load H.l6) fun _ => ?_
  refine .bind' (.load H.l12) fun _ => ?_
  refine .bind' (.load H.l18) fun _ => ?_
  refine .bind' (.store H.o18) fun _ => ?_
  refine .bind' (.load H.l6) fun _ => ?_
  refine .bind' (.load H.l12) fun _ => ?_
  exact .pure trivial

/-- Part 1 keeps what the body holds. -/
theorem keeps1 (H : Mem D c J a2 a3 a4 a5 a6 a7 a8 a9 a10 a11 a12 a13 a14 a15 a16 a17 a18 a19) {x1 x2 x3} :
    Keeps D c none J (k0_part1 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part1
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  exact .pure trivial

/-- Part 2 keeps what the body holds. -/
theorem keeps2 (H : Mem D c J a2 a3 a4 a5 a6 a7 a8 a9 a10 a11 a12 a13 a14 a15 a16 a17 a18 a19) {x1 x2 x3 x4} :
    Keeps D c none J (k0_part2 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part2
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  exact .pure trivial

/-- Part 3 keeps what the body holds. -/
theorem keeps3 (H : Mem D c J a2 a3 a4 a5 a6 a7 a8 a9 a10 a11 a12 a13 a14 a15 a16 a17 a18 a19) {x1 x2 x3 x4} :
    Keeps D c none J (k0_part3 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part3
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  exact .pure trivial

/-- Part 4 keeps what the body holds. -/
theorem keeps4 (H : Mem D c J a2 a3 a4 a5 a6 a7 a8 a9 a10 a11 a12 a13 a14 a15 a16 a17 a18 a19) {x1 x2 x3 x4} :
    Keeps D c none J (k0_part4 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part4
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  exact .pure trivial

/-- Part 5 keeps what the body holds. -/
theorem keeps5 (H : Mem D c J a2 a3 a4 a5 a6 a7 a8 a9 a10 a11 a12 a13 a14 a15 a16 a17 a18 a19) {x1 x2 x3} :
    Keeps D c none J (k0_part5 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part5
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  refine .bind' (.store H.o19) fun _ => ?_
  refine .bind' (.load H.l4) fun _ => ?_
  exact .pure trivial

/-- Part 6 keeps what the body holds. -/
theorem keeps6 (H : Mem D c J a2 a3 a4 a5 a6 a7 a8 a9 a10 a11 a12 a13 a14 a15 a16 a17 a18 a19) {x1 x2 x3 x4 x5 x6 x7} :
    Keeps D c none J (k0_part6 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part6
  refine .bind' (.load H.l18) fun _ => ?_
  refine .bind' (.load H.l10) fun _ => ?_
  refine .bind' (.store H.o10) fun _ => ?_
  exact .pure trivial

/-- Part 7 keeps what the body holds. -/
theorem keeps7 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34} :
    Keeps D c none J (k0_part7 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34) fun _ => True := by
  unfold k0_part7
  exact .pure trivial

/-- Part 8 keeps what the body holds. -/
theorem keeps8 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28} :
    Keeps D c none J (k0_part8 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28) fun _ => True := by
  unfold k0_part8
  refine .bind' (.load H.l6) fun _ => ?_
  refine .bind' (.load H.l12) fun _ => ?_
  exact .pure trivial

/-- Part 9 keeps what the body holds. -/
theorem keeps9 (H : Mem D c J a2 a3 a4 a5 a6 a7 a8 a9 a10 a11 a12 a13 a14 a15 a16 a17 a18 a19) {x1 x2 x3 x4 x5} :
    Keeps D c none J (k0_part9 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part9
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  exact .pure trivial

/-- Part 10 keeps what the body holds. -/
theorem keeps10 (H : Mem D c J a2 a3 a4 a5 a6 a7 a8 a9 a10 a11 a12 a13 a14 a15 a16 a17 a18 a19) {x1 x2 x3 x4 x5 x6} :
    Keeps D c none J (k0_part10 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6) fun _ => True := by
  unfold k0_part10
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  exact .pure trivial

/-- Part 11 keeps what the body holds. -/
theorem keeps11 (H : Mem D c J a2 a3 a4 a5 a6 a7 a8 a9 a10 a11 a12 a13 a14 a15 a16 a17 a18 a19) {x1 x2 x3 x4} :
    Keeps D c none J (k0_part11 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part11
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  exact .pure trivial

/-- Part 12 keeps what the body holds. -/
theorem keeps12 (H : Mem D c J a2 a3 a4 a5 a6 a7 a8 a9 a10 a11 a12 a13 a14 a15 a16 a17 a18 a19) {x1 x2 x3 x4} :
    Keeps D c none J (k0_part12 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part12
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  exact .pure trivial

/-- Part 13 keeps what the body holds. -/
theorem keeps13 (H : Mem D c J a2 a3 a4 a5 a6 a7 a8 a9 a10 a11 a12 a13 a14 a15 a16 a17 a18 a19) {x1 x2 x3 x4 x5 x6 x7} :
    Keeps D c none J (k0_part13 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part13
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  exact .pure trivial

/-- Part 14 keeps what the body holds. -/
theorem keeps14 (H : Mem D c J a2 a3 a4 a5 a6 a7 a8 a9 a10 a11 a12 a13 a14 a15 a16 a17 a18 a19) {x1 x2 x3 x4 x5} :
    Keeps D c none J (k0_part14 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part14
  refine .bind' (.load H.l10) fun _ => ?_
  refine .bind' (.store H.o10) fun _ => ?_
  exact .pure trivial

/-- Part 15 keeps what the body holds. -/
theorem keeps15 (H : Mem D c J a2 a3 a4 a5 a6 a7 a8 a9 a10 a11 a12 a13 a14 a15 a16 a17 a18 a19) {x1 x2 x3 x4 x5 x6 x7 x8 x9 x10 x11 x12 x13 x14 x15 x16 x17 x18} :
    Keeps D c none J (k0_part15 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18) fun _ => True := by
  unfold k0_part15
  exact .pure trivial

/-- Part 16 keeps what the body holds. -/
theorem keeps16 (H : Mem D c J a2 a3 a4 a5 a6 a7 a8 a9 a10 a11 a12 a13 a14 a15 a16 a17 a18 a19) {x1 x2 x3} :
    Keeps D c none J (k0_part16 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part16
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  exact .pure trivial

/-- Part 17 keeps what the body holds. -/
theorem keeps17 (H : Mem D c J a2 a3 a4 a5 a6 a7 a8 a9 a10 a11 a12 a13 a14 a15 a16 a17 a18 a19) {x1 x2 x3 x4} :
    Keeps D c none J (k0_part17 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part17
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  exact .pure trivial

/-- Part 18 keeps what the body holds. -/
theorem keeps18 (H : Mem D c J a2 a3 a4 a5 a6 a7 a8 a9 a10 a11 a12 a13 a14 a15 a16 a17 a18 a19) {x1 x2 x3 x4} :
    Keeps D c none J (k0_part18 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part18
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  exact .pure trivial

/-- Part 19 keeps what the body holds. -/
theorem keeps19 (H : Mem D c J a2 a3 a4 a5 a6 a7 a8 a9 a10 a11 a12 a13 a14 a15 a16 a17 a18 a19) {x1 x2 x3 x4} :
    Keeps D c none J (k0_part19 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part19
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  exact .pure trivial

/-- Part 20 keeps what the body holds. -/
theorem keeps20 (H : Mem D c J a2 a3 a4 a5 a6 a7 a8 a9 a10 a11 a12 a13 a14 a15 a16 a17 a18 a19) {x1 x2 x3} :
    Keeps D c none J (k0_part20 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part20
  refine .bind' (.load H.l6) fun _ => ?_
  refine .bind' (.load H.l12) fun _ => ?_
  refine .bind' (.load H.l19) fun _ => ?_
  refine .bind' (.store H.o19) fun _ => ?_
  refine .bind' (.load H.l4) fun _ => ?_
  refine .bind' (.load H.l18) fun _ => ?_
  refine .bind' (.load H.l6) fun _ => ?_
  refine .bind' (.load H.l12) fun _ => ?_
  refine .bind' (.load H.l19) fun _ => ?_
  refine .bind' (.store H.o19) fun _ => ?_
  refine .bind' (.load H.l4) fun _ => ?_
  exact .pure trivial

/-- Part 21 keeps what the body holds. -/
theorem keeps21 (H : Mem D c J a2 a3 a4 a5 a6 a7 a8 a9 a10 a11 a12 a13 a14 a15 a16 a17 a18 a19) {x1 x2 x3 x4 x5 x6 x7} :
    Keeps D c none J (k0_part21 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part21
  refine .bind' (.load H.l18) fun _ => ?_
  refine .bind' (.load H.l10) fun _ => ?_
  refine .bind' (.store H.o10) fun _ => ?_
  exact .pure trivial

/-- Part 22 keeps what the body holds. -/
theorem keeps22 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34} :
    Keeps D c none J (k0_part22 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34) fun _ => True := by
  unfold k0_part22
  exact .pure trivial

/-- Part 23 keeps what the body holds. -/
theorem keeps23 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28} :
    Keeps D c none J (k0_part23 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28) fun _ => True := by
  unfold k0_part23
  refine .bind' (.load H.l6) fun _ => ?_
  refine .bind' (.load H.l12) fun _ => ?_
  exact .pure trivial

/-- Part 24 keeps what the body holds. -/
theorem keeps24 (H : Mem D c J a2 a3 a4 a5 a6 a7 a8 a9 a10 a11 a12 a13 a14 a15 a16 a17 a18 a19) {x1 x2 x3 x4 x5} :
    Keeps D c none J (k0_part24 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part24
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  exact .pure trivial

/-- Part 25 keeps what the body holds. -/
theorem keeps25 (H : Mem D c J a2 a3 a4 a5 a6 a7 a8 a9 a10 a11 a12 a13 a14 a15 a16 a17 a18 a19) {x1 x2 x3 x4 x5 x6} :
    Keeps D c none J (k0_part25 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6) fun _ => True := by
  unfold k0_part25
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  exact .pure trivial

/-- Part 26 keeps what the body holds. -/
theorem keeps26 (H : Mem D c J a2 a3 a4 a5 a6 a7 a8 a9 a10 a11 a12 a13 a14 a15 a16 a17 a18 a19) {x1 x2 x3 x4} :
    Keeps D c none J (k0_part26 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part26
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  exact .pure trivial

/-- Part 27 keeps what the body holds. -/
theorem keeps27 (H : Mem D c J a2 a3 a4 a5 a6 a7 a8 a9 a10 a11 a12 a13 a14 a15 a16 a17 a18 a19) {x1 x2 x3 x4} :
    Keeps D c none J (k0_part27 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part27
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  exact .pure trivial

/-- Part 28 keeps what the body holds. -/
theorem keeps28 (H : Mem D c J a2 a3 a4 a5 a6 a7 a8 a9 a10 a11 a12 a13 a14 a15 a16 a17 a18 a19) {x1 x2 x3 x4 x5 x6 x7} :
    Keeps D c none J (k0_part28 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part28
  refine .bind' (.load H.l4) fun _ => ?_
  refine .bind' (.load H.l19) fun _ => ?_
  refine .bind' (.load H.l6) fun _ => ?_
  refine .bind' (.load H.l12) fun _ => ?_
  refine .bind' (.load H.l18) fun _ => ?_
  refine .bind' (.store H.o18) fun _ => ?_
  refine .bind' (.load H.l4) fun _ => ?_
  refine .bind' (.load H.l19) fun _ => ?_
  exact .pure trivial

/-- Part 29 keeps what the body holds. -/
theorem keeps29 (H : Mem D c J a2 a3 a4 a5 a6 a7 a8 a9 a10 a11 a12 a13 a14 a15 a16 a17 a18 a19) {x1 x2 x3 x4 x5} :
    Keeps D c none J (k0_part29 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part29
  refine .bind' (.load H.l10) fun _ => ?_
  refine .bind' (.store H.o10) fun _ => ?_
  exact .pure trivial

/-- Part 30 keeps what the body holds. -/
theorem keeps30 (H : Mem D c J a2 a3 a4 a5 a6 a7 a8 a9 a10 a11 a12 a13 a14 a15 a16 a17 a18 a19) {x1 x2 x3 x4 x5 x6 x7 x8 x9 x10 x11 x12 x13 x14 x15 x16 x17 x18} :
    Keeps D c none J (k0_part30 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18) fun _ => True := by
  unfold k0_part30
  exact .pure trivial

/-- Part 31 keeps what the body holds. -/
theorem keeps31 (H : Mem D c J a2 a3 a4 a5 a6 a7 a8 a9 a10 a11 a12 a13 a14 a15 a16 a17 a18 a19) :
    Keeps D c none J (k0_part31 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part31
  refine .bind' (.load H.l4) fun _ => ?_
  refine .bind' (.load H.l18) fun _ => ?_
  refine .bind' (.load H.l4) fun _ => ?_
  refine .bind' (.load H.l18) fun _ => ?_
  refine .bind' (.load H.l4) fun _ => ?_
  refine .bind' (.load H.l18) fun _ => ?_
  refine .bind' (.load H.l4) fun _ => ?_
  refine .bind' (.load H.l18) fun _ => ?_
  exact .pure trivial

/-- Part 32 keeps what the body holds. -/
theorem keeps32 (H : Mem D c J a2 a3 a4 a5 a6 a7 a8 a9 a10 a11 a12 a13 a14 a15 a16 a17 a18 a19) {x1 x2 x3} :
    Keeps D c none J (k0_part32 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part32
  refine .bind' (.load H.l4) fun _ => ?_
  refine .bind' (.load H.l18) fun _ => ?_
  refine .bind' (.load H.l4) fun _ => ?_
  refine .bind' (.load H.l18) fun _ => ?_
  refine .bind' (.load H.l4) fun _ => ?_
  refine .bind' (.load H.l18) fun _ => ?_
  refine .bind' (.load H.l4) fun _ => ?_
  exact .pure trivial

/-- Part 33 keeps what the body holds. -/
theorem keeps33 (H : Mem D c J a2 a3 a4 a5 a6 a7 a8 a9 a10 a11 a12 a13 a14 a15 a16 a17 a18 a19) {x1 x2 x3 x4 x5 x6 x7} :
    Keeps D c none J (k0_part33 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part33
  refine .bind' (.load H.l18) fun _ => ?_
  refine .bind' (.load H.l10) fun _ => ?_
  refine .bind' (.store H.o10) fun _ => ?_
  exact .pure trivial

/-- Part 34 keeps what the body holds. -/
theorem keeps34 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34 x35} :
    Keeps D c none J (k0_part34 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34 x35) fun _ => True := by
  unfold k0_part34
  exact .pure trivial

/-- Part 212 keeps what the body holds. -/
theorem keeps212 (H : Mem D c J a2 a3 a4 a5 a6 a7 a8 a9 a10 a11 a12 a13 a14 a15 a16 a17 a18 a19) {x1 x2 x3 x4 x5 x6 x7} :
    Keeps D c none J (k0_part212 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part212
  refine .bind' (.load H.l18) fun _ => ?_
  refine .bind' (.store H.o18) fun _ => ?_
  refine .bind' (.loop fun _ _ => ?_) fun _ => ?_
  · refine .bind' (keeps1 H) fun _ => ?_
    refine .bind' (keeps2 H) fun _ => ?_
    refine .bind' (keeps3 H) fun _ => ?_
    refine .bind' (keeps4 H) fun _ => ?_
    refine .bind' (keeps5 H) fun _ => ?_
    refine .bind' (keeps6 H) fun _ => ?_
    refine .bind' (keeps7 H) fun _ => ?_
    refine .bind' (keeps8 H) fun _ => ?_
    refine .bind' (keeps9 H) fun _ => ?_
    refine .bind' (keeps10 H) fun _ => ?_
    refine .bind' (keeps11 H) fun _ => ?_
    refine .bind' (keeps12 H) fun _ => ?_
    refine .bind' (keeps13 H) fun _ => ?_
    refine .bind' (keeps14 H) fun _ => ?_
    refine .bind' (keeps15 H) fun _ => ?_
    exact .pure trivial
  refine .bind' (.loop fun _ _ => ?_) fun _ => ?_
  · refine .bind' (keeps16 H) fun _ => ?_
    refine .bind' (keeps17 H) fun _ => ?_
    refine .bind' (keeps18 H) fun _ => ?_
    refine .bind' (keeps19 H) fun _ => ?_
    refine .bind' (keeps20 H) fun _ => ?_
    refine .bind' (keeps21 H) fun _ => ?_
    refine .bind' (keeps22 H) fun _ => ?_
    refine .bind' (keeps23 H) fun _ => ?_
    refine .bind' (keeps24 H) fun _ => ?_
    refine .bind' (keeps25 H) fun _ => ?_
    refine .bind' (keeps26 H) fun _ => ?_
    refine .bind' (keeps27 H) fun _ => ?_
    refine .bind' (keeps28 H) fun _ => ?_
    refine .bind' (keeps29 H) fun _ => ?_
    refine .bind' (keeps30 H) fun _ => ?_
    exact .pure trivial
  refine .dite (fun _ => ?_) fun _ => ?_
  · refine .bind' (keeps31 H) fun _ => ?_
    refine .bind' (keeps32 H) fun _ => ?_
    refine .bind' (keeps33 H) fun _ => ?_
    refine .bind' (keeps34 H) fun _ => ?_
    exact .pure trivial
  · exact .pure trivial

/-- Part 213 keeps what the body holds. -/
theorem keeps213 (H : Mem D c J a2 a3 a4 a5 a6 a7 a8 a9 a10 a11 a12 a13 a14 a15 a16 a17 a18 a19) {x1 x2 x3 x4 x5} :
    Keeps D c none J (k0_part213 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part213
  refine .bind' (H.call ..) fun _ => ?_
  refine .bind' (.load H.l17) fun _ => ?_
  refine .bind' (.store H.o17) fun _ => ?_
  exact .pure trivial

/-- Part 35 keeps what the body holds. -/
theorem keeps35 (H : Mem D c J a2 a3 a4 a5 a6 a7 a8 a9 a10 a11 a12 a13 a14 a15 a16 a17 a18 a19) {x1 x2 x3 x4 x5} :
    Keeps D c none J (k0_part35 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part35
  refine .bind' (.load H.l10) fun _ => ?_
  exact .pure trivial

/-- Part 36 keeps what the body holds. -/
theorem keeps36 (H : Mem D c J a2 a3 a4 a5 a6 a7 a8 a9 a10 a11 a12 a13 a14 a15 a16 a17 a18 a19) {x1 x2 x3 x4 x5} :
    Keeps D c none J (k0_part36 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part36
  refine .bind' (.load H.l10) fun _ => ?_
  exact .pure trivial

/-- Part 214 keeps what the body holds. -/
theorem keeps214 (H : Mem D c J a2 a3 a4 a5 a6 a7 a8 a9 a10 a11 a12 a13 a14 a15 a16 a17 a18 a19) {x1 x2 x3 x4 x5} :
    Keeps D c none J (k0_part214 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part214
  refine .ite (fun _ => ?_) fun _ => ?_
  · refine .bind' (.load H.l17) fun _ => ?_
    refine .bind' (.load H.l17) fun _ => ?_
    refine .bind' (.loop fun _ _ => ?_) fun _ => ?_
    · refine .bind' (keeps35 H) fun _ => ?_
      exact .pure trivial
    refine .bind' (.loop fun _ _ => ?_) fun _ => ?_
    · refine .bind' (keeps36 H) fun _ => ?_
      exact .pure trivial
    refine .bind' (.loop fun _ _ => ?_) fun _ => ?_
    · refine .bind' (.load H.l10) fun _ => ?_
      refine .bind' (.load H.l10) fun _ => ?_
      refine .bind' (.store H.o10) fun _ => ?_
      exact .pure trivial
    refine .bind' (.loop fun _ _ => ?_) fun _ => ?_
    · refine .bind' (.load H.l10) fun _ => ?_
      refine .bind' (.load H.l10) fun _ => ?_
      refine .bind' (.store H.o10) fun _ => ?_
      exact .pure trivial
    refine .bind' (.load H.l17) fun _ => ?_
    refine .bind' (.store H.o17) fun _ => ?_
    refine .bind' (.load H.l14) fun _ => ?_
    refine .bind' (.store H.o14) fun _ => ?_
    refine .bind' (.load H.l15) fun _ => ?_
    refine .bind' (.store H.o15) fun _ => ?_
    refine .bind' (.load H.l16) fun _ => ?_
    refine .bind' (.store H.o16) fun _ => ?_
    refine .bind' (.load H.l17) fun _ => ?_
    refine .bind' (.load H.l10) fun _ => ?_
    refine .bind' (.load H.l13) fun _ => ?_
    refine .bind' (.store H.o13) fun _ => ?_
    refine .bind' (.load H.l13) fun _ => ?_
    exact .pure trivial
  · refine .bind' (.load H.l14) fun _ => ?_
    refine .bind' (.store H.o14) fun _ => ?_
    refine .bind' (.load H.l15) fun _ => ?_
    refine .bind' (.store H.o15) fun _ => ?_
    refine .bind' (.load H.l16) fun _ => ?_
    refine .bind' (.store H.o16) fun _ => ?_
    refine .bind' (.load H.l17) fun _ => ?_
    refine .bind' (.load H.l10) fun _ => ?_
    refine .bind' (.load H.l13) fun _ => ?_
    refine .bind' (.store H.o13) fun _ => ?_
    refine .bind' (.load H.l13) fun _ => ?_
    exact .pure trivial

/-- Part 215 keeps what the body holds. -/
theorem keeps215 (H : Mem D c J a2 a3 a4 a5 a6 a7 a8 a9 a10 a11 a12 a13 a14 a15 a16 a17 a18 a19) {x1} :
    Keeps D c none J (k0_part215 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part215
  refine .bind' (.load H.l5) fun _ => ?_
  refine .bind' (.load H.l11) fun _ => ?_
  refine .bind' (.load H.l18) fun _ => ?_
  refine .bind' (.store H.o18) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l13) fun _ => ?_
  refine .bind' (.load H.l5) fun _ => ?_
  refine .bind' (.load H.l11) fun _ => ?_
  exact .pure trivial

/-- Part 216 keeps what the body holds. -/
theorem keeps216 (H : Mem D c J a2 a3 a4 a5 a6 a7 a8 a9 a10 a11 a12 a13 a14 a15 a16 a17 a18 a19) {x1 x2} :
    Keeps D c none J (k0_part216 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part216
  refine .bind' (.load H.l18) fun _ => ?_
  refine .bind' (.store H.o18) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  exact .pure trivial

/-- Part 217 keeps what the body holds. -/
theorem keeps217 (H : Mem D c J a2 a3 a4 a5 a6 a7 a8 a9 a10 a11 a12 a13 a14 a15 a16 a17 a18 a19) :
    Keeps D c none J (k0_part217 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part217
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l13) fun _ => ?_
  refine .bind' (.load H.l5) fun _ => ?_
  exact .pure trivial

/-- Part 37 keeps what the body holds. -/
theorem keeps37 (H : Mem D c J a2 a3 a4 a5 a6 a7 a8 a9 a10 a11 a12 a13 a14 a15 a16 a17 a18 a19) {x1 x2 x3 x4} :
    Keeps D c none J (k0_part37 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part37
  refine .bind' (.load H.l10) fun _ => ?_
  refine .bind' (.load H.l13) fun _ => ?_
  refine .bind' (.store H.o13) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 38 keeps what the body holds. -/
theorem keeps38 (H : Mem D c J a2 a3 a4 a5 a6 a7 a8 a9 a10 a11 a12 a13 a14 a15 a16 a17 a18 a19) {x1 x2 x3} :
    Keeps D c none J (k0_part38 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part38
  exact .pure trivial

/-- Part 39 keeps what the body holds. -/
theorem keeps39 (H : Mem D c J a2 a3 a4 a5 a6 a7 a8 a9 a10 a11 a12 a13 a14 a15 a16 a17 a18 a19) {x1 x2 x3 x4} :
    Keeps D c none J (k0_part39 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part39
  refine .bind' (.load H.l14) fun _ => ?_
  refine .bind' (.store H.o14) fun _ => ?_
  refine .bind' (.load H.l18) fun _ => ?_
  refine .bind' (.load H.l14) fun _ => ?_
  exact .pure trivial

/-- Part 40 keeps what the body holds. -/
theorem keeps40 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34 x35} :
    Keeps D c none J (k0_part40 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34 x35) fun _ => True := by
  unfold k0_part40
  refine .bind' (.load H.l14) fun _ => ?_
  refine .bind' (.store H.o14) fun _ => ?_
  refine .bind' (.load H.l7) fun _ => ?_
  exact .pure trivial

/-- Part 41 keeps what the body holds. -/
theorem keeps41 (H : Mem D c J a2 a3 a4 a5 a6 a7 a8 a9 a10 a11 a12 a13 a14 a15 a16 a17 a18 a19) {x1 x2 x3 x4 x5 x6} :
    Keeps D c none J (k0_part41 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6) fun _ => True := by
  unfold k0_part41
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  exact .pure trivial

/-- Part 42 keeps what the body holds. -/
theorem keeps42 (H : Mem D c J a2 a3 a4 a5 a6 a7 a8 a9 a10 a11 a12 a13 a14 a15 a16 a17 a18 a19) :
    Keeps D c none J (k0_part42 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part42
  refine .bind' (.load H.l18) fun _ => ?_
  refine .bind' (.load H.l14) fun _ => ?_
  exact .pure trivial

/-- Part 43 keeps what the body holds. -/
theorem keeps43 (H : Mem D c J a2 a3 a4 a5 a6 a7 a8 a9 a10 a11 a12 a13 a14 a15 a16 a17 a18 a19) {x1 x2 x3 x4 x5 x6 x7 x8 x9 x10 x11 x12 x13} :
    Keeps D c none J (k0_part43 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13) fun _ => True := by
  unfold k0_part43
  refine .bind' (.load H.l14) fun _ => ?_
  refine .bind' (.store H.o14) fun _ => ?_
  refine .bind' (.load H.l18) fun _ => ?_
  refine .bind' (.load H.l14) fun _ => ?_
  exact .pure trivial

/-- Part 44 keeps what the body holds. -/
theorem keeps44 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23} :
    Keeps D c none J (k0_part44 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23) fun _ => True := by
  unfold k0_part44
  refine .bind' (.load H.l14) fun _ => ?_
  exact .pure trivial

/-- Part 45 keeps what the body holds. -/
theorem keeps45 (H : Mem D c J a2 a3 a4 a5 a6 a7 a8 a9 a10 a11 a12 a13 a14 a15 a16 a17 a18 a19) {x1 x2 x3 x4 x5 x6 x7 x8} :
    Keeps D c none J (k0_part45 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part45
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  exact .pure trivial

/-- Part 46 keeps what the body holds. -/
theorem keeps46 (H : Mem D c J a2 a3 a4 a5 a6 a7 a8 a9 a10 a11 a12 a13 a14 a15 a16 a17 a18 a19) {x1} :
    Keeps D c none J (k0_part46 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part46
  refine .bind' (.load H.l19) fun _ => ?_
  refine .bind' (.store H.o19) fun _ => ?_
  refine .bind' (.load H.l18) fun _ => ?_
  refine .bind' (.load H.l14) fun _ => ?_
  exact .pure trivial

/-- Part 47 keeps what the body holds. -/
theorem keeps47 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22} :
    Keeps D c none J (k0_part47 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22) fun _ => True := by
  unfold k0_part47
  refine .bind' (.load H.l14) fun _ => ?_
  refine .bind' (.store H.o14) fun _ => ?_
  refine .bind' (.load H.l18) fun _ => ?_
  refine .bind' (.load H.l14) fun _ => ?_
  exact .pure trivial

/-- Part 48 keeps what the body holds. -/
theorem keeps48 (H : Mem D c J a2 a3 a4 a5 a6 a7 a8 a9 a10 a11 a12 a13 a14 a15 a16 a17 a18 a19) {x1 x2 x3 x4 x5 x6 x7 x8 x9 x10 x11 x12 x13 x14} :
    Keeps D c none J (k0_part48 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14) fun _ => True := by
  unfold k0_part48
  exact .pure trivial

/-- Part 49 keeps what the body holds. -/
theorem keeps49 (H : Mem D c J a2 a3 a4 a5 a6 a7 a8 a9 a10 a11 a12 a13 a14 a15 a16 a17 a18 a19) {x1 x2 x3 x4 x5 x6 x7 x8 x9} :
    Keeps D c none J (k0_part49 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9) fun _ => True := by
  unfold k0_part49
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  exact .pure trivial

/-- Part 50 keeps what the body holds. -/
theorem keeps50 (H : Mem D c J a2 a3 a4 a5 a6 a7 a8 a9 a10 a11 a12 a13 a14 a15 a16 a17 a18 a19) {x1 x2} :
    Keeps D c none J (k0_part50 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part50
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 51 keeps what the body holds. -/
theorem keeps51 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31} :
    Keeps D c none J (k0_part51 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31) fun _ => True := by
  unfold k0_part51
  refine .bind' (.load H.l14) fun _ => ?_
  refine .bind' (.store H.o14) fun _ => ?_
  refine .bind' (.load H.l18) fun _ => ?_
  refine .bind' (.load H.l14) fun _ => ?_
  exact .pure trivial

/-- Part 52 keeps what the body holds. -/
theorem keeps52 (H : Mem D c J a2 a3 a4 a5 a6 a7 a8 a9 a10 a11 a12 a13 a14 a15 a16 a17 a18 a19) {x1 x2 x3 x4} :
    Keeps D c none J (k0_part52 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part52
  exact .pure trivial

/-- Part 53 keeps what the body holds. -/
theorem keeps53 (H : Mem D c J a2 a3 a4 a5 a6 a7 a8 a9 a10 a11 a12 a13 a14 a15 a16 a17 a18 a19) {x1 x2 x3 x4 x5 x6 x7} :
    Keeps D c none J (k0_part53 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part53
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  exact .pure trivial

/-- Part 54 keeps what the body holds. -/
theorem keeps54 (H : Mem D c J a2 a3 a4 a5 a6 a7 a8 a9 a10 a11 a12 a13 a14 a15 a16 a17 a18 a19) {x1 x2} :
    Keeps D c none J (k0_part54 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part54
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 55 keeps what the body holds. -/
theorem keeps55 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28} :
    Keeps D c none J (k0_part55 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28) fun _ => True := by
  unfold k0_part55
  refine .bind' (.load H.l14) fun _ => ?_
  refine .bind' (.store H.o14) fun _ => ?_
  refine .bind' (.load H.l18) fun _ => ?_
  exact .pure trivial

/-- Part 56 keeps what the body holds. -/
theorem keeps56 (H : Mem D c J a2 a3 a4 a5 a6 a7 a8 a9 a10 a11 a12 a13 a14 a15 a16 a17 a18 a19) {x1} :
    Keeps D c none J (k0_part56 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part56
  refine .bind' (.load H.l14) fun _ => ?_
  exact .pure trivial

/-- Part 57 keeps what the body holds. -/
theorem keeps57 (H : Mem D c J a2 a3 a4 a5 a6 a7 a8 a9 a10 a11 a12 a13 a14 a15 a16 a17 a18 a19) {x1 x2 x3 x4 x5 x6 x7 x8 x9 x10 x11 x12 x13 x14 x15 x16} :
    Keeps D c none J (k0_part57 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16) fun _ => True := by
  unfold k0_part57
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  exact .pure trivial

/-- Part 58 keeps what the body holds. -/
theorem keeps58 (H : Mem D c J a2 a3 a4 a5 a6 a7 a8 a9 a10 a11 a12 a13 a14 a15 a16 a17 a18 a19) {x1 x2 x3 x4} :
    Keeps D c none J (k0_part58 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part58
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 59 keeps what the body holds. -/
theorem keeps59 (H : Mem D c J a2 a3 a4 a5 a6 a7 a8 a9 a10 a11 a12 a13 a14 a15 a16 a17 a18 a19) {x1 x2 x3 x4 x5 x6 x7 x8 x9 x10 x11 x12 x13 x14 x15 x16 x17 x18 x19} :
    Keeps D c none J (k0_part59 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19) fun _ => True := by
  unfold k0_part59
  exact .pure trivial

/-- Part 60 keeps what the body holds. -/
theorem keeps60 (H : Mem D c J a2 a3 a4 a5 a6 a7 a8 a9 a10 a11 a12 a13 a14 a15 a16 a17 a18 a19) {x1} :
    Keeps D c none J (k0_part60 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part60
  refine .bind' (.load H.l14) fun _ => ?_
  refine .bind' (.store H.o14) fun _ => ?_
  refine .bind' (.load H.l18) fun _ => ?_
  refine .bind' (.load H.l14) fun _ => ?_
  exact .pure trivial

/-- Part 61 keeps what the body holds. -/
theorem keeps61 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25} :
    Keeps D c none J (k0_part61 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25) fun _ => True := by
  unfold k0_part61
  refine .bind' (.load H.l14) fun _ => ?_
  refine .bind' (.store H.o14) fun _ => ?_
  refine .bind' (.load H.l7) fun _ => ?_
  refine .bind' (.load H.l15) fun _ => ?_
  refine .bind' (.load H.l15) fun _ => ?_
  exact .pure trivial

/-- Part 62 keeps what the body holds. -/
theorem keeps62 (H : Mem D c J a2 a3 a4 a5 a6 a7 a8 a9 a10 a11 a12 a13 a14 a15 a16 a17 a18 a19) {x1 x2 x3 x4 x5 x6} :
    Keeps D c none J (k0_part62 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6) fun _ => True := by
  unfold k0_part62
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 63 keeps what the body holds. -/
theorem keeps63 (H : Mem D c J a2 a3 a4 a5 a6 a7 a8 a9 a10 a11 a12 a13 a14 a15 a16 a17 a18 a19) {x1 x2 x3 x4 x5 x6 x7 x8 x9} :
    Keeps D c none J (k0_part63 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9) fun _ => True := by
  unfold k0_part63
  exact .pure trivial

/-- Part 64 keeps what the body holds. -/
theorem keeps64 (H : Mem D c J a2 a3 a4 a5 a6 a7 a8 a9 a10 a11 a12 a13 a14 a15 a16 a17 a18 a19) {x1 x2 x3} :
    Keeps D c none J (k0_part64 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part64
  refine .bind' (.load H.l14) fun _ => ?_
  refine .bind' (.store H.o14) fun _ => ?_
  refine .bind' (.load H.l18) fun _ => ?_
  refine .bind' (.load H.l14) fun _ => ?_
  exact .pure trivial

/-- Part 65 keeps what the body holds. -/
theorem keeps65 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34} :
    Keeps D c none J (k0_part65 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34) fun _ => True := by
  unfold k0_part65
  refine .bind' (.load H.l14) fun _ => ?_
  refine .bind' (.store H.o14) fun _ => ?_
  refine .bind' (.load H.l7) fun _ => ?_
  exact .pure trivial

/-- Part 66 keeps what the body holds. -/
theorem keeps66 (H : Mem D c J a2 a3 a4 a5 a6 a7 a8 a9 a10 a11 a12 a13 a14 a15 a16 a17 a18 a19) {x1 x2 x3 x4} :
    Keeps D c none J (k0_part66 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part66
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 67 keeps what the body holds. -/
theorem keeps67 (H : Mem D c J a2 a3 a4 a5 a6 a7 a8 a9 a10 a11 a12 a13 a14 a15 a16 a17 a18 a19) {x1 x2} :
    Keeps D c none J (k0_part67 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part67
  exact .pure trivial

/-- Part 68 keeps what the body holds. -/
theorem keeps68 (H : Mem D c J a2 a3 a4 a5 a6 a7 a8 a9 a10 a11 a12 a13 a14 a15 a16 a17 a18 a19) {x1 x2 x3 x4 x5 x6 x7} :
    Keeps D c none J (k0_part68 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part68
  refine .bind' (.load H.l14) fun _ => ?_
  refine .bind' (.store H.o14) fun _ => ?_
  refine .bind' (.load H.l18) fun _ => ?_
  refine .bind' (.load H.l14) fun _ => ?_
  exact .pure trivial

/-- Part 69 keeps what the body holds. -/
theorem keeps69 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30} :
    Keeps D c none J (k0_part69 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30) fun _ => True := by
  unfold k0_part69
  refine .bind' (.load H.l14) fun _ => ?_
  refine .bind' (.store H.o14) fun _ => ?_
  exact .pure trivial

/-- Part 70 keeps what the body holds. -/
theorem keeps70 (H : Mem D c J a2 a3 a4 a5 a6 a7 a8 a9 a10 a11 a12 a13 a14 a15 a16 a17 a18 a19) {x1 x2 x3 x4 x5 x6 x7 x8} :
    Keeps D c none J (k0_part70 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part70
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l10) fun _ => ?_
  refine .bind' (.load H.l13) fun _ => ?_
  refine .bind' (.store H.o13) fun _ => ?_
  refine .bind' (.load H.l13) fun _ => ?_
  exact .pure trivial

/-- Part 71 keeps what the body holds. -/
theorem keeps71 (H : Mem D c J a2 a3 a4 a5 a6 a7 a8 a9 a10 a11 a12 a13 a14 a15 a16 a17 a18 a19) {x1 x2 x3 x4} :
    Keeps D c none J (k0_part71 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part71
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 72 keeps what the body holds. -/
theorem keeps72 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30} :
    Keeps D c none J (k0_part72 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30) fun _ => True := by
  unfold k0_part72
  refine .bind' (.load H.l14) fun _ => ?_
  refine .bind' (.store H.o14) fun _ => ?_
  refine .bind' (.load H.l19) fun _ => ?_
  exact .pure trivial

/-- Part 73 keeps what the body holds. -/
theorem keeps73 (H : Mem D c J a2 a3 a4 a5 a6 a7 a8 a9 a10 a11 a12 a13 a14 a15 a16 a17 a18 a19) {x1} :
    Keeps D c none J (k0_part73 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part73
  refine .bind' (.load H.l14) fun _ => ?_
  exact .pure trivial

/-- Part 74 keeps what the body holds. -/
theorem keeps74 (H : Mem D c J a2 a3 a4 a5 a6 a7 a8 a9 a10 a11 a12 a13 a14 a15 a16 a17 a18 a19) {x1 x2 x3 x4 x5 x6 x7 x8 x9 x10 x11 x12 x13 x14} :
    Keeps D c none J (k0_part74 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14) fun _ => True := by
  unfold k0_part74
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  exact .pure trivial

/-- Part 75 keeps what the body holds. -/
theorem keeps75 (H : Mem D c J a2 a3 a4 a5 a6 a7 a8 a9 a10 a11 a12 a13 a14 a15 a16 a17 a18 a19) {x1 x2 x3} :
    Keeps D c none J (k0_part75 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part75
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 76 keeps what the body holds. -/
theorem keeps76 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21} :
    Keeps D c none J (k0_part76 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21) fun _ => True := by
  unfold k0_part76
  refine .bind' (.load H.l14) fun _ => ?_
  exact .pure trivial

/-- Part 77 keeps what the body holds. -/
theorem keeps77 (H : Mem D c J a2 a3 a4 a5 a6 a7 a8 a9 a10 a11 a12 a13 a14 a15 a16 a17 a18 a19) {x1 x2} :
    Keeps D c none J (k0_part77 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part77
  refine .bind' (.store H.o14) fun _ => ?_
  refine .bind' (.load H.l19) fun _ => ?_
  refine .bind' (.load H.l14) fun _ => ?_
  exact .pure trivial

/-- Part 78 keeps what the body holds. -/
theorem keeps78 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23} :
    Keeps D c none J (k0_part78 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23) fun _ => True := by
  unfold k0_part78
  refine .bind' (.load H.l14) fun _ => ?_
  refine .bind' (.store H.o14) fun _ => ?_
  refine .bind' (.load H.l7) fun _ => ?_
  refine .bind' (.load H.l15) fun _ => ?_
  refine .bind' (.load H.l15) fun _ => ?_
  exact .pure trivial

/-- Part 79 keeps what the body holds. -/
theorem keeps79 (H : Mem D c J a2 a3 a4 a5 a6 a7 a8 a9 a10 a11 a12 a13 a14 a15 a16 a17 a18 a19) {x1 x2 x3 x4 x5} :
    Keeps D c none J (k0_part79 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part79
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 80 keeps what the body holds. -/
theorem keeps80 (H : Mem D c J a2 a3 a4 a5 a6 a7 a8 a9 a10 a11 a12 a13 a14 a15 a16 a17 a18 a19) {x1 x2 x3 x4 x5 x6 x7 x8 x9 x10 x11 x12} :
    Keeps D c none J (k0_part80 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12) fun _ => True := by
  unfold k0_part80
  exact .pure trivial

/-- Part 81 keeps what the body holds. -/
theorem keeps81 (H : Mem D c J a2 a3 a4 a5 a6 a7 a8 a9 a10 a11 a12 a13 a14 a15 a16 a17 a18 a19) {x1 x2 x3} :
    Keeps D c none J (k0_part81 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part81
  refine .bind' (.load H.l14) fun _ => ?_
  refine .bind' (.store H.o14) fun _ => ?_
  refine .bind' (.load H.l19) fun _ => ?_
  refine .bind' (.load H.l14) fun _ => ?_
  exact .pure trivial

/-- Part 82 keeps what the body holds. -/
theorem keeps82 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32} :
    Keeps D c none J (k0_part82 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32) fun _ => True := by
  unfold k0_part82
  refine .bind' (.load H.l14) fun _ => ?_
  refine .bind' (.store H.o14) fun _ => ?_
  refine .bind' (.load H.l7) fun _ => ?_
  refine .bind' (.load H.l15) fun _ => ?_
  exact .pure trivial

/-- Part 83 keeps what the body holds. -/
theorem keeps83 (H : Mem D c J a2 a3 a4 a5 a6 a7 a8 a9 a10 a11 a12 a13 a14 a15 a16 a17 a18 a19) {x1 x2 x3 x4 x5} :
    Keeps D c none J (k0_part83 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part83
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 84 keeps what the body holds. -/
theorem keeps84 (H : Mem D c J a2 a3 a4 a5 a6 a7 a8 a9 a10 a11 a12 a13 a14 a15 a16 a17 a18 a19) {x1 x2} :
    Keeps D c none J (k0_part84 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part84
  exact .pure trivial

/-- Part 85 keeps what the body holds. -/
theorem keeps85 (H : Mem D c J a2 a3 a4 a5 a6 a7 a8 a9 a10 a11 a12 a13 a14 a15 a16 a17 a18 a19) {x1 x2 x3 x4 x5} :
    Keeps D c none J (k0_part85 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part85
  refine .bind' (.load H.l14) fun _ => ?_
  refine .bind' (.store H.o14) fun _ => ?_
  refine .bind' (.load H.l19) fun _ => ?_
  refine .bind' (.load H.l14) fun _ => ?_
  exact .pure trivial

/-- Part 86 keeps what the body holds. -/
theorem keeps86 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33} :
    Keeps D c none J (k0_part86 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33) fun _ => True := by
  unfold k0_part86
  refine .bind' (.load H.l14) fun _ => ?_
  refine .bind' (.store H.o14) fun _ => ?_
  refine .bind' (.load H.l7) fun _ => ?_
  exact .pure trivial

/-- Part 87 keeps what the body holds. -/
theorem keeps87 (H : Mem D c J a2 a3 a4 a5 a6 a7 a8 a9 a10 a11 a12 a13 a14 a15 a16 a17 a18 a19) {x1 x2 x3 x4 x5 x6 x7} :
    Keeps D c none J (k0_part87 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part87
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  exact .pure trivial

/-- Part 88 keeps what the body holds. -/
theorem keeps88 (H : Mem D c J a2 a3 a4 a5 a6 a7 a8 a9 a10 a11 a12 a13 a14 a15 a16 a17 a18 a19) :
    Keeps D c none J (k0_part88 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part88
  refine .bind' (.load H.l19) fun _ => ?_
  refine .bind' (.load H.l14) fun _ => ?_
  exact .pure trivial

/-- Part 89 keeps what the body holds. -/
theorem keeps89 (H : Mem D c J a2 a3 a4 a5 a6 a7 a8 a9 a10 a11 a12 a13 a14 a15 a16 a17 a18 a19) {x1 x2 x3 x4 x5 x6 x7 x8 x9 x10 x11 x12 x13 x14} :
    Keeps D c none J (k0_part89 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14) fun _ => True := by
  unfold k0_part89
  refine .bind' (.load H.l14) fun _ => ?_
  refine .bind' (.store H.o14) fun _ => ?_
  refine .bind' (.load H.l19) fun _ => ?_
  refine .bind' (.load H.l14) fun _ => ?_
  exact .pure trivial

/-- Part 90 keeps what the body holds. -/
theorem keeps90 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22} :
    Keeps D c none J (k0_part90 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22) fun _ => True := by
  unfold k0_part90
  refine .bind' (.load H.l14) fun _ => ?_
  exact .pure trivial

/-- Part 91 keeps what the body holds. -/
theorem keeps91 (H : Mem D c J a2 a3 a4 a5 a6 a7 a8 a9 a10 a11 a12 a13 a14 a15 a16 a17 a18 a19) {x1 x2 x3 x4 x5 x6 x7 x8} :
    Keeps D c none J (k0_part91 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part91
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  exact .pure trivial

/-- Part 92 keeps what the body holds. -/
theorem keeps92 (H : Mem D c J a2 a3 a4 a5 a6 a7 a8 a9 a10 a11 a12 a13 a14 a15 a16 a17 a18 a19) {x1} :
    Keeps D c none J (k0_part92 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part92
  refine .bind' (.load H.l18) fun _ => ?_
  refine .bind' (.store H.o18) fun _ => ?_
  refine .bind' (.load H.l19) fun _ => ?_
  refine .bind' (.load H.l14) fun _ => ?_
  exact .pure trivial

/-- Part 93 keeps what the body holds. -/
theorem keeps93 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23} :
    Keeps D c none J (k0_part93 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23) fun _ => True := by
  unfold k0_part93
  refine .bind' (.load H.l14) fun _ => ?_
  refine .bind' (.store H.o14) fun _ => ?_
  refine .bind' (.load H.l19) fun _ => ?_
  refine .bind' (.load H.l14) fun _ => ?_
  exact .pure trivial

/-- Part 94 keeps what the body holds. -/
theorem keeps94 (H : Mem D c J a2 a3 a4 a5 a6 a7 a8 a9 a10 a11 a12 a13 a14 a15 a16 a17 a18 a19) {x1 x2 x3 x4 x5 x6 x7 x8 x9 x10 x11 x12 x13} :
    Keeps D c none J (k0_part94 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13) fun _ => True := by
  unfold k0_part94
  exact .pure trivial

/-- Part 95 keeps what the body holds. -/
theorem keeps95 (H : Mem D c J a2 a3 a4 a5 a6 a7 a8 a9 a10 a11 a12 a13 a14 a15 a16 a17 a18 a19) {x1 x2 x3 x4 x5 x6 x7 x8} :
    Keeps D c none J (k0_part95 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part95
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  exact .pure trivial

end Cert.AttnBody
-- ==== Proof.AttnPartsB.lean ====
/-
The parts of the attention body, second half, and the whole body: each keeps what the body holds.
-/
module

public import proofs.«01_k».proof.Proof.AttnPartsA

@[expose] public section

namespace Cert.AttnBody

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attention Cert.Attention.Gen Cert.Keeps

variable {F : FTy → Type} [BitOps F]

variable {D : Defs nD τ sig (Elt F) (Λ₀ F)} {c : Dev nD} {bd : Option ℕ} {J : sProp (MT nD τ sig Unit (Elt F) ℕ (UR sig nD τ) ℕ)}
variable {i : grid0.Coords}
variable {a2 : Memref sig .tc .vmem S1x512x256 .bf16} {h2 : a2.IsWhole}
variable {a3 : Memref sig .tc .vmem S1x512x256 .bf16} {h3 : a3.IsWhole}
variable {a4 : Memref sig .tc .vmem S1x8x256 .f32} {h4 : a4.IsWhole}
variable {a5 : Memref sig .tc .vmem S1x4352x512 .bf16} {h5 : a5.IsWhole}
variable {a6 : Memref sig .tc .vmem S1x4352x128 .bf16} {h6 : a6.IsWhole}
variable {a7 : Memref sig .tc .vmem S1x17x8x80x256 .bf16} {h7 : a7.IsWhole}
variable {a8 : Memref sig .tc .vmem S1x256x512 .f32} {h8 : a8.IsWhole}
variable {a9 : Memref sig .tc .vmem S1x256x512 .bf16} {h9 : a9.IsWhole}
variable {a10 : Memref sig .tc .vmem S17x256x256 .f32} {h10 : a10.IsWhole}
variable {a11 : Memref sig .tc .vmem S8x128x256 .bf16} {h11 : a11.IsWhole}
variable {a12 : Memref sig .tc .vmem S8x128x256 .bf16} {h12 : a12.IsWhole}
variable {a13 : Memref sig .tc .vmem S256x256 .f32} {h13 : a13.IsWhole}
variable {a14 : Memref sig .tc .vmem S8x8x256 .f32} {h14 : a14.IsWhole}
variable {a15 : Memref sig .tc .vmem S8x8x256 .f32} {h15 : a15.IsWhole}
variable {a16 : Memref sig .tc .vmem S512x256 .f32} {h16 : a16.IsWhole}
variable {a17 : Memref sig .tc .vmem S8x256 .f32} {h17 : a17.IsWhole}
variable {a18 : Memref sig .tc .vmem S8x256x256 .f32} {h18 : a18.IsWhole}
variable {a19 : Memref sig .tc .vmem S8x256x256 .f32} {h19 : a19.IsWhole}

/-- Part 96 keeps what the body holds. -/
theorem keeps96 (H : Mem D c J a2 a3 a4 a5 a6 a7 a8 a9 a10 a11 a12 a13 a14 a15 a16 a17 a18 a19) {x1 x2} :
    Keeps D c none J (k0_part96 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part96
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 104 keeps what the body holds. -/
theorem keeps104 (H : Mem D c J a2 a3 a4 a5 a6 a7 a8 a9 a10 a11 a12 a13 a14 a15 a16 a17 a18 a19) {x1 x2 x3 x4 x5} :
    Keeps D c none J (k0_part104 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part104
  refine .bind' (keeps37 H) fun _ => ?_
  refine .bind' (keeps38 H) fun _ => ?_
  refine .bind' (keeps39 H) fun _ => ?_
  refine .bind' (keeps40 H) fun _ => ?_
  refine .bind' (keeps41 H) fun _ => ?_
  refine .bind' (keeps42 H) fun _ => ?_
  refine .bind' (keeps43 H) fun _ => ?_
  refine .bind' (keeps44 H) fun _ => ?_
  refine .bind' (keeps45 H) fun _ => ?_
  refine .bind' (keeps46 H) fun _ => ?_
  refine .bind' (keeps47 H) fun _ => ?_
  refine .bind' (keeps48 H) fun _ => ?_
  refine .bind' (keeps49 H) fun _ => ?_
  refine .bind' (keeps50 H) fun _ => ?_
  refine .bind' (keeps51 H) fun _ => ?_
  refine .bind' (keeps52 H) fun _ => ?_
  refine .bind' (keeps53 H) fun _ => ?_
  refine .bind' (keeps54 H) fun _ => ?_
  refine .bind' (keeps55 H) fun _ => ?_
  refine .bind' (keeps56 H) fun _ => ?_
  refine .bind' (keeps57 H) fun _ => ?_
  refine .bind' (keeps58 H) fun _ => ?_
  refine .bind' (keeps59 H) fun _ => ?_
  refine .bind' (keeps60 H) fun _ => ?_
  refine .bind' (keeps61 H) fun _ => ?_
  refine .bind' (keeps62 H) fun _ => ?_
  refine .bind' (keeps63 H) fun _ => ?_
  refine .bind' (keeps64 H) fun _ => ?_
  refine .bind' (keeps65 H) fun _ => ?_
  refine .bind' (keeps66 H) fun _ => ?_
  refine .bind' (keeps67 H) fun _ => ?_
  refine .bind' (keeps68 H) fun _ => ?_
  refine .bind' (keeps69 H) fun _ => ?_
  refine .bind' (keeps70 H) fun _ => ?_
  refine .bind' (keeps71 H) fun _ => ?_
  refine .bind' (keeps72 H) fun _ => ?_
  refine .bind' (keeps73 H) fun _ => ?_
  refine .bind' (keeps74 H) fun _ => ?_
  refine .bind' (keeps75 H) fun _ => ?_
  refine .bind' (keeps76 H) fun _ => ?_
  refine .bind' (keeps77 H) fun _ => ?_
  refine .bind' (keeps78 H) fun _ => ?_
  refine .bind' (keeps79 H) fun _ => ?_
  refine .bind' (keeps80 H) fun _ => ?_
  refine .bind' (keeps81 H) fun _ => ?_
  refine .bind' (keeps82 H) fun _ => ?_
  refine .bind' (keeps83 H) fun _ => ?_
  refine .bind' (keeps84 H) fun _ => ?_
  refine .bind' (keeps85 H) fun _ => ?_
  refine .bind' (keeps86 H) fun _ => ?_
  refine .bind' (keeps87 H) fun _ => ?_
  refine .bind' (keeps88 H) fun _ => ?_
  refine .bind' (keeps89 H) fun _ => ?_
  refine .bind' (keeps90 H) fun _ => ?_
  refine .bind' (keeps91 H) fun _ => ?_
  refine .bind' (keeps92 H) fun _ => ?_
  refine .bind' (keeps93 H) fun _ => ?_
  refine .bind' (keeps94 H) fun _ => ?_
  refine .bind' (keeps95 H) fun _ => ?_
  refine .bind' (keeps96 H) fun _ => ?_
  exact .pure trivial

/-- Part 97 keeps what the body holds. -/
theorem keeps97 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32} :
    Keeps D c none J (k0_part97 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32) fun _ => True := by
  unfold k0_part97
  refine .bind' (.load H.l14) fun _ => ?_
  refine .bind' (.store H.o14) fun _ => ?_
  refine .bind' (.load H.l19) fun _ => ?_
  refine .bind' (.load H.l14) fun _ => ?_
  exact .pure trivial

/-- Part 98 keeps what the body holds. -/
theorem keeps98 (H : Mem D c J a2 a3 a4 a5 a6 a7 a8 a9 a10 a11 a12 a13 a14 a15 a16 a17 a18 a19) {x1 x2 x3} :
    Keeps D c none J (k0_part98 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part98
  exact .pure trivial

/-- Part 99 keeps what the body holds. -/
theorem keeps99 (H : Mem D c J a2 a3 a4 a5 a6 a7 a8 a9 a10 a11 a12 a13 a14 a15 a16 a17 a18 a19) {x1 x2 x3 x4 x5 x6 x7 x8} :
    Keeps D c none J (k0_part99 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part99
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  exact .pure trivial

/-- Part 100 keeps what the body holds. -/
theorem keeps100 (H : Mem D c J a2 a3 a4 a5 a6 a7 a8 a9 a10 a11 a12 a13 a14 a15 a16 a17 a18 a19) {x1 x2} :
    Keeps D c none J (k0_part100 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part100
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 101 keeps what the body holds. -/
theorem keeps101 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27} :
    Keeps D c none J (k0_part101 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27) fun _ => True := by
  unfold k0_part101
  refine .bind' (.load H.l14) fun _ => ?_
  refine .bind' (.store H.o14) fun _ => ?_
  exact .pure trivial

/-- Part 102 keeps what the body holds. -/
theorem keeps102 (H : Mem D c J a2 a3 a4 a5 a6 a7 a8 a9 a10 a11 a12 a13 a14 a15 a16 a17 a18 a19) :
    Keeps D c none J (k0_part102 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part102
  refine .bind' (.load H.l19) fun _ => ?_
  refine .bind' (.load H.l14) fun _ => ?_
  exact .pure trivial

/-- Part 103 keeps what the body holds. -/
theorem keeps103 (H : Mem D c J a2 a3 a4 a5 a6 a7 a8 a9 a10 a11 a12 a13 a14 a15 a16 a17 a18 a19) {x1 x2 x3 x4 x5 x6 x7 x8 x9 x10 x11 x12 x13 x14 x15 x16 x17} :
    Keeps D c none J (k0_part103 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17) fun _ => True := by
  unfold k0_part103
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  exact .pure trivial

/-- Part 105 keeps what the body holds. -/
theorem keeps105 (H : Mem D c J a2 a3 a4 a5 a6 a7 a8 a9 a10 a11 a12 a13 a14 a15 a16 a17 a18 a19) {x1 x2 x3 x4} :
    Keeps D c none J (k0_part105 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part105
  refine .bind' (.load H.l10) fun _ => ?_
  refine .bind' (.load H.l13) fun _ => ?_
  refine .bind' (.store H.o13) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 106 keeps what the body holds. -/
theorem keeps106 (H : Mem D c J a2 a3 a4 a5 a6 a7 a8 a9 a10 a11 a12 a13 a14 a15 a16 a17 a18 a19) {x1 x2 x3} :
    Keeps D c none J (k0_part106 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part106
  exact .pure trivial

/-- Part 107 keeps what the body holds. -/
theorem keeps107 (H : Mem D c J a2 a3 a4 a5 a6 a7 a8 a9 a10 a11 a12 a13 a14 a15 a16 a17 a18 a19) {x1 x2 x3 x4} :
    Keeps D c none J (k0_part107 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part107
  refine .bind' (.load H.l14) fun _ => ?_
  refine .bind' (.store H.o14) fun _ => ?_
  refine .bind' (.load H.l18) fun _ => ?_
  refine .bind' (.load H.l14) fun _ => ?_
  exact .pure trivial

/-- Part 108 keeps what the body holds. -/
theorem keeps108 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34 x35} :
    Keeps D c none J (k0_part108 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34 x35) fun _ => True := by
  unfold k0_part108
  refine .bind' (.load H.l14) fun _ => ?_
  refine .bind' (.store H.o14) fun _ => ?_
  refine .bind' (.load H.l7) fun _ => ?_
  exact .pure trivial

/-- Part 109 keeps what the body holds. -/
theorem keeps109 (H : Mem D c J a2 a3 a4 a5 a6 a7 a8 a9 a10 a11 a12 a13 a14 a15 a16 a17 a18 a19) {x1 x2 x3 x4 x5 x6} :
    Keeps D c none J (k0_part109 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6) fun _ => True := by
  unfold k0_part109
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  exact .pure trivial

/-- Part 110 keeps what the body holds. -/
theorem keeps110 (H : Mem D c J a2 a3 a4 a5 a6 a7 a8 a9 a10 a11 a12 a13 a14 a15 a16 a17 a18 a19) :
    Keeps D c none J (k0_part110 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part110
  refine .bind' (.load H.l18) fun _ => ?_
  refine .bind' (.load H.l14) fun _ => ?_
  exact .pure trivial

/-- Part 111 keeps what the body holds. -/
theorem keeps111 (H : Mem D c J a2 a3 a4 a5 a6 a7 a8 a9 a10 a11 a12 a13 a14 a15 a16 a17 a18 a19) {x1 x2 x3 x4 x5 x6 x7 x8 x9 x10 x11 x12 x13} :
    Keeps D c none J (k0_part111 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13) fun _ => True := by
  unfold k0_part111
  refine .bind' (.load H.l14) fun _ => ?_
  refine .bind' (.store H.o14) fun _ => ?_
  refine .bind' (.load H.l18) fun _ => ?_
  refine .bind' (.load H.l14) fun _ => ?_
  exact .pure trivial

/-- Part 112 keeps what the body holds. -/
theorem keeps112 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23} :
    Keeps D c none J (k0_part112 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23) fun _ => True := by
  unfold k0_part112
  refine .bind' (.load H.l14) fun _ => ?_
  exact .pure trivial

/-- Part 113 keeps what the body holds. -/
theorem keeps113 (H : Mem D c J a2 a3 a4 a5 a6 a7 a8 a9 a10 a11 a12 a13 a14 a15 a16 a17 a18 a19) {x1 x2 x3 x4 x5 x6 x7 x8} :
    Keeps D c none J (k0_part113 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part113
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  exact .pure trivial

/-- Part 114 keeps what the body holds. -/
theorem keeps114 (H : Mem D c J a2 a3 a4 a5 a6 a7 a8 a9 a10 a11 a12 a13 a14 a15 a16 a17 a18 a19) {x1} :
    Keeps D c none J (k0_part114 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part114
  refine .bind' (.load H.l19) fun _ => ?_
  refine .bind' (.store H.o19) fun _ => ?_
  refine .bind' (.load H.l18) fun _ => ?_
  refine .bind' (.load H.l14) fun _ => ?_
  exact .pure trivial

/-- Part 115 keeps what the body holds. -/
theorem keeps115 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22} :
    Keeps D c none J (k0_part115 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22) fun _ => True := by
  unfold k0_part115
  refine .bind' (.load H.l14) fun _ => ?_
  refine .bind' (.store H.o14) fun _ => ?_
  refine .bind' (.load H.l18) fun _ => ?_
  refine .bind' (.load H.l14) fun _ => ?_
  exact .pure trivial

/-- Part 116 keeps what the body holds. -/
theorem keeps116 (H : Mem D c J a2 a3 a4 a5 a6 a7 a8 a9 a10 a11 a12 a13 a14 a15 a16 a17 a18 a19) {x1 x2 x3 x4 x5 x6 x7 x8 x9 x10 x11 x12 x13 x14} :
    Keeps D c none J (k0_part116 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14) fun _ => True := by
  unfold k0_part116
  exact .pure trivial

/-- Part 117 keeps what the body holds. -/
theorem keeps117 (H : Mem D c J a2 a3 a4 a5 a6 a7 a8 a9 a10 a11 a12 a13 a14 a15 a16 a17 a18 a19) {x1 x2 x3 x4 x5 x6 x7 x8 x9} :
    Keeps D c none J (k0_part117 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9) fun _ => True := by
  unfold k0_part117
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  exact .pure trivial

/-- Part 118 keeps what the body holds. -/
theorem keeps118 (H : Mem D c J a2 a3 a4 a5 a6 a7 a8 a9 a10 a11 a12 a13 a14 a15 a16 a17 a18 a19) {x1 x2} :
    Keeps D c none J (k0_part118 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part118
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 119 keeps what the body holds. -/
theorem keeps119 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31} :
    Keeps D c none J (k0_part119 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31) fun _ => True := by
  unfold k0_part119
  refine .bind' (.load H.l14) fun _ => ?_
  refine .bind' (.store H.o14) fun _ => ?_
  refine .bind' (.load H.l18) fun _ => ?_
  refine .bind' (.load H.l14) fun _ => ?_
  exact .pure trivial

/-- Part 120 keeps what the body holds. -/
theorem keeps120 (H : Mem D c J a2 a3 a4 a5 a6 a7 a8 a9 a10 a11 a12 a13 a14 a15 a16 a17 a18 a19) {x1 x2 x3 x4} :
    Keeps D c none J (k0_part120 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part120
  exact .pure trivial

/-- Part 121 keeps what the body holds. -/
theorem keeps121 (H : Mem D c J a2 a3 a4 a5 a6 a7 a8 a9 a10 a11 a12 a13 a14 a15 a16 a17 a18 a19) {x1 x2 x3 x4 x5 x6 x7} :
    Keeps D c none J (k0_part121 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part121
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  exact .pure trivial

/-- Part 122 keeps what the body holds. -/
theorem keeps122 (H : Mem D c J a2 a3 a4 a5 a6 a7 a8 a9 a10 a11 a12 a13 a14 a15 a16 a17 a18 a19) {x1 x2} :
    Keeps D c none J (k0_part122 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part122
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 123 keeps what the body holds. -/
theorem keeps123 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28} :
    Keeps D c none J (k0_part123 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28) fun _ => True := by
  unfold k0_part123
  refine .bind' (.load H.l14) fun _ => ?_
  refine .bind' (.store H.o14) fun _ => ?_
  refine .bind' (.load H.l18) fun _ => ?_
  exact .pure trivial

/-- Part 124 keeps what the body holds. -/
theorem keeps124 (H : Mem D c J a2 a3 a4 a5 a6 a7 a8 a9 a10 a11 a12 a13 a14 a15 a16 a17 a18 a19) {x1} :
    Keeps D c none J (k0_part124 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part124
  refine .bind' (.load H.l14) fun _ => ?_
  exact .pure trivial

/-- Part 125 keeps what the body holds. -/
theorem keeps125 (H : Mem D c J a2 a3 a4 a5 a6 a7 a8 a9 a10 a11 a12 a13 a14 a15 a16 a17 a18 a19) {x1 x2 x3 x4 x5 x6 x7 x8 x9 x10 x11 x12 x13 x14 x15 x16} :
    Keeps D c none J (k0_part125 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16) fun _ => True := by
  unfold k0_part125
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  exact .pure trivial

/-- Part 126 keeps what the body holds. -/
theorem keeps126 (H : Mem D c J a2 a3 a4 a5 a6 a7 a8 a9 a10 a11 a12 a13 a14 a15 a16 a17 a18 a19) {x1 x2 x3 x4} :
    Keeps D c none J (k0_part126 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part126
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 127 keeps what the body holds. -/
theorem keeps127 (H : Mem D c J a2 a3 a4 a5 a6 a7 a8 a9 a10 a11 a12 a13 a14 a15 a16 a17 a18 a19) {x1 x2 x3 x4 x5 x6 x7 x8 x9 x10 x11 x12 x13 x14 x15 x16 x17 x18 x19} :
    Keeps D c none J (k0_part127 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19) fun _ => True := by
  unfold k0_part127
  exact .pure trivial

/-- Part 128 keeps what the body holds. -/
theorem keeps128 (H : Mem D c J a2 a3 a4 a5 a6 a7 a8 a9 a10 a11 a12 a13 a14 a15 a16 a17 a18 a19) {x1} :
    Keeps D c none J (k0_part128 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part128
  refine .bind' (.load H.l14) fun _ => ?_
  refine .bind' (.store H.o14) fun _ => ?_
  refine .bind' (.load H.l18) fun _ => ?_
  refine .bind' (.load H.l14) fun _ => ?_
  exact .pure trivial

/-- Part 129 keeps what the body holds. -/
theorem keeps129 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25} :
    Keeps D c none J (k0_part129 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25) fun _ => True := by
  unfold k0_part129
  refine .bind' (.load H.l14) fun _ => ?_
  refine .bind' (.store H.o14) fun _ => ?_
  refine .bind' (.load H.l7) fun _ => ?_
  refine .bind' (.load H.l15) fun _ => ?_
  refine .bind' (.load H.l15) fun _ => ?_
  exact .pure trivial

/-- Part 130 keeps what the body holds. -/
theorem keeps130 (H : Mem D c J a2 a3 a4 a5 a6 a7 a8 a9 a10 a11 a12 a13 a14 a15 a16 a17 a18 a19) {x1 x2 x3 x4 x5 x6} :
    Keeps D c none J (k0_part130 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6) fun _ => True := by
  unfold k0_part130
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 131 keeps what the body holds. -/
theorem keeps131 (H : Mem D c J a2 a3 a4 a5 a6 a7 a8 a9 a10 a11 a12 a13 a14 a15 a16 a17 a18 a19) {x1 x2 x3 x4 x5 x6 x7 x8 x9} :
    Keeps D c none J (k0_part131 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9) fun _ => True := by
  unfold k0_part131
  exact .pure trivial

/-- Part 132 keeps what the body holds. -/
theorem keeps132 (H : Mem D c J a2 a3 a4 a5 a6 a7 a8 a9 a10 a11 a12 a13 a14 a15 a16 a17 a18 a19) {x1 x2 x3} :
    Keeps D c none J (k0_part132 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part132
  refine .bind' (.load H.l14) fun _ => ?_
  refine .bind' (.store H.o14) fun _ => ?_
  refine .bind' (.load H.l18) fun _ => ?_
  refine .bind' (.load H.l14) fun _ => ?_
  exact .pure trivial

/-- Part 133 keeps what the body holds. -/
theorem keeps133 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34} :
    Keeps D c none J (k0_part133 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34) fun _ => True := by
  unfold k0_part133
  refine .bind' (.load H.l14) fun _ => ?_
  refine .bind' (.store H.o14) fun _ => ?_
  refine .bind' (.load H.l7) fun _ => ?_
  exact .pure trivial

/-- Part 134 keeps what the body holds. -/
theorem keeps134 (H : Mem D c J a2 a3 a4 a5 a6 a7 a8 a9 a10 a11 a12 a13 a14 a15 a16 a17 a18 a19) {x1 x2 x3 x4} :
    Keeps D c none J (k0_part134 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part134
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l19) fun _ => ?_
  refine .bind' (.store H.o19) fun _ => ?_
  refine .bind' (.load H.l18) fun _ => ?_
  refine .bind' (.load H.l14) fun _ => ?_
  exact .pure trivial

/-- Part 135 keeps what the body holds. -/
theorem keeps135 (H : Mem D c J a2 a3 a4 a5 a6 a7 a8 a9 a10 a11 a12 a13 a14 a15 a16 a17 a18 a19) {x1 x2} :
    Keeps D c none J (k0_part135 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part135
  exact .pure trivial

/-- Part 136 keeps what the body holds. -/
theorem keeps136 (H : Mem D c J a2 a3 a4 a5 a6 a7 a8 a9 a10 a11 a12 a13 a14 a15 a16 a17 a18 a19) {x1 x2 x3 x4 x5 x6 x7} :
    Keeps D c none J (k0_part136 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part136
  refine .bind' (.load H.l14) fun _ => ?_
  refine .bind' (.store H.o14) fun _ => ?_
  refine .bind' (.load H.l18) fun _ => ?_
  refine .bind' (.load H.l14) fun _ => ?_
  exact .pure trivial

/-- Part 137 keeps what the body holds. -/
theorem keeps137 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30} :
    Keeps D c none J (k0_part137 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30) fun _ => True := by
  unfold k0_part137
  refine .bind' (.load H.l14) fun _ => ?_
  refine .bind' (.store H.o14) fun _ => ?_
  exact .pure trivial

/-- Part 138 keeps what the body holds. -/
theorem keeps138 (H : Mem D c J a2 a3 a4 a5 a6 a7 a8 a9 a10 a11 a12 a13 a14 a15 a16 a17 a18 a19) {x1 x2 x3 x4 x5 x6 x7 x8} :
    Keeps D c none J (k0_part138 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part138
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l10) fun _ => ?_
  refine .bind' (.load H.l13) fun _ => ?_
  refine .bind' (.store H.o13) fun _ => ?_
  refine .bind' (.load H.l13) fun _ => ?_
  exact .pure trivial

/-- Part 139 keeps what the body holds. -/
theorem keeps139 (H : Mem D c J a2 a3 a4 a5 a6 a7 a8 a9 a10 a11 a12 a13 a14 a15 a16 a17 a18 a19) {x1 x2 x3 x4} :
    Keeps D c none J (k0_part139 i a2 h2 a3 h3 a4 h4 a5 h5 a6 h6 a7 h7 a8 h8 a9 h9 a10 h10 a11 h11 a12 h12 a13 h13 a14 h14 a15 h15 a16 h16 a17 h17 a18 h18 a19 h19 x1 x2 x3 x4) fun _ => True := by
  unfold k0_part139
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 140 keeps what the body holds. -/
theorem keeps140 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30} :
    Keeps D c none J (k0_part140 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30) fun _ => True := by
  unfold k0_part140
  refine .bind' (.load H.l14) fun _ => ?_
  refine .bind' (.store H.o14) fun _ => ?_
  refine .bind' (.load H.l19) fun _ => ?_
  exact .pure trivial

/-- Part 141 keeps what the body holds. -/
theorem keeps141 (H : Mem D c J a2 a3 a4 a5 a6 a7 a8 a9 a10 a11 a12 a13 a14 a15 a16 a17 a18 a19) {x1} :
    Keeps D c none J (k0_part141 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part141
  refine .bind' (.load H.l14) fun _ => ?_
  exact .pure trivial

/-- Part 142 keeps what the body holds. -/
theorem keeps142 (H : Mem D c J a2 a3 a4 a5 a6 a7 a8 a9 a10 a11 a12 a13 a14 a15 a16 a17 a18 a19) {x1 x2 x3 x4 x5 x6 x7 x8 x9 x10 x11 x12 x13 x14} :
    Keeps D c none J (k0_part142 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14) fun _ => True := by
  unfold k0_part142
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  exact .pure trivial

/-- Part 143 keeps what the body holds. -/
theorem keeps143 (H : Mem D c J a2 a3 a4 a5 a6 a7 a8 a9 a10 a11 a12 a13 a14 a15 a16 a17 a18 a19) {x1 x2 x3} :
    Keeps D c none J (k0_part143 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part143
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 144 keeps what the body holds. -/
theorem keeps144 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21} :
    Keeps D c none J (k0_part144 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21) fun _ => True := by
  unfold k0_part144
  refine .bind' (.load H.l14) fun _ => ?_
  exact .pure trivial

/-- Part 145 keeps what the body holds. -/
theorem keeps145 (H : Mem D c J a2 a3 a4 a5 a6 a7 a8 a9 a10 a11 a12 a13 a14 a15 a16 a17 a18 a19) {x1 x2} :
    Keeps D c none J (k0_part145 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part145
  refine .bind' (.store H.o14) fun _ => ?_
  refine .bind' (.load H.l19) fun _ => ?_
  refine .bind' (.load H.l14) fun _ => ?_
  exact .pure trivial

/-- Part 146 keeps what the body holds. -/
theorem keeps146 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23} :
    Keeps D c none J (k0_part146 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23) fun _ => True := by
  unfold k0_part146
  refine .bind' (.load H.l14) fun _ => ?_
  refine .bind' (.store H.o14) fun _ => ?_
  refine .bind' (.load H.l7) fun _ => ?_
  refine .bind' (.load H.l15) fun _ => ?_
  refine .bind' (.load H.l15) fun _ => ?_
  exact .pure trivial

/-- Part 147 keeps what the body holds. -/
theorem keeps147 (H : Mem D c J a2 a3 a4 a5 a6 a7 a8 a9 a10 a11 a12 a13 a14 a15 a16 a17 a18 a19) {x1 x2 x3 x4 x5} :
    Keeps D c none J (k0_part147 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part147
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 148 keeps what the body holds. -/
theorem keeps148 (H : Mem D c J a2 a3 a4 a5 a6 a7 a8 a9 a10 a11 a12 a13 a14 a15 a16 a17 a18 a19) {x1 x2 x3 x4 x5 x6 x7 x8 x9 x10 x11 x12} :
    Keeps D c none J (k0_part148 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12) fun _ => True := by
  unfold k0_part148
  exact .pure trivial

/-- Part 149 keeps what the body holds. -/
theorem keeps149 (H : Mem D c J a2 a3 a4 a5 a6 a7 a8 a9 a10 a11 a12 a13 a14 a15 a16 a17 a18 a19) {x1 x2 x3} :
    Keeps D c none J (k0_part149 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part149
  refine .bind' (.load H.l14) fun _ => ?_
  refine .bind' (.store H.o14) fun _ => ?_
  refine .bind' (.load H.l19) fun _ => ?_
  refine .bind' (.load H.l14) fun _ => ?_
  exact .pure trivial

/-- Part 150 keeps what the body holds. -/
theorem keeps150 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32} :
    Keeps D c none J (k0_part150 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32) fun _ => True := by
  unfold k0_part150
  refine .bind' (.load H.l14) fun _ => ?_
  refine .bind' (.store H.o14) fun _ => ?_
  refine .bind' (.load H.l7) fun _ => ?_
  refine .bind' (.load H.l15) fun _ => ?_
  exact .pure trivial

/-- Part 151 keeps what the body holds. -/
theorem keeps151 (H : Mem D c J a2 a3 a4 a5 a6 a7 a8 a9 a10 a11 a12 a13 a14 a15 a16 a17 a18 a19) {x1 x2 x3 x4 x5} :
    Keeps D c none J (k0_part151 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part151
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 152 keeps what the body holds. -/
theorem keeps152 (H : Mem D c J a2 a3 a4 a5 a6 a7 a8 a9 a10 a11 a12 a13 a14 a15 a16 a17 a18 a19) {x1 x2} :
    Keeps D c none J (k0_part152 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part152
  exact .pure trivial

/-- Part 153 keeps what the body holds. -/
theorem keeps153 (H : Mem D c J a2 a3 a4 a5 a6 a7 a8 a9 a10 a11 a12 a13 a14 a15 a16 a17 a18 a19) {x1 x2 x3 x4 x5} :
    Keeps D c none J (k0_part153 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part153
  refine .bind' (.load H.l14) fun _ => ?_
  refine .bind' (.store H.o14) fun _ => ?_
  refine .bind' (.load H.l19) fun _ => ?_
  refine .bind' (.load H.l14) fun _ => ?_
  exact .pure trivial

/-- Part 154 keeps what the body holds. -/
theorem keeps154 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33} :
    Keeps D c none J (k0_part154 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33) fun _ => True := by
  unfold k0_part154
  refine .bind' (.load H.l14) fun _ => ?_
  refine .bind' (.store H.o14) fun _ => ?_
  refine .bind' (.load H.l7) fun _ => ?_
  exact .pure trivial

/-- Part 155 keeps what the body holds. -/
theorem keeps155 (H : Mem D c J a2 a3 a4 a5 a6 a7 a8 a9 a10 a11 a12 a13 a14 a15 a16 a17 a18 a19) {x1 x2 x3 x4 x5 x6 x7} :
    Keeps D c none J (k0_part155 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part155
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  refine .bind' (.load H.l18) fun _ => ?_
  refine .bind' (.store H.o18) fun _ => ?_
  exact .pure trivial

/-- Part 156 keeps what the body holds. -/
theorem keeps156 (H : Mem D c J a2 a3 a4 a5 a6 a7 a8 a9 a10 a11 a12 a13 a14 a15 a16 a17 a18 a19) :
    Keeps D c none J (k0_part156 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part156
  refine .bind' (.load H.l19) fun _ => ?_
  refine .bind' (.load H.l14) fun _ => ?_
  exact .pure trivial

/-- Part 157 keeps what the body holds. -/
theorem keeps157 (H : Mem D c J a2 a3 a4 a5 a6 a7 a8 a9 a10 a11 a12 a13 a14 a15 a16 a17 a18 a19) {x1 x2 x3 x4 x5 x6 x7 x8 x9 x10 x11 x12 x13 x14} :
    Keeps D c none J (k0_part157 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14) fun _ => True := by
  unfold k0_part157
  refine .bind' (.load H.l14) fun _ => ?_
  refine .bind' (.store H.o14) fun _ => ?_
  refine .bind' (.load H.l19) fun _ => ?_
  refine .bind' (.load H.l14) fun _ => ?_
  exact .pure trivial

/-- Part 158 keeps what the body holds. -/
theorem keeps158 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22} :
    Keeps D c none J (k0_part158 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22) fun _ => True := by
  unfold k0_part158
  refine .bind' (.load H.l14) fun _ => ?_
  exact .pure trivial

/-- Part 159 keeps what the body holds. -/
theorem keeps159 (H : Mem D c J a2 a3 a4 a5 a6 a7 a8 a9 a10 a11 a12 a13 a14 a15 a16 a17 a18 a19) {x1 x2 x3 x4 x5 x6 x7 x8} :
    Keeps D c none J (k0_part159 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part159
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  refine .bind' (.load H.l11) fun _ => ?_
  exact .pure trivial

/-- Part 160 keeps what the body holds. -/
theorem keeps160 (H : Mem D c J a2 a3 a4 a5 a6 a7 a8 a9 a10 a11 a12 a13 a14 a15 a16 a17 a18 a19) {x1} :
    Keeps D c none J (k0_part160 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part160
  refine .bind' (.load H.l18) fun _ => ?_
  refine .bind' (.store H.o18) fun _ => ?_
  refine .bind' (.load H.l19) fun _ => ?_
  refine .bind' (.load H.l14) fun _ => ?_
  exact .pure trivial

/-- Part 161 keeps what the body holds. -/
theorem keeps161 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23} :
    Keeps D c none J (k0_part161 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23) fun _ => True := by
  unfold k0_part161
  refine .bind' (.load H.l14) fun _ => ?_
  refine .bind' (.store H.o14) fun _ => ?_
  refine .bind' (.load H.l19) fun _ => ?_
  refine .bind' (.load H.l14) fun _ => ?_
  exact .pure trivial

/-- Part 162 keeps what the body holds. -/
theorem keeps162 (H : Mem D c J a2 a3 a4 a5 a6 a7 a8 a9 a10 a11 a12 a13 a14 a15 a16 a17 a18 a19) {x1 x2 x3 x4 x5 x6 x7 x8 x9 x10 x11 x12 x13} :
    Keeps D c none J (k0_part162 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13) fun _ => True := by
  unfold k0_part162
  exact .pure trivial

/-- Part 163 keeps what the body holds. -/
theorem keeps163 (H : Mem D c J a2 a3 a4 a5 a6 a7 a8 a9 a10 a11 a12 a13 a14 a15 a16 a17 a18 a19) {x1 x2 x3 x4 x5 x6 x7 x8} :
    Keeps D c none J (k0_part163 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part163
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l13) fun _ => ?_
  refine .bind' (.load H.l5) fun _ => ?_
  exact .pure trivial

/-- Part 164 keeps what the body holds. -/
theorem keeps164 (H : Mem D c J a2 a3 a4 a5 a6 a7 a8 a9 a10 a11 a12 a13 a14 a15 a16 a17 a18 a19) {x1 x2} :
    Keeps D c none J (k0_part164 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part164
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 172 keeps what the body holds. -/
theorem keeps172 (H : Mem D c J a2 a3 a4 a5 a6 a7 a8 a9 a10 a11 a12 a13 a14 a15 a16 a17 a18 a19) {x1 x2 x3 x4 x5} :
    Keeps D c none J (k0_part172 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part172
  refine .bind' (keeps105 H) fun _ => ?_
  refine .bind' (keeps106 H) fun _ => ?_
  refine .bind' (keeps107 H) fun _ => ?_
  refine .bind' (keeps108 H) fun _ => ?_
  refine .bind' (keeps109 H) fun _ => ?_
  refine .bind' (keeps110 H) fun _ => ?_
  refine .bind' (keeps111 H) fun _ => ?_
  refine .bind' (keeps112 H) fun _ => ?_
  refine .bind' (keeps113 H) fun _ => ?_
  refine .bind' (keeps114 H) fun _ => ?_
  refine .bind' (keeps115 H) fun _ => ?_
  refine .bind' (keeps116 H) fun _ => ?_
  refine .bind' (keeps117 H) fun _ => ?_
  refine .bind' (keeps118 H) fun _ => ?_
  refine .bind' (keeps119 H) fun _ => ?_
  refine .bind' (keeps120 H) fun _ => ?_
  refine .bind' (keeps121 H) fun _ => ?_
  refine .bind' (keeps122 H) fun _ => ?_
  refine .bind' (keeps123 H) fun _ => ?_
  refine .bind' (keeps124 H) fun _ => ?_
  refine .bind' (keeps125 H) fun _ => ?_
  refine .bind' (keeps126 H) fun _ => ?_
  refine .bind' (keeps127 H) fun _ => ?_
  refine .bind' (keeps128 H) fun _ => ?_
  refine .bind' (keeps129 H) fun _ => ?_
  refine .bind' (keeps130 H) fun _ => ?_
  refine .bind' (keeps131 H) fun _ => ?_
  refine .bind' (keeps132 H) fun _ => ?_
  refine .bind' (keeps133 H) fun _ => ?_
  refine .bind' (keeps134 H) fun _ => ?_
  refine .bind' (keeps135 H) fun _ => ?_
  refine .bind' (keeps136 H) fun _ => ?_
  refine .bind' (keeps137 H) fun _ => ?_
  refine .bind' (keeps138 H) fun _ => ?_
  refine .bind' (keeps139 H) fun _ => ?_
  refine .bind' (keeps140 H) fun _ => ?_
  refine .bind' (keeps141 H) fun _ => ?_
  refine .bind' (keeps142 H) fun _ => ?_
  refine .bind' (keeps143 H) fun _ => ?_
  refine .bind' (keeps144 H) fun _ => ?_
  refine .bind' (keeps145 H) fun _ => ?_
  refine .bind' (keeps146 H) fun _ => ?_
  refine .bind' (keeps147 H) fun _ => ?_
  refine .bind' (keeps148 H) fun _ => ?_
  refine .bind' (keeps149 H) fun _ => ?_
  refine .bind' (keeps150 H) fun _ => ?_
  refine .bind' (keeps151 H) fun _ => ?_
  refine .bind' (keeps152 H) fun _ => ?_
  refine .bind' (keeps153 H) fun _ => ?_
  refine .bind' (keeps154 H) fun _ => ?_
  refine .bind' (keeps155 H) fun _ => ?_
  refine .bind' (keeps156 H) fun _ => ?_
  refine .bind' (keeps157 H) fun _ => ?_
  refine .bind' (keeps158 H) fun _ => ?_
  refine .bind' (keeps159 H) fun _ => ?_
  refine .bind' (keeps160 H) fun _ => ?_
  refine .bind' (keeps161 H) fun _ => ?_
  refine .bind' (keeps162 H) fun _ => ?_
  refine .bind' (keeps163 H) fun _ => ?_
  refine .bind' (keeps164 H) fun _ => ?_
  exact .pure trivial

/-- Part 165 keeps what the body holds. -/
theorem keeps165 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32} :
    Keeps D c none J (k0_part165 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32) fun _ => True := by
  unfold k0_part165
  refine .bind' (.load H.l14) fun _ => ?_
  refine .bind' (.store H.o14) fun _ => ?_
  refine .bind' (.load H.l19) fun _ => ?_
  refine .bind' (.load H.l14) fun _ => ?_
  exact .pure trivial

/-- Part 166 keeps what the body holds. -/
theorem keeps166 (H : Mem D c J a2 a3 a4 a5 a6 a7 a8 a9 a10 a11 a12 a13 a14 a15 a16 a17 a18 a19) {x1 x2 x3} :
    Keeps D c none J (k0_part166 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part166
  exact .pure trivial

/-- Part 167 keeps what the body holds. -/
theorem keeps167 (H : Mem D c J a2 a3 a4 a5 a6 a7 a8 a9 a10 a11 a12 a13 a14 a15 a16 a17 a18 a19) {x1 x2 x3 x4 x5 x6 x7 x8} :
    Keeps D c none J (k0_part167 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part167
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  exact .pure trivial

/-- Part 168 keeps what the body holds. -/
theorem keeps168 (H : Mem D c J a2 a3 a4 a5 a6 a7 a8 a9 a10 a11 a12 a13 a14 a15 a16 a17 a18 a19) {x1 x2} :
    Keeps D c none J (k0_part168 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part168
  refine .bind' (.load H.l13) fun _ => ?_
  refine .bind' (.load H.l5) fun _ => ?_
  refine .bind' (.load H.l11) fun _ => ?_
  refine .bind' (.load H.l18) fun _ => ?_
  refine .bind' (.store H.o18) fun _ => ?_
  refine .bind' (.load H.l19) fun _ => ?_
  refine .bind' (.load H.l14) fun _ => ?_
  exact .pure trivial

/-- Part 169 keeps what the body holds. -/
theorem keeps169 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27} :
    Keeps D c none J (k0_part169 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27) fun _ => True := by
  unfold k0_part169
  refine .bind' (.load H.l14) fun _ => ?_
  refine .bind' (.store H.o14) fun _ => ?_
  exact .pure trivial

/-- Part 170 keeps what the body holds. -/
theorem keeps170 (H : Mem D c J a2 a3 a4 a5 a6 a7 a8 a9 a10 a11 a12 a13 a14 a15 a16 a17 a18 a19) :
    Keeps D c none J (k0_part170 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part170
  refine .bind' (.load H.l19) fun _ => ?_
  refine .bind' (.load H.l14) fun _ => ?_
  exact .pure trivial

/-- Part 171 keeps what the body holds. -/
theorem keeps171 (H : Mem D c J a2 a3 a4 a5 a6 a7 a8 a9 a10 a11 a12 a13 a14 a15 a16 a17 a18 a19) {x1 x2 x3 x4 x5 x6 x7 x8 x9 x10 x11 x12 x13 x14 x15 x16 x17} :
    Keeps D c none J (k0_part171 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17) fun _ => True := by
  unfold k0_part171
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  exact .pure trivial

/-- Part 173 keeps what the body holds. -/
theorem keeps173 (H : Mem D c J a2 a3 a4 a5 a6 a7 a8 a9 a10 a11 a12 a13 a14 a15 a16 a17 a18 a19) :
    Keeps D c none J (k0_part173 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part173
  refine .bind' (.load H.l18) fun _ => ?_
  refine .bind' (.load H.l14) fun _ => ?_
  exact .pure trivial

/-- Part 174 keeps what the body holds. -/
theorem keeps174 (H : Mem D c J a2 a3 a4 a5 a6 a7 a8 a9 a10 a11 a12 a13 a14 a15 a16 a17 a18 a19) {x1 x2 x3 x4 x5 x6 x7 x8 x9 x10 x11 x12 x13 x14 x15 x16} :
    Keeps D c none J (k0_part174 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16) fun _ => True := by
  unfold k0_part174
  refine .bind' (.load H.l14) fun _ => ?_
  refine .bind' (.store H.o14) fun _ => ?_
  refine .bind' (.load H.l18) fun _ => ?_
  refine .bind' (.load H.l14) fun _ => ?_
  exact .pure trivial

/-- Part 175 keeps what the body holds. -/
theorem keeps175 (H : Mem D c J a2 a3 a4 a5 a6 a7 a8 a9 a10 a11 a12 a13 a14 a15 a16 a17 a18 a19) {x1 x2 x3 x4 x5 x6 x7 x8 x9 x10 x11 x12 x13 x14 x15 x16 x17 x18 x19 x20} :
    Keeps D c none J (k0_part175 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20) fun _ => True := by
  unfold k0_part175
  exact .pure trivial

/-- Part 176 keeps what the body holds. -/
theorem keeps176 (H : Mem D c J a2 a3 a4 a5 a6 a7 a8 a9 a10 a11 a12 a13 a14 a15 a16 a17 a18 a19) {x1 x2 x3 x4 x5 x6 x7} :
    Keeps D c none J (k0_part176 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part176
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l18) fun _ => ?_
  refine .bind' (.load H.l14) fun _ => ?_
  exact .pure trivial

/-- Part 177 keeps what the body holds. -/
theorem keeps177 (H : Mem D c J a2 a3 a4 a5 a6 a7 a8 a9 a10 a11 a12 a13 a14 a15 a16 a17 a18 a19) {x1 x2 x3 x4 x5 x6 x7 x8} :
    Keeps D c none J (k0_part177 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part177
  exact .pure trivial

/-- Part 178 keeps what the body holds. -/
theorem keeps178 (H : Mem D c J a2 a3 a4 a5 a6 a7 a8 a9 a10 a11 a12 a13 a14 a15 a16 a17 a18 a19) {x1 x2 x3} :
    Keeps D c none J (k0_part178 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part178
  refine .bind' (.load H.l14) fun _ => ?_
  refine .bind' (.store H.o14) fun _ => ?_
  refine .bind' (.load H.l18) fun _ => ?_
  refine .bind' (.load H.l14) fun _ => ?_
  exact .pure trivial

/-- Part 179 keeps what the body holds. -/
theorem keeps179 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34 x35} :
    Keeps D c none J (k0_part179 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34 x35) fun _ => True := by
  unfold k0_part179
  refine .bind' (.load H.l14) fun _ => ?_
  refine .bind' (.store H.o14) fun _ => ?_
  refine .bind' (.load H.l7) fun _ => ?_
  exact .pure trivial

/-- Part 180 keeps what the body holds. -/
theorem keeps180 (H : Mem D c J a2 a3 a4 a5 a6 a7 a8 a9 a10 a11 a12 a13 a14 a15 a16 a17 a18 a19) {x1 x2} :
    Keeps D c none J (k0_part180 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part180
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l18) fun _ => ?_
  refine .bind' (.load H.l14) fun _ => ?_
  exact .pure trivial

/-- Part 181 keeps what the body holds. -/
theorem keeps181 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26} :
    Keeps D c none J (k0_part181 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26) fun _ => True := by
  unfold k0_part181
  refine .bind' (.load H.l14) fun _ => ?_
  refine .bind' (.store H.o14) fun _ => ?_
  exact .pure trivial

/-- Part 182 keeps what the body holds. -/
theorem keeps182 (H : Mem D c J a2 a3 a4 a5 a6 a7 a8 a9 a10 a11 a12 a13 a14 a15 a16 a17 a18 a19) :
    Keeps D c none J (k0_part182 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part182
  refine .bind' (.load H.l18) fun _ => ?_
  refine .bind' (.load H.l14) fun _ => ?_
  exact .pure trivial

/-- Part 183 keeps what the body holds. -/
theorem keeps183 (H : Mem D c J a2 a3 a4 a5 a6 a7 a8 a9 a10 a11 a12 a13 a14 a15 a16 a17 a18 a19) {x1 x2 x3 x4 x5 x6 x7 x8 x9 x10 x11 x12 x13 x14 x15 x16 x17 x18} :
    Keeps D c none J (k0_part183 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18) fun _ => True := by
  unfold k0_part183
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  exact .pure trivial

/-- Part 184 keeps what the body holds. -/
theorem keeps184 (H : Mem D c J a2 a3 a4 a5 a6 a7 a8 a9 a10 a11 a12 a13 a14 a15 a16 a17 a18 a19) {x1 x2 x3} :
    Keeps D c none J (k0_part184 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part184
  refine .bind' (.load H.l16) fun _ => ?_
  refine .bind' (.store H.o16) fun _ => ?_
  refine .bind' (.load H.l18) fun _ => ?_
  refine .bind' (.load H.l14) fun _ => ?_
  exact .pure trivial

/-- Part 185 keeps what the body holds. -/
theorem keeps185 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25} :
    Keeps D c none J (k0_part185 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25) fun _ => True := by
  unfold k0_part185
  refine .bind' (.load H.l14) fun _ => ?_
  refine .bind' (.store H.o14) fun _ => ?_
  refine .bind' (.load H.l18) fun _ => ?_
  refine .bind' (.load H.l14) fun _ => ?_
  exact .pure trivial

/-- Part 186 keeps what the body holds. -/
theorem keeps186 (H : Mem D c J a2 a3 a4 a5 a6 a7 a8 a9 a10 a11 a12 a13 a14 a15 a16 a17 a18 a19) {x1 x2 x3 x4 x5 x6 x7 x8 x9 x10 x11} :
    Keeps D c none J (k0_part186 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11) fun _ => True := by
  unfold k0_part186
  exact .pure trivial

/-- Part 187 keeps what the body holds. -/
theorem keeps187 (H : Mem D c J a2 a3 a4 a5 a6 a7 a8 a9 a10 a11 a12 a13 a14 a15 a16 a17 a18 a19) {x1 x2 x3 x4 x5 x6 x7} :
    Keeps D c none J (k0_part187 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7) fun _ => True := by
  unfold k0_part187
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l18) fun _ => ?_
  exact .pure trivial

/-- Part 188 keeps what the body holds. -/
theorem keeps188 (H : Mem D c J a2 a3 a4 a5 a6 a7 a8 a9 a10 a11 a12 a13 a14 a15 a16 a17 a18 a19) {x1} :
    Keeps D c none J (k0_part188 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part188
  refine .bind' (.load H.l14) fun _ => ?_
  exact .pure trivial

/-- Part 189 keeps what the body holds. -/
theorem keeps189 (H : Mem D c J a2 a3 a4 a5 a6 a7 a8 a9 a10 a11 a12 a13 a14 a15 a16 a17 a18 a19) {x1 x2 x3 x4 x5 x6 x7 x8} :
    Keeps D c none J (k0_part189 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8) fun _ => True := by
  unfold k0_part189
  refine .bind' (.load H.l14) fun _ => ?_
  refine .bind' (.store H.o14) fun _ => ?_
  refine .bind' (.load H.l18) fun _ => ?_
  refine .bind' (.load H.l14) fun _ => ?_
  exact .pure trivial

/-- Part 190 keeps what the body holds. -/
theorem keeps190 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29} :
    Keeps D c none J (k0_part190 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29) fun _ => True := by
  unfold k0_part190
  refine .bind' (.load H.l14) fun _ => ?_
  refine .bind' (.store H.o14) fun _ => ?_
  exact .pure trivial

/-- Part 191 keeps what the body holds. -/
theorem keeps191 (H : Mem D c J a2 a3 a4 a5 a6 a7 a8 a9 a10 a11 a12 a13 a14 a15 a16 a17 a18 a19) {x1 x2 x3 x4 x5} :
    Keeps D c none J (k0_part191 i a2 h2 a3 h3 a4 h4 a5 h5 a6 h6 a7 h7 a8 h8 a9 h9 a10 h10 a11 h11 a12 h12 a13 h13 a14 h14 a15 h15 a16 h16 a17 h17 a18 h18 a19 h19 x1 x2 x3 x4 x5) fun _ => True := by
  unfold k0_part191
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l18) fun _ => ?_
  refine .bind' (.load H.l14) fun _ => ?_
  exact .pure trivial

/-- Part 192 keeps what the body holds. -/
theorem keeps192 (H : Mem D c J a2 a3 a4 a5 a6 a7 a8 a9 a10 a11 a12 a13 a14 a15 a16 a17 a18 a19) {x1 x2 x3 x4 x5 x6 x7 x8 x9 x10 x11 x12 x13 x14 x15 x16 x17} :
    Keeps D c none J (k0_part192 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17) fun _ => True := by
  unfold k0_part192
  exact .pure trivial

/-- Part 193 keeps what the body holds. -/
theorem keeps193 (H : Mem D c J a2 a3 a4 a5 a6 a7 a8 a9 a10 a11 a12 a13 a14 a15 a16 a17 a18 a19) {x1} :
    Keeps D c none J (k0_part193 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part193
  refine .bind' (.load H.l14) fun _ => ?_
  refine .bind' (.store H.o14) fun _ => ?_
  refine .bind' (.load H.l18) fun _ => ?_
  refine .bind' (.load H.l14) fun _ => ?_
  exact .pure trivial

/-- Part 194 keeps what the body holds. -/
theorem keeps194 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27} :
    Keeps D c none J (k0_part194 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27) fun _ => True := by
  unfold k0_part194
  refine .bind' (.load H.l14) fun _ => ?_
  refine .bind' (.store H.o14) fun _ => ?_
  refine .bind' (.load H.l7) fun _ => ?_
  refine .bind' (.load H.l15) fun _ => ?_
  exact .pure trivial

/-- Part 195 keeps what the body holds. -/
theorem keeps195 (H : Mem D c J a2 a3 a4 a5 a6 a7 a8 a9 a10 a11 a12 a13 a14 a15 a16 a17 a18 a19) {x1 x2 x3} :
    Keeps D c none J (k0_part195 i a2 h2 a3 h3 a4 h4 a5 h5 a6 h6 a7 h7 a8 h8 a9 h9 a10 h10 a11 h11 a12 h12 a13 h13 a14 h14 a15 h15 a16 h16 a17 h17 a18 h18 a19 h19 x1 x2 x3) fun _ => True := by
  unfold k0_part195
  refine .bind' (.load H.l15) fun _ => ?_
  refine .bind' (.store H.o15) fun _ => ?_
  refine .bind' (.load H.l16) fun _ => ?_
  refine .bind' (.load H.l16) fun _ => ?_
  refine .bind' (.store H.o16) fun _ => ?_
  refine .bind' (.load H.l18) fun _ => ?_
  refine .bind' (.load H.l14) fun _ => ?_
  exact .pure trivial

/-- Part 196 keeps what the body holds. -/
theorem keeps196 (H : Mem D c J a2 a3 a4 a5 a6 a7 a8 a9 a10 a11 a12 a13 a14 a15 a16 a17 a18 a19) {x1 x2 x3 x4 x5 x6 x7 x8 x9 x10 x11 x12 x13 x14 x15 x16 x17 x18 x19 x20 x21 x22 x23 x24 x25 x26 x27 x28 x29 x30 x31 x32 x33 x34} :
    Keeps D c none J (k0_part196 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19 x20 x21 x22 x23 x24 x25 x26 x27 x28 x29 x30 x31 x32 x33 x34) fun _ => True := by
  unfold k0_part196
  refine .bind' (.load H.l14) fun _ => ?_
  refine .bind' (.store H.o14) fun _ => ?_
  refine .bind' (.load H.l18) fun _ => ?_
  refine .bind' (.load H.l14) fun _ => ?_
  exact .pure trivial

/-- Part 197 keeps what the body holds. -/
theorem keeps197 (H : Mem D c J a2 a3 a4 a5 a6 a7 a8 a9 a10 a11 a12 a13 a14 a15 a16 a17 a18 a19) {x1} :
    Keeps D c none J (k0_part197 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part197
  exact .pure trivial

/-- Part 198 keeps what the body holds. -/
theorem keeps198 (H : Mem D c J a2 a3 a4 a5 a6 a7 a8 a9 a10 a11 a12 a13 a14 a15 a16 a17 a18 a19) {x1 x2 x3 x4 x5 x6 x7 x8 x9 x10} :
    Keeps D c none J (k0_part198 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10) fun _ => True := by
  unfold k0_part198
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  refine .bind' (.load H.l16) fun _ => ?_
  refine .bind' (.load H.l16) fun _ => ?_
  exact .pure trivial

/-- Part 199 keeps what the body holds. -/
theorem keeps199 (H : Mem D c J a2 a3 a4 a5 a6 a7 a8 a9 a10 a11 a12 a13 a14 a15 a16 a17 a18 a19) {x1} :
    Keeps D c none J (k0_part199 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part199
  refine .bind' (.store H.o16) fun _ => ?_
  refine .bind' (.load H.l18) fun _ => ?_
  refine .bind' (.load H.l14) fun _ => ?_
  exact .pure trivial

/-- Part 200 keeps what the body holds. -/
theorem keeps200 (H : Mem D c J a2 a3 a4 a5 a6 a7 a8 a9 a10 a11 a12 a13 a14 a15 a16 a17 a18 a19) {x1 x2 x3 x4 x5 x6 x7 x8 x9 x10 x11 x12 x13 x14 x15 x16 x17} :
    Keeps D c none J (k0_part200 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17) fun _ => True := by
  unfold k0_part200
  refine .bind' (.load H.l14) fun _ => ?_
  refine .bind' (.store H.o14) fun _ => ?_
  refine .bind' (.load H.l18) fun _ => ?_
  refine .bind' (.load H.l14) fun _ => ?_
  exact .pure trivial

/-- Part 201 keeps what the body holds. -/
theorem keeps201 (H : Mem D c J a2 a3 a4 a5 a6 a7 a8 a9 a10 a11 a12 a13 a14 a15 a16 a17 a18 a19) {x1 x2 x3 x4 x5 x6 x7 x8 x9 x10 x11 x12 x13 x14 x15 x16 x17 x18 x19} :
    Keeps D c none J (k0_part201 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6 x7 x8 x9 x10 x11 x12 x13 x14 x15 x16 x17 x18 x19) fun _ => True := by
  unfold k0_part201
  exact .pure trivial

/-- Part 202 keeps what the body holds. -/
theorem keeps202 (H : Mem D c J a2 a3 a4 a5 a6 a7 a8 a9 a10 a11 a12 a13 a14 a15 a16 a17 a18 a19) {x1 x2} :
    Keeps D c none J (k0_part202 i a2 h2 a3 h3 a4 h4 a5 h5 a6 h6 a7 h7 a8 h8 a9 h9 a10 h10 a11 h11 a12 h12 a13 h13 a14 h14 a15 h15 a16 h16 a17 h17 a18 h18 a19 h19 x1 x2) fun _ => True := by
  unfold k0_part202
  refine .bind' (keeps173 H) fun _ => ?_
  refine .bind' (keeps174 H) fun _ => ?_
  refine .bind' (keeps175 H) fun _ => ?_
  refine .bind' (keeps176 H) fun _ => ?_
  refine .bind' (keeps177 H) fun _ => ?_
  refine .bind' (keeps178 H) fun _ => ?_
  refine .bind' (keeps179 H) fun _ => ?_
  refine .bind' (keeps180 H) fun _ => ?_
  refine .bind' (keeps181 H) fun _ => ?_
  refine .bind' (keeps182 H) fun _ => ?_
  refine .bind' (keeps183 H) fun _ => ?_
  refine .bind' (keeps184 H) fun _ => ?_
  refine .bind' (keeps185 H) fun _ => ?_
  refine .bind' (keeps186 H) fun _ => ?_
  refine .bind' (keeps187 H) fun _ => ?_
  refine .bind' (keeps188 H) fun _ => ?_
  refine .bind' (keeps189 H) fun _ => ?_
  refine .bind' (keeps190 H) fun _ => ?_
  refine .bind' (keeps191 H) fun _ => ?_
  refine .bind' (keeps192 H) fun _ => ?_
  refine .bind' (keeps193 H) fun _ => ?_
  refine .bind' (keeps194 H) fun _ => ?_
  refine .bind' (keeps195 H) fun _ => ?_
  refine .bind' (keeps196 H) fun _ => ?_
  refine .bind' (keeps197 H) fun _ => ?_
  refine .bind' (keeps198 H) fun _ => ?_
  refine .bind' (keeps199 H) fun _ => ?_
  refine .bind' (keeps200 H) fun _ => ?_
  refine .bind' (keeps201 H) fun _ => ?_
  refine .bind' (.load H.l14) fun _ => ?_
  refine .bind' (.store H.o14) fun _ => ?_
  refine .bind' (.load H.l7) fun _ => ?_
  refine .bind' (.load H.l15) fun _ => ?_
  refine .bind' (.load H.l15) fun _ => ?_
  refine .bind' (.store H.o15) fun _ => ?_
  exact .pure trivial

/-- Part 218 keeps what the body holds. -/
theorem keeps218 (H : Mem D c J a2 a3 a4 a5 a6 a7 a8 a9 a10 a11 a12 a13 a14 a15 a16 a17 a18 a19) {x1 x2 x3 x4 x5 x6} :
    Keeps D c none J (k0_part218 i a2 h2 a3 h3 a4 h4 a5 h5 a6 h6 a7 h7 a8 h8 a9 h9 a10 h10 a11 h11 a12 h12 a13 h13 a14 h14 a15 h15 a16 h16 a17 h17 a18 h18 a19 h19 x1 x2 x3 x4 x5 x6) fun _ => True := by
  unfold k0_part218
  refine .bind' (.load H.l11) fun _ => ?_
  refine .bind' (.load H.l18) fun _ => ?_
  refine .bind' (.store H.o18) fun _ => ?_
  refine .bind' (.loop fun _ _ => ?_) fun _ => ?_
  · refine .bind' (keeps104 H) fun _ => ?_
    refine .bind' (keeps97 H) fun _ => ?_
    refine .bind' (keeps98 H) fun _ => ?_
    refine .bind' (keeps99 H) fun _ => ?_
    refine .bind' (keeps100 H) fun _ => ?_
    refine .bind' (keeps101 H) fun _ => ?_
    refine .bind' (keeps102 H) fun _ => ?_
    refine .bind' (keeps103 H) fun _ => ?_
    refine .bind' (.load H.l16) fun _ => ?_
    refine .bind' (.store H.o16) fun _ => ?_
    exact .pure trivial
  refine .bind' (.loop fun _ _ => ?_) fun _ => ?_
  · refine .bind' (keeps172 H) fun _ => ?_
    refine .bind' (keeps165 H) fun _ => ?_
    refine .bind' (keeps166 H) fun _ => ?_
    refine .bind' (keeps167 H) fun _ => ?_
    refine .bind' (keeps168 H) fun _ => ?_
    refine .bind' (keeps169 H) fun _ => ?_
    refine .bind' (keeps170 H) fun _ => ?_
    refine .bind' (keeps171 H) fun _ => ?_
    refine .bind' (.load H.l16) fun _ => ?_
    refine .bind' (.store H.o16) fun _ => ?_
    exact .pure trivial
  refine .dite (fun _ => ?_) fun _ => ?_
  · refine .bind' (keeps202 H) fun _ => ?_
    refine .bind' (.load H.l16) fun _ => ?_
    refine .bind' (.load H.l16) fun _ => ?_
    refine .bind' (.store H.o16) fun _ => ?_
    refine .bind' (.load H.l16) fun _ => ?_
    refine .bind' (.load H.l15) fun _ => ?_
    refine .bind' (.load H.l16) fun _ => ?_
    refine .bind' (.store H.o16) fun _ => ?_
    refine .bind' (.load H.l16) fun _ => ?_
    refine .bind' (.load H.l15) fun _ => ?_
    refine .bind' (.load H.l16) fun _ => ?_
    exact .pure trivial
  · refine .bind' (.load H.l16) fun _ => ?_
    refine .bind' (.load H.l15) fun _ => ?_
    refine .bind' (.load H.l16) fun _ => ?_
    refine .bind' (.store H.o16) fun _ => ?_
    refine .bind' (.load H.l16) fun _ => ?_
    refine .bind' (.load H.l15) fun _ => ?_
    refine .bind' (.load H.l16) fun _ => ?_
    exact .pure trivial

/-- Part 219 keeps what the body holds. -/
theorem keeps219 (H : Mem D c J a2 a3 a4 a5 a6 a7 a8 a9 a10 a11 a12 a13 a14 a15 a16 a17 a18 a19) {x1} :
    Keeps D c none J (k0_part219 i a2 h2 a3 h3 a4 h4 a5 h5 a6 h6 a7 h7 a8 h8 a9 h9 a10 h10 a11 h11 a12 h12 a13 h13 a14 h14 a15 h15 a16 h16 a17 h17 a18 h18 a19 h19 x1) fun _ => True := by
  unfold k0_part219
  refine .bind' (.store H.o16) fun _ => ?_
  refine .bind' (.load H.l16) fun _ => ?_
  refine .bind' (.load H.l15) fun _ => ?_
  refine .bind' (.load H.l16) fun _ => ?_
  refine .bind' (.store H.o16) fun _ => ?_
  refine .bind' (.load H.l16) fun _ => ?_
  refine .bind' (.load H.l15) fun _ => ?_
  refine .bind' (.load H.l16) fun _ => ?_
  refine .bind' (.store H.o16) fun _ => ?_
  refine .bind' (.load H.l16) fun _ => ?_
  refine .bind' (.load H.l15) fun _ => ?_
  refine .bind' (.load H.l16) fun _ => ?_
  refine .bind' (.store H.o16) fun _ => ?_
  refine .bind' (.load H.l16) fun _ => ?_
  refine .bind' (.load H.l15) fun _ => ?_
  exact .pure trivial

/-- Part 220 keeps what the body holds. -/
theorem keeps220 (H : Mem D c J a2 a3 a4 a5 a6 a7 a8 a9 a10 a11 a12 a13 a14 a15 a16 a17 a18 a19) :
    Keeps D c none J (k0_part220 i a2 h2 a3 h3 a4 h4 a5 h5 a6 h6 a7 h7 a8 h8 a9 h9 a10 h10 a11 h11 a12 h12 a13 h13 a14 h14 a15 h15 a16 h16 a17 h17 a18 h18 a19 h19) fun _ => True := by
  unfold k0_part220
  refine .bind' (keeps203 H) fun _ => ?_
  refine .bind' (keeps204 H) fun _ => ?_
  refine .bind' (keeps205 H) fun _ => ?_
  refine .bind' (keeps206 H) fun _ => ?_
  refine .bind' (keeps207 H) fun _ => ?_
  refine .bind' (keeps208 H) fun _ => ?_
  refine .bind' (keeps209 H) fun _ => ?_
  refine .bind' (keeps210 H) fun _ => ?_
  refine .bind' (keeps211 H) fun _ => ?_
  refine .bind' (keeps212 H) fun _ => ?_
  refine .bind' (keeps213 H) fun _ => ?_
  refine .bind' (keeps214 H) fun _ => ?_
  refine .bind' (keeps215 H) fun _ => ?_
  refine .bind' (keeps216 H) fun _ => ?_
  refine .bind' (keeps217 H) fun _ => ?_
  refine .bind' (keeps218 H) fun _ => ?_
  refine .bind' (keeps219 H) fun _ => ?_
  refine .bind' (.load H.l16) fun _ => ?_
  refine .bind' (.store H.o16) fun _ => ?_
  refine .bind' (.load H.l16) fun _ => ?_
  refine .bind' (.load H.l15) fun _ => ?_
  refine .bind' (.load H.l16) fun _ => ?_
  refine .bind' (.store H.o16) fun _ => ?_
  refine .bind' (.load H.l16) fun _ => ?_
  refine .bind' (.load H.l15) fun _ => ?_
  refine .bind' (.load H.l16) fun _ => ?_
  refine .bind' (.store H.o16) fun _ => ?_
  refine .bind' (.load H.l16) fun _ => ?_
  exact .pure trivial

/-- The whole body keeps what the body holds. -/
theorem keeps_body (H : Mem D c J a2 a3 a4 a5 a6 a7 a8 a9 a10 a11 a12 a13 a14 a15 a16 a17 a18 a19) :
    Keeps D c none J (cc0_dsa i a2 h2 a3 h3 a4 h4 a5 h5 a6 h6 a7 h7 a8 h8 a9 h9 a10 h10 a11 h11 a12 h12 a13 h13 a14 h14 a15 h15 a16 h16 a17 h17 a18 h18 a19 h19) fun _ => True := by
  unfold cc0_dsa
  refine .bind' (keeps220 H) fun _ => ?_
  refine .bind' (.load H.l8) fun _ => ?_
  refine .bind' (.load H.l9) fun _ => ?_
  refine .bind' (.store H.o9) fun _ => ?_
  exact .pure trivial

end Cert.AttnBody
-- ==== Proof.AttnWhile.lean ====
/-
The loop that searches the threshold: each turn advances its counter by two and it stops at 272, so it ends, and what the body holds is
kept.
-/
module

public import proofs.«01_k».proof.Proof.AttnBand

@[expose] public section

namespace Cert.AttnBody

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attention Cert.Attention.Gen Cert.Keeps

variable {F : FTy → Type} [BitOps F]
variable {c : Dev nD} {J : sProp (MT nD τ sig Unit (Elt F) ℕ (UR sig nD τ) ℕ)}
variable {i : grid0.Coords} {a10 : Memref sig .tc .vmem S17x256x256 .f32} {h10 : a10.IsWhole}

/-- The condition of the loop holds only below 272. -/
theorem lt_of_cond {a : BitVec 32} {b : BitVec 1} (h : Scalar.andi (Scalar.cmpi .slt a 272#32) b = 1#1) : a.toInt < 272 := by
  by_contra hn
  have h0 : Scalar.cmpi .slt a 272#32 = 0#1 := by
    have : a.slt 272#32 = false := by
      simp only [BitVec.slt, decide_eq_false_iff_not, show (272#32 : BitVec 32).toInt = 272 from by decide]
      exact hn
    simp [Scalar.cmpi, IntOp.cmpi, this]
  rw [h0] at h
  simp [Scalar.andi, IntOp.andi] at h

/-- Below 272 two steps of the counter bring it two nearer. -/
theorem step_two {a : BitVec 32} (h : a.toInt < 272) : (Scalar.addi (Scalar.addi a 1#32) 1#32).toInt = a.toInt + 2 := by
  have e : Scalar.addi (Scalar.addi a 1#32) 1#32 = a + 2#32 := by
    unfold Scalar.addi IntOp.addi; rw [BitVec.add_assoc]; rfl
  rw [e, BitVec.toInt_add, show (2#32 : BitVec 32).toInt = 2 from by decide]
  have := BitVec.le_toInt a
  rw [Int.bmod_eq_of_le] <;> omega

/-- The row of the loop in the table of bodies. -/
theorem while_row (v : IVec S1x256 1) (x0 : BitVec 32) (x1 x2 : IVec S1x256 32) (x3 x4 : FVec F S1x256 .f32) :
    defs₀ (F := F) .tc (1 : (Λ₀ F).Label) ⟨i, v, a10, h10, x0, x1, x2, x3, x4⟩ = cc0_while1 i v a10 h10 x0 x1 x2 x3 x4 := by
  unfold defs₀; rw [Defs.onTc_tc]

/-- The loop from any counter keeps what the body holds, its distance from 272 as the bound on the turns. -/
theorem keeps_while (H : Lends c J a10) (v : IVec S1x256 1) (n : ℕ) : ∀ (x0 : BitVec 32) (x1 x2 : IVec S1x256 32) (x3 x4 : FVec F S1x256 .f32),
    (272 - x0.toInt).toNat ≤ n → Keeps defs₀ c (some n) J (cc0_while1 i v a10 h10 x0 x1 x2 x3 x4) fun _ => True := by
  induction n with
  | zero =>
    intro x0 x1 x2 x3 x4 hn
    unfold cc0_while1
    refine .ite (fun _ => ?_) fun _ => ?_
    all_goals
      refine .ite (fun hc => ?_) fun _ => .pure trivial
      have := lt_of_cond hc
      omega
  | succ n ih =>
    intro x0 x1 x2 x3 x4 hn
    have hcall : x0.toInt < 272 → ∀ (y1 y2 : IVec S1x256 32) (y3 y4 : FVec F S1x256 .f32),
        Keeps defs₀ c (some (n + 1)) J (Prog.lift (.call (1 : (Λ₀ F).Label)
          ⟨i, v, a10, h10, Scalar.addi (Scalar.addi x0 1#32) 1#32, y1, y2, y3, y4⟩)) fun _ => True := by
      intro hl y1 y2 y3 y4
      refine .call n (by simp) ?_
      rw [while_row]
      exact ih _ _ _ _ _ (by rw [step_two hl]; omega)
    unfold cc0_while1
    refine .ite (fun _ => ?_) fun _ => ?_
    all_goals
      refine .ite (fun hc => ?_) fun _ => .pure trivial
      have hk := hcall (lt_of_cond hc)
      refine .ite (fun _ => ?_) fun _ => ?_
      on_goal 1 => refine .bind' (keeps233 H) fun _ => ?_
      on_goal 2 =>
        refine .bind' (keeps236 H) fun _ => ?_
        refine .bind' (keeps237 H) fun _ => ?_
        refine .bind' (.loop fun _ _ => .bind' (keeps234 H) fun _ => .pure trivial) fun _ => ?_
        refine .bind' (.loop fun _ _ => .bind' (keeps235 H) fun _ => .pure trivial) fun _ => ?_
      all_goals
        refine .ite (fun _ => ?_) fun _ => ?_
        · refine .bind' (keeps250 H) fun _ => ?_
          exact hk _ _ _ _
        · refine .bind' (keeps253 H) fun _ => ?_
          refine .bind' (keeps254 H) fun _ => ?_
          refine .bind' (.loop fun _ _ => .bind' (keeps251 H) fun _ => .pure trivial) fun _ => ?_
          refine .bind' (.loop fun _ _ => .bind' (keeps252 H) fun _ => .pure trivial) fun _ => ?_
          exact hk _ _ _ _

/-- A call of the loop keeps what the body holds. -/
theorem keeps_call (H : Lends c J a10) (v : IVec S1x256 1) (x0 : BitVec 32) (x1 x2 : IVec S1x256 32) (x3 x4 : FVec F S1x256 .f32) :
    Keeps defs₀ c none J (Prog.lift (.call (1 : (Λ₀ F).Label) ⟨i, v, a10, h10, x0, x1, x2, x3, x4⟩)) fun _ => True := by
  refine .call (272 - x0.toInt).toNat (by simp) ?_
  rw [while_row]
  exact keeps_while H v _ _ _ _ _ _ le_rfl

end Cert.AttnBody
-- ==== Proof.AttnFrame.lean ====
/-
The frame of the attention call: the launch ends, its argument arrays are unchanged and every semaphore counter reads zero
again. What the body leaves in the output block is not named.
-/
module

public import proofs.«01_k».proof.Proof.AttnPartsB
public import proofs.«01_k».proof.Proof.AttnWhile
public import proofs.«01_k».proof.Proof.Gen.Attention.Launch
public import proofs.«01_k».proof.Proof.Gen.Attention.Points
public import Idealize.ShloMosaic.Lib.Pipeline.FrameBody
public import Idealize.ShloMosaic.Lib.Claim

@[expose] public section

set_option maxRecDepth 16384

noncomputable section

namespace Cert.AttnFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attention Cert.Attention.Gen Cert.Keeps Cert.AttnBody

variable {F : FTy → Type} [BitOps F]

/-! ## Lending and owning beside other things -/

section Beside

variable {c : Dev nD} {J K : sProp (MT nD τ sig Unit (Elt F) ℕ (UR sig nD τ) ℕ)} {sp : Space} {s : Shape} {e : EltTy} {m : Memref sig .tc sp s e}

/-- What is lent by the first of two things. -/
theorem lends_left (h : Lends c J m) : Lends c iprop(J ∗ K) m := by
  refine ⟨BIBase.Entails.trans (sep_mono_left h.out) ?_⟩
  iintro ⟨⟨%f, H, W⟩, HK⟩
  iexists f
  isplitl [H]; · iexact H
  iintro H
  isplitl [H W]
  · iapply W; iexact H
  iexact HK

/-- What is lent by the second of two things. -/
theorem lends_right (h : Lends c J m) : Lends c iprop(K ∗ J) m := by
  refine ⟨BIBase.Entails.trans (sep_mono_right h.out) ?_⟩
  iintro ⟨HK, ⟨%f, H, W⟩⟩
  iexists f
  isplitl [H]; · iexact H
  iintro H
  isplitl [HK]; · iexact HK
  iapply W; iexact H

/-- What is owned by the first of two things. -/
theorem owns_left (h : Owns c J m) : Owns c iprop(J ∗ K) m := by
  refine ⟨BIBase.Entails.trans (sep_mono_left h.out) ?_⟩
  iintro ⟨⟨%f, H, W⟩, HK⟩
  iexists f
  isplitl [H]; · iexact H
  iintro %g H
  isplitl [H W]
  · iapply W; iexact H
  iexact HK

/-- What is owned by the second of two things. -/
theorem owns_right (h : Owns c J m) : Owns c iprop(K ∗ J) m := by
  refine ⟨BIBase.Entails.trans (sep_mono_right h.out) ?_⟩
  iintro ⟨HK, ⟨%f, H, W⟩⟩
  iexists f
  isplitl [H]; · iexact H
  iintro %g H
  isplitl [HK]; · iexact HK
  iapply W; iexact H

/-- A memref at known contents is lent for reading. -/
theorem lends_owns (X : s.Idx → Elt F e) : Lends c (owns (c : Thread nD τ) m fullShare X : sProp (MT nD τ sig Unit (Elt F) ℕ (UR sig nD τ) ℕ)) m := by
  constructor
  unfold owns
  iintro ⟨%f, %hf, H⟩
  iexists f
  isplitl [H]; · iexact H
  iintro H
  iexists f
  isplitr
  · ipureintro; exact hf
  iexact H

/-- A memref at some contents is owned. -/
theorem owns_some : Owns c (iprop(∃ X, owns (c : Thread nD τ) m fullShare X) : sProp (MT nD τ sig Unit (Elt F) ℕ (UR sig nD τ) ℕ)) m := by
  constructor
  unfold owns
  iintro ⟨%X, %f, -, H⟩
  iexists f
  isplitl [H]; · iexact H
  iintro %g H
  iexists _
  iexists g
  isplitr
  · ipureintro; rfl
  iexact H

/-- A whole buffer at some contents is owned. -/
theorem owns_buffer (b : Ref sig .tc) :
    Owns c (iprop(∃ f : Buf (Elt F) ((c : Thread nD τ).loc b), ((c : Thread nD τ).loc b) ↦{fullShare} f) : sProp (MT nD τ sig Unit (Elt F) ℕ (UR sig nD τ) ℕ)) (Memref.whole b) := by
  constructor
  simp only [Memref.view_whole, View.set_whole]
  iintro ⟨%f, H⟩
  iexists f
  isplitl [H]; · iexact H
  iintro %g H
  iexists g
  iexact H

end Beside

/-! ## What one run of the body holds -/

/-- The input blocks at known contents, the output block and the scratch at some. -/
def hold (c : Dev nD) (a2 : Memref sig .tc .vmem S1x512x256 .bf16) (a3 : Memref sig .tc .vmem S1x512x256 .bf16) (a4 : Memref sig .tc .vmem S1x8x256 .f32) (a5 : Memref sig .tc .vmem S1x4352x512 .bf16) (a6 : Memref sig .tc .vmem S1x4352x128 .bf16) (a7 : Memref sig .tc .vmem S1x17x8x80x256 .bf16) (a8 : Memref sig .tc .vmem S1x256x512 .f32) (a9 : Memref sig .tc .vmem S1x256x512 .bf16)
    (x2 : Vec F S1x512x256 .bf16) (x3 : Vec F S1x512x256 .bf16) (x4 : Vec F S1x8x256 .f32) (x5 : Vec F S1x4352x512 .bf16) (x6 : Vec F S1x4352x128 .bf16) (x7 : Vec F S1x17x8x80x256 .bf16) (x8 : Vec F S1x256x512 .f32) : sProp (MT nD τ sig Unit (Elt F) ℕ (UR sig nD τ) ℕ) :=
  iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ X, owns (c : Thread nD τ) a9 fullShare X) ∗ (Pipeline.scopedRest (Ix := Unit) (Name := ℕ) (U := UR sig nD τ) (Lvl := ℕ) (Val := Elt F) spec0 c))

/-- It is what the body works on. -/
theorem mem_hold (c : Dev nD) (a2 : Memref sig .tc .vmem S1x512x256 .bf16) (a3 : Memref sig .tc .vmem S1x512x256 .bf16) (a4 : Memref sig .tc .vmem S1x8x256 .f32) (a5 : Memref sig .tc .vmem S1x4352x512 .bf16) (a6 : Memref sig .tc .vmem S1x4352x128 .bf16) (a7 : Memref sig .tc .vmem S1x17x8x80x256 .bf16) (a8 : Memref sig .tc .vmem S1x256x512 .f32) (a9 : Memref sig .tc .vmem S1x256x512 .bf16)
    (x2 : Vec F S1x512x256 .bf16) (x3 : Vec F S1x512x256 .bf16) (x4 : Vec F S1x8x256 .f32) (x5 : Vec F S1x4352x512 .bf16) (x6 : Vec F S1x4352x128 .bf16) (x7 : Vec F S1x17x8x80x256 .bf16) (x8 : Vec F S1x256x512 .f32) :
    Mem (defs₀ (F := F)) c (hold c a2 a3 a4 a5 a6 a7 a8 a9 x2 x3 x4 x5 x6 x7 x8) a2 a3 a4 a5 a6 a7 a8 a9 (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) := by
  unfold hold
  rw [scopedRest0_eq]
  exact {
    l2 := (lends_left (lends_owns _))
    l3 := (lends_right (lends_left (lends_owns _)))
    l4 := (lends_right (lends_right (lends_left (lends_owns _))))
    l5 := (lends_right (lends_right (lends_right (lends_left (lends_owns _)))))
    l6 := (lends_right (lends_right (lends_right (lends_right (lends_left (lends_owns _))))))
    l7 := (lends_right (lends_right (lends_right (lends_right (lends_right (lends_left (lends_owns _)))))))
    l8 := (lends_right (lends_right (lends_right (lends_right (lends_right (lends_right (lends_left (lends_owns _))))))))
    o9 := (owns_right (owns_right (owns_right (owns_right (owns_right (owns_right (owns_right (owns_left owns_some))))))))
    o10 := (owns_right (owns_right (owns_right (owns_right (owns_right (owns_right (owns_right (owns_right (owns_left (owns_buffer _))))))))))
    o11 := (owns_right (owns_right (owns_right (owns_right (owns_right (owns_right (owns_right (owns_right (owns_right (owns_left (owns_buffer _)))))))))))
    o12 := (owns_right (owns_right (owns_right (owns_right (owns_right (owns_right (owns_right (owns_right (owns_right (owns_right (owns_left (owns_buffer _))))))))))))
    o13 := (owns_right (owns_right (owns_right (owns_right (owns_right (owns_right (owns_right (owns_right (owns_right (owns_right (owns_right (owns_left (owns_buffer _)))))))))))))
    o14 := (owns_right (owns_right (owns_right (owns_right (owns_right (owns_right (owns_right (owns_right (owns_right (owns_right (owns_right (owns_right (owns_left (owns_buffer _))))))))))))))
    o15 := (owns_right (owns_right (owns_right (owns_right (owns_right (owns_right (owns_right (owns_right (owns_right (owns_right (owns_right (owns_right (owns_right (owns_left (owns_buffer _)))))))))))))))
    o16 := (owns_right (owns_right (owns_right (owns_right (owns_right (owns_right (owns_right (owns_right (owns_right (owns_right (owns_right (owns_right (owns_right (owns_right (owns_left (owns_buffer _))))))))))))))))
    o17 := (owns_right (owns_right (owns_right (owns_right (owns_right (owns_right (owns_right (owns_right (owns_right (owns_right (owns_right (owns_right (owns_right (owns_right (owns_right (owns_left (owns_buffer _)))))))))))))))))
    o18 := (owns_right (owns_right (owns_right (owns_right (owns_right (owns_right (owns_right (owns_right (owns_right (owns_right (owns_right (owns_right (owns_right (owns_right (owns_right (owns_right (owns_left (owns_buffer _))))))))))))))))))
    o19 := (owns_right (owns_right (owns_right (owns_right (owns_right (owns_right (owns_right (owns_right (owns_right (owns_right (owns_right (owns_right (owns_right (owns_right (owns_right (owns_right (owns_right (owns_buffer _))))))))))))))))))
    call := fun i v h x0 x1 x2 x3 x4 => keeps_call (Owns.lends (owns_right (owns_right (owns_right (owns_right (owns_right (owns_right (owns_right (owns_right (owns_left (owns_buffer _))))))))))) v x0 x1 x2 x3 x4 }

/-! ## The pipeline's proof data -/

variable (m : (ℓ : Loc nD τ sig) → Buf (Elt F) ℓ) (ρ : Dev nD → PrngReg)

/-- A core's buffers when the region is entered: as launched, no operation coming before it. -/
abbrev V (c : Dev nD) (b : Ref sig .tc) : Buf (Elt F) ((c : Thread nD τ).loc b) := m ((c : Thread nD τ).loc b)

/-- A window's block at a point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The window whose contents are not named: the output. -/
def fgt (w : Fin (cfg0 (F := F)).W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

/-- The proof data: the arrays as launched, each input's buffer left at its block, the output's not named, the scratch and
    the generator register at anything. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed (cfg := cfg0 (F := F)) 7 t
  Φ _ := Pipeline.ΦA spec0 c
  q _ := fullShare
  owed _ := 0

/-- Its arrays are the launched ones. -/
theorem A_eq (c : Dev nD) (w : Fin (cfg0 (F := F)).W) : (dats m 0 c).A w = V m c (Pipeline.arrRef spec0 w) := by
  dsimp only [dats]

/-- Input 0 is left at its block. -/
theorem after0_0 (c : Dev nD) (t : Fin (cfg0 (F := F)).N) : (dats m 0 c).after 0 t = iblk m c 0 t := rfl

/-- Input 0 is found at its block. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Input 1 is left at its block. -/
theorem after0_1 (c : Dev nD) (t : Fin (cfg0 (F := F)).N) : (dats m 0 c).after 1 t = iblk m c 1 t := rfl

/-- Input 1 is found at its block. -/
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Input 2 is left at its block. -/
theorem after0_2 (c : Dev nD) (t : Fin (cfg0 (F := F)).N) : (dats m 0 c).after 2 t = iblk m c 2 t := rfl

/-- Input 2 is found at its block. -/
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Input 3 is left at its block. -/
theorem after0_3 (c : Dev nD) (t : Fin (cfg0 (F := F)).N) : (dats m 0 c).after 3 t = iblk m c 3 t := rfl

/-- Input 3 is found at its block. -/
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Input 4 is left at its block. -/
theorem after0_4 (c : Dev nD) (t : Fin (cfg0 (F := F)).N) : (dats m 0 c).after 4 t = iblk m c 4 t := rfl

/-- Input 4 is found at its block. -/
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-- Input 5 is left at its block. -/
theorem after0_5 (c : Dev nD) (t : Fin (cfg0 (F := F)).N) : (dats m 0 c).after 5 t = iblk m c 5 t := rfl

/-- Input 5 is found at its block. -/
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- Input 6 is left at its block. -/
theorem after0_6 (c : Dev nD) (t : Fin (cfg0 (F := F)).N) : (dats m 0 c).after 6 t = iblk m c 6 t := rfl

/-- Input 6 is found at its block. -/
theorem before0_6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-! ## The body at a point -/

/-- What the body is called with at a point. -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- What it returns. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The body keeps its blocks and scratch. -/
theorem keeps_at (c : Dev nD) (t : Fin (cfg0 (F := F)).N) (x2 : Vec F S1x512x256 .bf16) (x3 : Vec F S1x512x256 .bf16) (x4 : Vec F S1x8x256 .f32) (x5 : Vec F S1x4352x512 .bf16) (x6 : Vec F S1x4352x128 .bf16) (x7 : Vec F S1x17x8x80x256 .bf16) (x8 : Vec F S1x256x512 .f32) :
    Keeps (defs₀ (F := F)) c none (hold c (st0_0 t) (st0_1 t) (st0_2 t) (st0_3 t) (st0_4 t) (st0_5 t) (st0_6 t) (st0_7 t) x2 x3 x4 x5 x6 x7 x8) (bodyAt0 t) fun _ => True :=
  keeps_body (mem_hold c _ _ _ _ _ _ _ _ x2 x3 x4 x5 x6 x7 x8)

/-- The body at any point. -/
theorem sound_body (c : Dev nD) (t : Fin (cfg0 (F := F)).N) :
    bodyPre m c t ⊢ wp frame (wpE (Ix := Unit) (Name := ℕ) (U := UR sig nD τ) (Lvl := ℕ) (defs₀ (F := F)) Variants.nat (c : Thread nD τ) none) Set.univ (bodyAt0 t) (fun _ => bodyPost m c t) := by
  unfold bodyPre bodyPost
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl]
  have hk := (keeps_at c t (iblk m c 0 t) (iblk m c 1 t) (iblk m c 2 t) (iblk m c 3 t) (iblk m c 4 t) (iblk m c 5 t) (iblk m c 6 t)).out
  unfold hold at hk
  unfold Pipeline.ΦA bodyAt0
  iintro ⟨⟨HS, HP⟩, Ho, ⟨%d0, H0⟩, ⟨%d1, H1⟩, ⟨%d2, H2⟩, ⟨%d3, H3⟩, ⟨%d4, H4⟩, ⟨%d5, H5⟩, ⟨%d6, H6⟩, H7⟩
  iapply (wp_wand_r frame (wpE (Ix := Unit) (Name := ℕ) (U := UR sig nD τ) (Lvl := ℕ) (defs₀ (F := F)) Variants.nat (c : Thread nD τ) none) Set.univ)
  isplitl [HS H0 H1 H2 H3 H4 H5 H6 H7]
  · iapply hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iintro %_ ⟨-, H0, H1, H2, H3, H4, H5, H6, H7, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The launch -/

/-- The row of the definitions the pipeline calls at a point is the body there. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- What the pipeline asks of the body. -/
theorem body_obligation (c : Dev nD) :
    BodyObligation (dats (F := F) m 0 c) (defs₀ (F := F)) Variants.nat () Set.univ fgt := fun t => by
  rw [bigSep_W0, bigSep_W0, defs₀_row]
  exact triple_restated (sound_body m c t) rfl .rfl fun _ => .rfl

/-- The program is the one region. -/
theorem hmain : Pipeline.HMain (Ix := Unit) (Name := ℕ) (U := UR sig nD τ) (Lvl := ℕ) cfgs 0 defs₀ Variants.nat m (main (F := F)) (V m) :=
  Pipeline.hmain_region cfgs 0 defs₀ Variants.nat m main (fun c => main_chain c)

set_option backward.isDefEq.respectTransparency.types false in
set_option maxHeartbeats 800000 in
/-- The launch ends, with the inputs' arrays as launched and every counter at zero. -/
theorem run : θ_run defs (onTc (τ := τ) (main (F := F))) (s₀ m ρ)
    (fun r => Pipeline.RDat.FramePost (cfg0 (F := F)) (fun c => (dats m 0 c).toRForget fgt) (V m) r ∧ r.2.sem = fun _ => 0) :=
  Pipeline.θ_run_frame_forget (Q' := _) cfgs (dats m) (0 : Fin 1) launch0 defs₀ Variants.nat fgt m ρ main
    (hbody := fun c => (body_obligation m c).loose) (hshare := fun c => (dats m 0 c).share_full fun _ => rfl)
    (howed := fun _ _ => rfl) (V := V m) (hmain := hmain m) (hA := A_eq m) (hΦ := fun _ _ => rfl)

/-- The frame of the attention call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3),
      (Pipeline.RDat.FramePost.arr_in h.1 c 4 rfl).trans (A_eq m c 4),
      (Pipeline.RDat.FramePost.arr_in h.1 c 5 rfl).trans (A_eq m c 5),
      (Pipeline.RDat.FramePost.arr_in h.1 c 6 rfl).trans (A_eq m c 6)⟩, h.2⟩) (run m ρ)

end Cert.AttnFrame

end
-- ==== Proof.lean ====
/-
  The certificate: the claims of the input projection and of the output projection, and the frame of the attention call, put
  together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutReferenceIdeal
public import proofs.«01_k».proof.Proof.Gen.KernelIdeal.Value
public import proofs.«01_k».proof.Proof.Gen.OutProjIdeal.Value
public import proofs.«01_k».proof.Proof.Gen.ReferenceIdeal.Run
public import proofs.«01_k».proof.Proof.Gen.OutReferenceIdeal.Run
public import proofs.«01_k».proof.Proof.Gen.Attention
public import proofs.«01_k».proof.Proof.Gen.Attention.Launch
public import proofs.«01_k».proof.Proof.Gen.Attention.Points
public import proofs.«01_k».proof.Proof.InClaims
public import proofs.«01_k».proof.Proof.OutClaims
public import proofs.«01_k».proof.Proof.AttnFrame
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.OutProj.Gen.facts,
    Cert.OutProjIdeal.Gen.facts, Cert.OutReferenceIdeal.Gen.facts, Cert.Attention.Gen.facts,
    InClaims.frame_kernel, InClaims.frame_kernel_ideal, InClaims.frame_reference,
    OutClaims.frame_kernel, OutClaims.frame_kernel_ideal, OutClaims.frame_reference,
    fun m ρ _ => AttnFrame.frame m ρ,
    InClaims.preserves, InClaims.algebraic, OutClaims.preserves, OutClaims.algebraic⟩

end Cert.Proof

end
